-- ==== Defs.lean ====
def Pre_Row (m : (ℓ : Loc Cert.Row.nD Cert.Row.τ Cert.Row.sig) → Buf (Elt Bits) ℓ) : Prop :=
  True

def Pre_RowIdeal (m : (ℓ : Loc Cert.RowIdeal.nD Cert.RowIdeal.τ Cert.RowIdeal.sig) → Buf (Elt Ideal) ℓ) : Prop :=
  True

def Pre_RowIdeal_finite_inputs [hPre_finite_inputs : Cert.Pre_finite_inputs.Facts] (m : (ℓ : Loc Cert.RowIdeal.nD Cert.RowIdeal.τ Cert.RowIdeal.sig) → Buf (Elt Ideal) ℓ) : Prop :=
  ∀ c : Dev Cert.RowIdeal.nD,
    (Cert.Pre_finite_inputs.fn (F := Ideal) (m ((c.tc : Thread Cert.RowIdeal.nD Cert.RowIdeal.τ).loc Cert.RowIdeal.main_arg0)) (m ((c.tc : Thread Cert.RowIdeal.nD Cert.RowIdeal.τ).loc Cert.RowIdeal.main_arg1)) (m ((c.tc : Thread Cert.RowIdeal.nD Cert.RowIdeal.τ).loc Cert.RowIdeal.main_arg2)) (m ((c.tc : Thread Cert.RowIdeal.nD Cert.RowIdeal.τ).loc Cert.RowIdeal.main_arg3)) (m ((c.tc : Thread Cert.RowIdeal.nD Cert.RowIdeal.τ).loc Cert.RowIdeal.main_arg4)) (m ((c.tc : Thread Cert.RowIdeal.nD Cert.RowIdeal.τ).loc Cert.RowIdeal.main_arg5))).1 = (fun _ => 1#1)
    ∧ (Cert.Pre_finite_inputs.fn (F := Ideal) (m ((c.tc : Thread Cert.RowIdeal.nD Cert.RowIdeal.τ).loc Cert.RowIdeal.main_arg0)) (m ((c.tc : Thread Cert.RowIdeal.nD Cert.RowIdeal.τ).loc Cert.RowIdeal.main_arg1)) (m ((c.tc : Thread Cert.RowIdeal.nD Cert.RowIdeal.τ).loc Cert.RowIdeal.main_arg2)) (m ((c.tc : Thread Cert.RowIdeal.nD Cert.RowIdeal.τ).loc Cert.RowIdeal.main_arg3)) (m ((c.tc : Thread Cert.RowIdeal.nD Cert.RowIdeal.τ).loc Cert.RowIdeal.main_arg4)) (m ((c.tc : Thread Cert.RowIdeal.nD Cert.RowIdeal.τ).loc Cert.RowIdeal.main_arg5))).2 = (fun _ => 1#1)

def Pre_RowRefIdeal (m : (ℓ : Loc Cert.RowRefIdeal.nD Cert.RowRefIdeal.τ Cert.RowRefIdeal.sig) → Buf (Elt Ideal) ℓ) : Prop :=
  True

def Pre_RowRefIdeal_finite_inputs [hPre_finite_inputs : Cert.Pre_finite_inputs.Facts] (m : (ℓ : Loc Cert.RowRefIdeal.nD Cert.RowRefIdeal.τ Cert.RowRefIdeal.sig) → Buf (Elt Ideal) ℓ) : Prop :=
  ∀ c : Dev Cert.RowRefIdeal.nD,
    (Cert.Pre_finite_inputs.fn (F := Ideal) (m ((c.tc : Thread Cert.RowRefIdeal.nD Cert.RowRefIdeal.τ).loc Cert.RowRefIdeal.main_arg0)) (m ((c.tc : Thread Cert.RowRefIdeal.nD Cert.RowRefIdeal.τ).loc Cert.RowRefIdeal.main_arg1)) (m ((c.tc : Thread Cert.RowRefIdeal.nD Cert.RowRefIdeal.τ).loc Cert.RowRefIdeal.main_arg2)) (m ((c.tc : Thread Cert.RowRefIdeal.nD Cert.RowRefIdeal.τ).loc Cert.RowRefIdeal.main_arg3)) (m ((c.tc : Thread Cert.RowRefIdeal.nD Cert.RowRefIdeal.τ).loc Cert.RowRefIdeal.main_arg4)) (m ((c.tc : Thread Cert.RowRefIdeal.nD Cert.RowRefIdeal.τ).loc Cert.RowRefIdeal.main_arg5))).1 = (fun _ => 1#1)
    ∧ (Cert.Pre_finite_inputs.fn (F := Ideal) (m ((c.tc : Thread Cert.RowRefIdeal.nD Cert.RowRefIdeal.τ).loc Cert.RowRefIdeal.main_arg0)) (m ((c.tc : Thread Cert.RowRefIdeal.nD Cert.RowRefIdeal.τ).loc Cert.RowRefIdeal.main_arg1)) (m ((c.tc : Thread Cert.RowRefIdeal.nD Cert.RowRefIdeal.τ).loc Cert.RowRefIdeal.main_arg2)) (m ((c.tc : Thread Cert.RowRefIdeal.nD Cert.RowRefIdeal.τ).loc Cert.RowRefIdeal.main_arg3)) (m ((c.tc : Thread Cert.RowRefIdeal.nD Cert.RowRefIdeal.τ).loc Cert.RowRefIdeal.main_arg4)) (m ((c.tc : Thread Cert.RowRefIdeal.nD Cert.RowRefIdeal.τ).loc Cert.RowRefIdeal.main_arg5))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Row [hRow : Cert.Row.Facts] : Prop :=
  ∀ (m : (ℓ : Loc Cert.Row.nD Cert.Row.τ Cert.Row.sig) → Buf (Elt Bits) ℓ) (g : Dev Cert.Row.nD → PrngReg), Pre_Row m →
    θ_run (Cert.Row.defs (F := Bits)) (onTc (τ := Cert.Row.τ) (Cert.Row.main (F := Bits))) ⟨m, fun _ => 0, g⟩ (fun r => (∀ c : Dev Cert.Row.nD,
      r.2.mem ((c.tc : Thread Cert.Row.nD Cert.Row.τ).loc Cert.Row.main_arg0) = m ((c.tc : Thread Cert.Row.nD Cert.Row.τ).loc Cert.Row.main_arg0)
      ∧ r.2.mem ((c.tc : Thread Cert.Row.nD Cert.Row.τ).loc Cert.Row.main_arg1) = m ((c.tc : Thread Cert.Row.nD Cert.Row.τ).loc Cert.Row.main_arg1)
      ∧ r.2.mem ((c.tc : Thread Cert.Row.nD Cert.Row.τ).loc Cert.Row.main_arg2) = m ((c.tc : Thread Cert.Row.nD Cert.Row.τ).loc Cert.Row.main_arg2)
      ∧ r.2.mem ((c.tc : Thread Cert.Row.nD Cert.Row.τ).loc Cert.Row.main_arg3) = m ((c.tc : Thread Cert.Row.nD Cert.Row.τ).loc Cert.Row.main_arg3)
      ∧ r.2.mem ((c.tc : Thread Cert.Row.nD Cert.Row.τ).loc Cert.Row.main_arg4) = m ((c.tc : Thread Cert.Row.nD Cert.Row.τ).loc Cert.Row.main_arg4)
      ∧ r.2.mem ((c.tc : Thread Cert.Row.nD Cert.Row.τ).loc Cert.Row.main_arg5) = m ((c.tc : Thread Cert.Row.nD Cert.Row.τ).loc Cert.Row.main_arg5))
      ∧ r.2.sem = fun _ => 0)

def quiescent_RowIdeal [hRowIdeal : Cert.RowIdeal.Facts] : Prop :=
  ∀ (m : (ℓ : Loc Cert.RowIdeal.nD Cert.RowIdeal.τ Cert.RowIdeal.sig) → Buf (Elt Ideal) ℓ) (g : Dev Cert.RowIdeal.nD → PrngReg), Pre_RowIdeal m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
      ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
      ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
      ∧ r.2.mem ((c.tc : Thread Cert.RowIdeal.nD Cert.RowIdeal.τ).loc Cert.RowIdeal.main_arg5) = m ((c.tc : Thread Cert.RowIdeal.nD Cert.RowIdeal.τ).loc Cert.RowIdeal.main_arg5))
      ∧ r.2.sem = fun _ => 0)

def quiescent_RowIdeal_pre_finite_inputs [hRowIdeal : Cert.RowIdeal.Facts] [hPre_finite_inputs : Cert.Pre_finite_inputs.Facts] : Prop :=
  ∀ (m : (ℓ : Loc Cert.RowIdeal.nD Cert.RowIdeal.τ Cert.RowIdeal.sig) → Buf (Elt Ideal) ℓ) (g : Dev Cert.RowIdeal.nD → PrngReg), Pre_RowIdeal_finite_inputs m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
      ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
      ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
      ∧ r.2.mem ((c.tc : Thread Cert.RowIdeal.nD Cert.RowIdeal.τ).loc Cert.RowIdeal.main_arg5) = m ((c.tc : Thread Cert.RowIdeal.nD Cert.RowIdeal.τ).loc Cert.RowIdeal.main_arg5))
      ∧ r.2.sem = fun _ => 0)

def quiescent_RowRefIdeal [hRowRefIdeal : Cert.RowRefIdeal.Facts] : Prop :=
  ∀ (m : (ℓ : Loc Cert.RowRefIdeal.nD Cert.RowRefIdeal.τ Cert.RowRefIdeal.sig) → Buf (Elt Ideal) ℓ) (g : Dev Cert.RowRefIdeal.nD → PrngReg), Pre_RowRefIdeal m →
    θ_run (Cert.RowRefIdeal.defs (F := Ideal)) (onTc (τ := Cert.RowRefIdeal.τ) (Cert.RowRefIdeal.main (F := Ideal))) ⟨m, fun _ => 0, g⟩ (fun r => (∀ c : Dev Cert.RowRefIdeal.nD,
      r.2.mem ((c.tc : Thread Cert.RowRefIdeal.nD Cert.RowRefIdeal.τ).loc Cert.RowRefIdeal.main_arg0) = m ((c.tc : Thread Cert.RowRefIdeal.nD Cert.RowRefIdeal.τ).loc Cert.RowRefIdeal.main_arg0)
      ∧ r.2.mem ((c.tc : Thread Cert.RowRefIdeal.nD Cert.RowRefIdeal.τ).loc Cert.RowRefIdeal.main_arg1) = m ((c.tc : Thread Cert.RowRefIdeal.nD Cert.RowRefIdeal.τ).loc Cert.RowRefIdeal.main_arg1)
      ∧ r.2.mem ((c.tc : Thread Cert.RowRefIdeal.nD Cert.RowRefIdeal.τ).loc Cert.RowRefIdeal.main_arg2) = m ((c.tc : Thread Cert.RowRefIdeal.nD Cert.RowRefIdeal.τ).loc Cert.RowRefIdeal.main_arg2)
      ∧ r.2.mem ((c.tc : Thread Cert.RowRefIdeal.nD Cert.RowRefIdeal.τ).loc Cert.RowRefIdeal.main_arg3) = m ((c.tc : Thread Cert.RowRefIdeal.nD Cert.RowRefIdeal.τ).loc Cert.RowRefIdeal.main_arg3)
      ∧ r.2.mem ((c.tc : Thread Cert.RowRefIdeal.nD Cert.RowRefIdeal.τ).loc Cert.RowRefIdeal.main_arg4) = m ((c.tc : Thread Cert.RowRefIdeal.nD Cert.RowRefIdeal.τ).loc Cert.RowRefIdeal.main_arg4)
      ∧ r.2.mem ((c.tc : Thread Cert.RowRefIdeal.nD Cert.RowRefIdeal.τ).loc Cert.RowRefIdeal.main_arg5) = m ((c.tc : Thread Cert.RowRefIdeal.nD Cert.RowRefIdeal.τ).loc Cert.RowRefIdeal.main_arg5))
      ∧ r.2.sem = fun _ => 0)

def quiescent_RowRefIdeal_pre_finite_inputs [hRowRefIdeal : Cert.RowRefIdeal.Facts] [hPre_finite_inputs : Cert.Pre_finite_inputs.Facts] : Prop :=
  ∀ (m : (ℓ : Loc Cert.RowRefIdeal.nD Cert.RowRefIdeal.τ Cert.RowRefIdeal.sig) → Buf (Elt Ideal) ℓ) (g : Dev Cert.RowRefIdeal.nD → PrngReg), Pre_RowRefIdeal_finite_inputs m →
    θ_run (Cert.RowRefIdeal.defs (F := Ideal)) (onTc (τ := Cert.RowRefIdeal.τ) (Cert.RowRefIdeal.main (F := Ideal))) ⟨m, fun _ => 0, g⟩ (fun r => (∀ c : Dev Cert.RowRefIdeal.nD,
      r.2.mem ((c.tc : Thread Cert.RowRefIdeal.nD Cert.RowRefIdeal.τ).loc Cert.RowRefIdeal.main_arg0) = m ((c.tc : Thread Cert.RowRefIdeal.nD Cert.RowRefIdeal.τ).loc Cert.RowRefIdeal.main_arg0)
      ∧ r.2.mem ((c.tc : Thread Cert.RowRefIdeal.nD Cert.RowRefIdeal.τ).loc Cert.RowRefIdeal.main_arg1) = m ((c.tc : Thread Cert.RowRefIdeal.nD Cert.RowRefIdeal.τ).loc Cert.RowRefIdeal.main_arg1)
      ∧ r.2.mem ((c.tc : Thread Cert.RowRefIdeal.nD Cert.RowRefIdeal.τ).loc Cert.RowRefIdeal.main_arg2) = m ((c.tc : Thread Cert.RowRefIdeal.nD Cert.RowRefIdeal.τ).loc Cert.RowRefIdeal.main_arg2)
      ∧ r.2.mem ((c.tc : Thread Cert.RowRefIdeal.nD Cert.RowRefIdeal.τ).loc Cert.RowRefIdeal.main_arg3) = m ((c.tc : Thread Cert.RowRefIdeal.nD Cert.RowRefIdeal.τ).loc Cert.RowRefIdeal.main_arg3)
      ∧ r.2.mem ((c.tc : Thread Cert.RowRefIdeal.nD Cert.RowRefIdeal.τ).loc Cert.RowRefIdeal.main_arg4) = m ((c.tc : Thread Cert.RowRefIdeal.nD Cert.RowRefIdeal.τ).loc Cert.RowRefIdeal.main_arg4)
      ∧ r.2.mem ((c.tc : Thread Cert.RowRefIdeal.nD Cert.RowRefIdeal.τ).loc Cert.RowRefIdeal.main_arg5) = m ((c.tc : Thread Cert.RowRefIdeal.nD Cert.RowRefIdeal.τ).loc Cert.RowRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9))
      ∧ r.2.sem = fun _ => 0)

def preserves_Row_RowIdeal : Prop :=
  True

def algebraic_RowIdeal_RowRefIdeal_pre_finite_inputs [hRowIdeal : Cert.RowIdeal.Facts] [hRowRefIdeal : Cert.RowRefIdeal.Facts] [hPre_finite_inputs : Cert.Pre_finite_inputs.Facts] : Prop :=
  ∀ (m : (ℓ : Loc Cert.RowIdeal.nD Cert.RowIdeal.τ Cert.RowIdeal.sig) → Buf (Elt Ideal) ℓ) (g : Dev Cert.RowIdeal.nD → PrngReg)
    (m' : (ℓ : Loc Cert.RowRefIdeal.nD Cert.RowRefIdeal.τ Cert.RowRefIdeal.sig) → Buf (Elt Ideal) ℓ) (g' : Dev Cert.RowRefIdeal.nD → PrngReg), Pre_RowIdeal_finite_inputs m →
    (∀ c : Dev Cert.RowIdeal.nD,
      m' ((c.tc : Thread Cert.RowRefIdeal.nD Cert.RowRefIdeal.τ).loc Cert.RowRefIdeal.main_arg0) = m ((c.tc : Thread Cert.RowIdeal.nD Cert.RowIdeal.τ).loc Cert.RowIdeal.main_arg0)
      ∧ m' ((c.tc : Thread Cert.RowRefIdeal.nD Cert.RowRefIdeal.τ).loc Cert.RowRefIdeal.main_arg1) = m ((c.tc : Thread Cert.RowIdeal.nD Cert.RowIdeal.τ).loc Cert.RowIdeal.main_arg1)
      ∧ m' ((c.tc : Thread Cert.RowRefIdeal.nD Cert.RowRefIdeal.τ).loc Cert.RowRefIdeal.main_arg2) = m ((c.tc : Thread Cert.RowIdeal.nD Cert.RowIdeal.τ).loc Cert.RowIdeal.main_arg2)
      ∧ m' ((c.tc : Thread Cert.RowRefIdeal.nD Cert.RowRefIdeal.τ).loc Cert.RowRefIdeal.main_arg3) = m ((c.tc : Thread Cert.RowIdeal.nD Cert.RowIdeal.τ).loc Cert.RowIdeal.main_arg3)
      ∧ m' ((c.tc : Thread Cert.RowRefIdeal.nD Cert.RowRefIdeal.τ).loc Cert.RowRefIdeal.main_arg4) = m ((c.tc : Thread Cert.RowIdeal.nD Cert.RowIdeal.τ).loc Cert.RowIdeal.main_arg4)
      ∧ m' ((c.tc : Thread Cert.RowRefIdeal.nD Cert.RowRefIdeal.τ).loc Cert.RowRefIdeal.main_arg5) = m ((c.tc : Thread Cert.RowIdeal.nD Cert.RowIdeal.τ).loc Cert.RowIdeal.main_arg5)) →
    ∃ (v0 : (c : Dev Cert.RowIdeal.nD) → Buf (Elt Ideal) ((c.tc : Thread Cert.RowIdeal.nD Cert.RowIdeal.τ).loc Cert.RowIdeal.main_v0)),
      θ_run (Cert.RowIdeal.defs (F := Ideal)) (onTc (τ := Cert.RowIdeal.τ) (Cert.RowIdeal.main (F := Ideal))) ⟨m, fun _ => 0, g⟩ (fun r => ∀ c : Dev Cert.RowIdeal.nD,
          r.2.mem ((c.tc : Thread Cert.RowIdeal.nD Cert.RowIdeal.τ).loc Cert.RowIdeal.main_v0) = v0 c
          ∧ r.2.mem ((c.tc : Thread Cert.RowIdeal.nD Cert.RowIdeal.τ).loc Cert.RowIdeal.main_arg0) = m ((c.tc : Thread Cert.RowIdeal.nD Cert.RowIdeal.τ).loc Cert.RowIdeal.main_arg0)
          ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
          ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
          ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
          ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
          ∧ r.2.mem ((c.tc : Thread Cert.RowIdeal.nD Cert.RowIdeal.τ).loc Cert.RowIdeal.main_arg5) = m ((c.tc : Thread Cert.RowIdeal.nD Cert.RowIdeal.τ).loc Cert.RowIdeal.main_arg5))
      ∧ θ_run (Cert.RowRefIdeal.defs (F := Ideal)) (onTc (τ := Cert.RowRefIdeal.τ) (Cert.RowRefIdeal.main (F := Ideal))) ⟨m', fun _ => 0, g'⟩ (fun r => ∀ c : Dev Cert.RowRefIdeal.nD,
          r.2.mem ((c.tc : Thread Cert.RowRefIdeal.nD Cert.RowRefIdeal.τ).loc Cert.RowRefIdeal.main_v101) = v0 c
          ∧ r.2.mem ((c.tc : Thread Cert.RowRefIdeal.nD Cert.RowRefIdeal.τ).loc Cert.RowRefIdeal.main_arg0) = m' ((c.tc : Thread Cert.RowRefIdeal.nD Cert.RowRefIdeal.τ).loc Cert.RowRefIdeal.main_arg0)
          ∧ r.2.mem ((c.tc : Thread Cert.RowRefIdeal.nD Cert.RowRefIdeal.τ).loc Cert.RowRefIdeal.main_arg1) = m' ((c.tc : Thread Cert.RowRefIdeal.nD Cert.RowRefIdeal.τ).loc Cert.RowRefIdeal.main_arg1)
          ∧ r.2.mem ((c.tc : Thread Cert.RowRefIdeal.nD Cert.RowRefIdeal.τ).loc Cert.RowRefIdeal.main_arg2) = m' ((c.tc : Thread Cert.RowRefIdeal.nD Cert.RowRefIdeal.τ).loc Cert.RowRefIdeal.main_arg2)
          ∧ r.2.mem ((c.tc : Thread Cert.RowRefIdeal.nD Cert.RowRefIdeal.τ).loc Cert.RowRefIdeal.main_arg3) = m' ((c.tc : Thread Cert.RowRefIdeal.nD Cert.RowRefIdeal.τ).loc Cert.RowRefIdeal.main_arg3)
          ∧ r.2.mem ((c.tc : Thread Cert.RowRefIdeal.nD Cert.RowRefIdeal.τ).loc Cert.RowRefIdeal.main_arg4) = m' ((c.tc : Thread Cert.RowRefIdeal.nD Cert.RowRefIdeal.τ).loc Cert.RowRefIdeal.main_arg4)
          ∧ r.2.mem ((c.tc : Thread Cert.RowRefIdeal.nD Cert.RowRefIdeal.τ).loc Cert.RowRefIdeal.main_arg5) = m' ((c.tc : Thread Cert.RowRefIdeal.nD Cert.RowRefIdeal.τ).loc Cert.RowRefIdeal.main_arg5))

def preserves_Mlp_MlpIdeal : Prop :=
  True

def algebraic_MlpIdeal_MlpRefIdeal_on_first_layer [hMlpIdeal : Cert.MlpIdeal.Facts] [hMlpRefIdeal : Cert.MlpRefIdeal.Facts] [hOn_first_layer : Cert.On_first_layer.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v45_0)) (v1 : (c : Dev Cert.MlpIdeal.nD) → Buf (Elt Ideal) ((c.tc : Thread Cert.MlpIdeal.nD Cert.MlpIdeal.τ).loc Cert.MlpIdeal.main_v45_1)) (v2 : (c : Dev Cert.MlpIdeal.nD) → Buf (Elt Ideal) ((c.tc : Thread Cert.MlpIdeal.nD Cert.MlpIdeal.τ).loc Cert.MlpIdeal.main_v45_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          (∀ i : (⟨5, ![2, 3, 9, 192, 4608]⟩ : Shape).Idx, (Cert.On_first_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).1 i = 1#1 → r.2.mem ((c.tc : Thread Cert.MlpIdeal.nD Cert.MlpIdeal.τ).loc Cert.MlpIdeal.main_v45_0) i = v0 c i)
          ∧ (∀ i : (⟨4, ![3, 9, 192, 4608]⟩ : Shape).Idx, (Cert.On_first_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.1 i = 1#1 → r.2.mem ((c.tc : Thread Cert.MlpIdeal.nD Cert.MlpIdeal.τ).loc Cert.MlpIdeal.main_v45_1) i = v1 c i)
          ∧ (∀ i : (⟨4, ![3, 9, 768, 4608]⟩ : Shape).Idx, (Cert.On_first_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2 i = 1#1 → r.2.mem ((c.tc : Thread Cert.MlpIdeal.nD Cert.MlpIdeal.τ).loc Cert.MlpIdeal.main_v45_2) i = v2 c i)
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          (∀ i : (⟨5, ![2, 3, 9, 192, 4608]⟩ : Shape).Idx, (Cert.On_first_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).1 i = 1#1 → r.2.mem ((c.tc : Thread Cert.MlpRefIdeal.nD Cert.MlpRefIdeal.τ).loc Cert.MlpRefIdeal.main_v116) i = v0 c i)
          ∧ (∀ i : (⟨4, ![3, 9, 192, 4608]⟩ : Shape).Idx, (Cert.On_first_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.1 i = 1#1 → r.2.mem ((c.tc : Thread Cert.MlpRefIdeal.nD Cert.MlpRefIdeal.τ).loc Cert.MlpRefIdeal.main_v117) i = v1 c i)
          ∧ (∀ i : (⟨4, ![3, 9, 768, 4608]⟩ : Shape).Idx, (Cert.On_first_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2 i = 1#1 → r.2.mem ((c.tc : Thread Cert.MlpRefIdeal.nD Cert.MlpRefIdeal.τ).loc Cert.MlpRefIdeal.main_v118) i = v2 c i)
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)) →
    ∃ (v0 : (c : Dev Cert.LastIdeal.nD) → Buf (Elt Ideal) ((c.tc : Thread Cert.LastIdeal.nD Cert.LastIdeal.τ).loc Cert.LastIdeal.main_v45)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v45) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v114) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9))

def Claim : Prop :=
  ∃ (hRow : Cert.Row.Facts) (hRowIdeal : Cert.RowIdeal.Facts) (hRowRefIdeal : Cert.RowRefIdeal.Facts) (hMlp : Cert.Mlp.Facts) (hMlpIdeal : Cert.MlpIdeal.Facts) (hMlpRefIdeal : Cert.MlpRefIdeal.Facts) (hLast : Cert.Last.Facts) (hLastIdeal : Cert.LastIdeal.Facts) (hLastRefIdeal : Cert.LastRefIdeal.Facts) (hPre_finite_inputs : Cert.Pre_finite_inputs.Facts) (hOn_first_layer : Cert.On_first_layer.Facts),
    quiescent_Row (hRow := hRow)
    ∧ quiescent_RowIdeal (hRowIdeal := hRowIdeal)
    ∧ quiescent_RowIdeal_pre_finite_inputs (hRowIdeal := hRowIdeal) (hPre_finite_inputs := hPre_finite_inputs)
    ∧ quiescent_RowRefIdeal (hRowRefIdeal := hRowRefIdeal)
    ∧ quiescent_RowRefIdeal_pre_finite_inputs (hRowRefIdeal := hRowRefIdeal) (hPre_finite_inputs := hPre_finite_inputs)
    ∧ quiescent_Mlp (hMlp := hMlp)
    ∧ quiescent_MlpIdeal (hMlpIdeal := hMlpIdeal)
    ∧ quiescent_MlpRefIdeal (hMlpRefIdeal := hMlpRefIdeal)
    ∧ quiescent_Last (hLast := hLast)
    ∧ quiescent_LastIdeal (hLastIdeal := hLastIdeal)
    ∧ quiescent_LastRefIdeal (hLastRefIdeal := hLastRefIdeal)
    ∧ preserves_Row_RowIdeal
    ∧ algebraic_RowIdeal_RowRefIdeal_pre_finite_inputs (hRowIdeal := hRowIdeal) (hRowRefIdeal := hRowRefIdeal) (hPre_finite_inputs := hPre_finite_inputs)
    ∧ preserves_Mlp_MlpIdeal
    ∧ algebraic_MlpIdeal_MlpRefIdeal_on_first_layer (hMlpIdeal := hMlpIdeal) (hMlpRefIdeal := hMlpRefIdeal) (hOn_first_layer := hOn_first_layer)
    ∧ preserves_Last_LastIdeal
    ∧ algebraic_LastIdeal_LastRefIdeal (hLastIdeal := hLastIdeal) (hLastRefIdeal := hLastRefIdeal)
-- ==== On_first_layer.lean ====
abbrev S2x6 : Shape := ⟨2, ![2, 6]⟩
abbrev S3x9x192x4608 : Shape := ⟨4, ![3, 9, 192, 4608]⟩
abbrev S2x6x32x192 : Shape := ⟨4, ![2, 6, 32, 192]⟩
abbrev S2x192 : Shape := ⟨2, ![2, 192]⟩
abbrev S2x192x768 : Shape := ⟨3, ![2, 192, 768]⟩
abbrev S2x768 : Shape := ⟨2, ![2, 768]⟩
abbrev S2x768x192 : Shape := ⟨3, ![2, 768, 192]⟩
abbrev S2x3x9x192x4608 : Shape := ⟨5, ![2, 3, 9, 192, 4608]⟩
abbrev S_ : Shape := ⟨0, ![]⟩
abbrev S3x9x768x4608 : Shape := ⟨4, ![3, 9, 768, 4608]⟩

class Facts : Prop where
  bcast_S_S2x3x9x192x4608 : S_.BroadcastsInDim S2x3x9x192x4608 (![] : Fin 0 → Fin S2x3x9x192x4608.rank)
  bcast_S_S3x9x192x4608 : S_.BroadcastsInDim S3x9x192x4608 (![] : Fin 0 → Fin S3x9x192x4608.rank)
  bcast_S_S3x9x768x4608 : S_.BroadcastsInDim S3x9x768x4608 (![] : Fin 0 → Fin S3x9x768x4608.rank)

variable [Facts]

def fn {F : FTy → Type} [FloatOps F] (main_arg0 : FVec F S2x6 .f32) (main_arg1 : IVec S3x9x192x4608 8) (main_arg2 : FVec F S3x9x192x4608 .f32) (main_arg3 : IVec S2x6x32x192 8) (main_arg4 : FVec F S2x192 .f32) (main_arg5 : IVec S2x192x768 8) (main_arg6 : FVec F S2x768 .f32) (main_arg7 : IVec S2x768x192 8) (main_arg8 : FVec F S2x192 .f32) : IVec S2x3x9x192x4608 1 × IVec S3x9x192x4608 1 × IVec S3x9x768x4608 1 :=
  let main_v0 : IVec S2x3x9x192x4608 32 := iotaInDim S2x3x9x192x4608 32 0
  let main_c : IVec S_ 32 := constantI S_ 32 1#32
  let main_v1 : IVec S2x3x9x192x4608 32 := broadcastInDim S2x3x9x192x4608 ![] bcast_S_S2x3x9x192x4608 main_c
  let main_v2 : IVec S2x3x9x192x4608 1 := cmpi .slt main_v0 main_v1
  let main_c_0 : IVec S_ 1 := constantI S_ 1 1#1
  let main_v3 : IVec S3x9x192x4608 1 := broadcastInDim S3x9x192x4608 ![] bcast_S_S3x9x192x4608 main_c_0
  let main_c_1 : IVec S_ 1 := constantI S_ 1 1#1
  let main_v4 : IVec S3x9x768x4608 1 := broadcastInDim S3x9x768x4608 ![] bcast_S_S3x9x768x4608 main_c_1
  (main_v2, main_v3, main_v4)
-- ==== Pre_finite_inputs.lean ====
abbrev S2x6 : Shape := ⟨2, ![2, 6]⟩
abbrev S3x9x192x4608 : Shape := ⟨4, ![3, 9, 192, 4608]⟩
abbrev S2x3x9x192x4096 : Shape := ⟨5, ![2, 3, 9, 192, 4096]⟩
abbrev S2x3x9x6x4096 : Shape := ⟨5, ![2, 3, 9, 6, 4096]⟩
abbrev S_ : Shape := ⟨0, ![]⟩
abbrev S1x3x9x6x4096 : Shape := ⟨5, ![1, 3, 9, 6, 4096]⟩
abbrev S3x9x6x4096 : Shape := ⟨4, ![3, 9, 6, 4096]⟩

class Facts : Prop where
  bitsLt_bf16_f32 : FTy.bits .bf16 < FTy.bits .f32
  bcast_S_S3x9x192x4608 : S_.BroadcastsInDim S3x9x192x4608 (![] : Fin 0 → Fin S3x9x192x4608.rank)
  slices_S2x3x9x6x4096_S1x3x9x6x4096_0_0_0_0_0 : S2x3x9x6x4096.Slices ![0, 0, 0, 0, 0] S1x3x9x6x4096
  shapeCasts_S1x3x9x6x4096_S3x9x6x4096 : S1x3x9x6x4096.ShapeCasts S3x9x6x4096
  bcast_S_S3x9x6x4096 : S_.BroadcastsInDim S3x9x6x4096 (![] : Fin 0 → Fin S3x9x6x4096.rank)

variable [Facts]

def fn {F : FTy → Type} [FloatOps F] (main_arg0 : FVec F S2x6 .f32) (main_arg1 : FVec F S3x9x192x4608 .bf16) (main_arg2 : IVec S2x3x9x192x4096 8) (main_arg3 : FVec F S2x3x9x6x4096 .f32) (main_arg4 : IVec S2x3x9x192x4096 8) (main_arg5 : FVec F S2x3x9x6x4096 .f32) : IVec S3x9x192x4608 1 × IVec S3x9x6x4096 1 :=
  let main_v0 : FVec F S3x9x192x4608 .f32 := (extf .f32 · bitsLt_bf16_f32) main_arg1
  let main_v1 : FVec F S3x9x192x4608 .f32 := Host.absf main_v0
  let main_cst : FVec F S_ .f32 := constant S_ .f32 0x7F800000#32
  let main_v2 : FVec F S3x9x192x4608 .f32 := broadcastInDim S3x9x192x4608 ![] bcast_S_S3x9x192x4608 main_cst
  let main_v3 : IVec S3x9x192x4608 1 := cmpf .olt main_v1 main_v2
  let main_v4 : FVec F S1x3x9x6x4096 .f32 := (extractStridedSlice S1x3x9x6x4096 ![0, 0, 0, 0, 0] · slices_S2x3x9x6x4096_S1x3x9x6x4096_0_0_0_0_0) main_arg3
  let main_v5 : FVec F S3x9x6x4096 .f32 := shapeCast S3x9x6x4096 main_v4 shapeCasts_S1x3x9x6x4096_S3x9x6x4096
  let main_v6 : FVec F S3x9x6x4096 .f32 := Host.absf main_v5
  let main_cst_0 : FVec F S_ .f32 := constant S_ .f32 0x7F800000#32
  let main_v7 : FVec F S3x9x6x4096 .f32 := broadcastInDim S3x9x6x4096 ![] bcast_S_S3x9x6x4096 main_cst_0
  let main_v8 : IVec S3x9x6x4096 1 := cmpf .olt main_v6 main_v7
  (main_v3, main_v8)
-- ==== Row.lean ====
abbrev S2x6 : Shape := ⟨2, ![2, 6]⟩
abbrev S3x9x192x4608 : Shape := ⟨4, ![3, 9, 192, 4608]⟩
abbrev S2x3x9x192x4096 : Shape := ⟨5, ![2, 3, 9, 192, 4096]⟩
abbrev S2x3x9x6x4096 : Shape := ⟨5, ![2, 3, 9, 6, 4096]⟩
abbrev S1x1x192x4608 : Shape := ⟨4, ![1, 1, 192, 4608]⟩
abbrev S1x1x1x192x4096 : Shape := ⟨5, ![1, 1, 1, 192, 4096]⟩
abbrev S1x1x1x6x4096 : Shape := ⟨5, ![1, 1, 1, 6, 4096]⟩
abbrev S6x4096x128 : Shape := ⟨3, ![6, 4096, 128]⟩
abbrev S6x32x4096 : Shape := ⟨3, ![6, 32, 4096]⟩
abbrev S1x256 : Shape := ⟨2, ![1, 256]⟩
abbrev S1x1 : Shape := ⟨2, ![1, 1]⟩
abbrev S1x1x1x32x4096 : Shape := ⟨5, ![1, 1, 1, 32, 4096]⟩
abbrev S32x4096 : Shape := ⟨2, ![32, 4096]⟩
abbrev S1x32x4096 : Shape := ⟨3, ![1, 32, 4096]⟩
abbrev S32x256 : Shape := ⟨2, ![32, 256]⟩
abbrev S1x1x1x32x256 : Shape := ⟨5, ![1, 1, 1, 32, 256]⟩
abbrev S1x1x1x1x256 : Shape := ⟨5, ![1, 1, 1, 1, 256]⟩
abbrev S128x256 : Shape := ⟨2, ![128, 256]⟩
abbrev S256x128 : Shape := ⟨2, ![256, 128]⟩
abbrev S1x256x128 : Shape := ⟨3, ![1, 256, 128]⟩
abbrev S1x1x32x256 : Shape := ⟨4, ![1, 1, 32, 256]⟩
abbrev S96x256 : Shape := ⟨2, ![96, 256]⟩
abbrev S256x256 : Shape := ⟨2, ![256, 256]⟩
abbrev S32x8x256 : Shape := ⟨3, ![32, 8, 256]⟩
abbrev S8x256 : Shape := ⟨2, ![8, 256]⟩
abbrev S1x32x256 : Shape := ⟨3, ![1, 32, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 7
  | .vmem => 16
  | .smem => 1
  | _ => 0

abbrev bufTy : (tb : Table) → Fin (tcTables nBuf tb) → BufTy
  | .hbm, ⟨0, _⟩ => ⟨S2x6, .f32⟩
  | .hbm, ⟨1, _⟩ => ⟨S3x9x192x4608, .bf16⟩
  | .hbm, ⟨2, _⟩ => ⟨S2x3x9x192x4096, .i8⟩
  | .hbm, ⟨3, _⟩ => ⟨S2x3x9x6x4096, .f32⟩
  | .hbm, ⟨4, _⟩ => ⟨S2x3x9x192x4096, .i8⟩
  | .hbm, ⟨5, _⟩ => ⟨S2x3x9x6x4096, .f32⟩
  | .hbm, ⟨6, _⟩ => ⟨S3x9x192x4608, .i8⟩
  | .local _ .vmem, ⟨0, _⟩ => ⟨S1x1x192x4608, .bf16⟩
  | .local _ .vmem, ⟨1, _⟩ => ⟨S1x1x192x4608, .bf16⟩
  | .local _ .vmem, ⟨2, _⟩ => ⟨S1x1x1x192x4096, .i8⟩
  | .local _ .vmem, ⟨3, _⟩ => ⟨S1x1x1x192x4096, .i8⟩
  | .local _ .vmem, ⟨4, _⟩ => ⟨S1x1x1x6x4096, .f32⟩
  | .local _ .vmem, ⟨5, _⟩ => ⟨S1x1x1x6x4096, .f32⟩
  | .local _ .vmem, ⟨6, _⟩ => ⟨S1x1x1x192x4096, .i8⟩
  | .local _ .vmem, ⟨7, _⟩ => ⟨S1x1x1x192x4096, .i8⟩
  | .local _ .vmem, ⟨8, _⟩ => ⟨S1x1x1x6x4096, .f32⟩
  | .local _ .vmem, ⟨9, _⟩ => ⟨S1x1x1x6x4096, .f32⟩
  | .local _ .vmem, ⟨10, _⟩ => ⟨S1x1x192x4608, .i8⟩
  | .local _ .vmem, ⟨11, _⟩ => ⟨S1x1x192x4608, .i8⟩
  | .local _ .vmem, ⟨12, _⟩ => ⟨S6x4096x128, .bf16⟩
  | .local _ .vmem, ⟨13, _⟩ => ⟨S6x32x4096, .bf16⟩
  | .local _ .vmem, ⟨14, _⟩ => ⟨S6x4096x128, .f32⟩
  | .local _ .vmem, ⟨15, _⟩ => ⟨S1x256, .f32⟩
  | .local _ .smem, ⟨0, _⟩ => ⟨S2x6, .f32⟩
  | _, _ => ⟨S2x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 9], ![false, false]⟩

@[reducible] def k0_t1_loop : Scf.Loop 32 :=
  let c0_i32 : BitVec 32 := 0#32
  let c6_i32 : BitVec 32 := 6#32
  let v1 : BitVec 32 := Scalar.addi c0_i32 c6_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  v16
def k0_off1 (k0_t1 : Fin k0_t1_loop.trips) : Fin 5 → Nat :=
  let c0_12 : Index := 0#32
  let c0_13 : Index := 0#32
  let c0_14 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v18 : Index := Scalar.indexCast v17
  let c0_15 : Index := 0#32
  ![0, 0, 0, v18.toNat, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v23 : Index := Scalar.indexCast arg13
  let c0_16 : Index := 0#32
  let c0_17 : Index := 0#32
  ![v23.toNat, 0, 0]
def k0_off3 (k0_t1 : Fin k0_t1_loop.trips) : Fin 5 → Nat :=
  let c0_20 : Index := 0#32
  let c0_21 : Index := 0#32
  let c0_22 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v33 : Index := Scalar.indexCast v17
  let c0_23 : Index := 0#32
  ![0, 0, 0, v33.toNat, 0]
def k0_off4 (k0_t1 : Fin k0_t1_loop.trips) : Fin 5 → Nat :=
  let c0_24 : Index := 0#32
  let c0_25 : Index := 0#32
  let c0_26 : Index := 0#32
  let c0_i32 : BitVec 32 := 0#32
  let c1_i32 : BitVec 32 := 1#32
  let arg13 : BitVec 32 := Scf.iv c0_i32 c1_i32 k0_t1
  let v37 : Index := Scalar.indexCast arg13
  let c0_27 : Index := 0#32
  ![0, 0, 0, v37.toNat, 0]
def k0_off5 (k0_t1 : Fin k0_t1_loop.trips) : Fin 3 → Nat :=
  let c0_i32 : BitVec 32 := 0#32
  let c1_i32 : BitVec 32 := 1#32
  let arg13 : BitVec 32 := Scf.iv c0_i32 c1_i32 k0_t1
  let v54 : Index := Scalar.indexCast arg13
  let c0_29 : Index := 0#32
  let c0_30 : Index := 0#32
  ![v54.toNat, 0, 0]
def k0_off6 (k0_t1 : Fin k0_t1_loop.trips) : Fin 5 → Nat :=
  let c0_37 : Index := 0#32
  let c0_38 : Index := 0#32
  let c0_39 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v68 : Index := Scalar.indexCast v17
  let c256 : Index := 256#32
  ![0, 0, 0, v68.toNat, 256]
def k0_off7 (k0_t1 : Fin k0_t1_loop.trips) : Fin 5 → Nat :=
  let c0_40 : Index := 0#32
  let c0_41 : Index := 0#32
  let c0_42 : Index := 0#32
  let c0_i32 : BitVec 32 := 0#32
  let c1_i32 : BitVec 32 := 1#32
  let arg13 : BitVec 32 := Scf.iv c0_i32 c1_i32 k0_t1
  let v72 : Index := Scalar.indexCast arg13
  let c256_43 : Index := 256#32
  ![0, 0, 0, v72.toNat, 256]
def k0_off8 (k0_t1 : Fin k0_t1_loop.trips) : Fin 3 → Nat :=
  let c0_i32 : BitVec 32 := 0#32
  let c1_i32 : BitVec 32 := 1#32
  let arg13 : BitVec 32 := Scf.iv c0_i32 c1_i32 k0_t1
  let v89 : Index := Scalar.indexCast arg13
  let c256_45 : Index := 256#32
  let c0_46 : Index := 0#32
  ![v89.toNat, 256, 0]
def k0_off9 (k0_t1 : Fin k0_t1_loop.trips) : Fin 5 → Nat :=
  let c0_53 : Index := 0#32
  let c0_54 : Index := 0#32
  let c0_55 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v103 : Index := Scalar.indexCast v17
  let c512 : Index := 512#32
  ![0, 0, 0, v103.toNat, 512]
def k0_off10 (k0_t1 : Fin k0_t1_loop.trips) : Fin 5 → Nat :=
  let c0_56 : Index := 0#32
  let c0_57 : Index := 0#32
  let c0_58 : Index := 0#32
  let c0_i32 : BitVec 32 := 0#32
  let c1_i32 : BitVec 32 := 1#32
  let arg13 : BitVec 32 := Scf.iv c0_i32 c1_i32 k0_t1
  let v107 : Index := Scalar.indexCast arg13
  let c512_59 : Index := 512#32
  ![0, 0, 0, v107.toNat, 512]
def k0_off11 (k0_t1 : Fin k0_t1_loop.trips) : Fin 3 → Nat :=
  let c0_i32 : BitVec 32 := 0#32
  let c1_i32 : BitVec 32 := 1#32
  let arg13 : BitVec 32 := Scf.iv c0_i32 c1_i32 k0_t1
  let v124 : Index := Scalar.indexCast arg13
  let c512_61 : Index := 512#32
  let c0_62 : Index := 0#32
  ![v124.toNat, 512, 0]
def k0_off12 (k0_t1 : Fin k0_t1_loop.trips) : Fin 5 → Nat :=
  let c0_69 : Index := 0#32
  let c0_70 : Index := 0#32
  let c0_71 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v138 : Index := Scalar.indexCast v17
  let c768 : Index := 768#32
  ![0, 0, 0, v138.toNat, 768]
def k0_off13 (k0_t1 : Fin k0_t1_loop.trips) : Fin 5 → Nat :=
  let c0_72 : Index := 0#32
  let c0_73 : Index := 0#32
  let c0_74 : Index := 0#32
  let c0_i32 : BitVec 32 := 0#32
  let c1_i32 : BitVec 32 := 1#32
  let arg13 : BitVec 32 := Scf.iv c0_i32 c1_i32 k0_t1
  let v142 : Index := Scalar.indexCast arg13
  let c768_75 : Index := 768#32
  ![0, 0, 0, v142.toNat, 768]
def k0_off14 (k0_t1 : Fin k0_t1_loop.trips) : Fin 3 → Nat :=
  let c0_i32 : BitVec 32 := 0#32
  let c1_i32 : BitVec 32 := 1#32
  let arg13 : BitVec 32 := Scf.iv c0_i32 c1_i32 k0_t1
  let v159 : Index := Scalar.indexCast arg13
  let c768_77 : Index := 768#32
  let c0_78 : Index := 0#32
  ![v159.toNat, 768, 0]
def k0_off15 (k0_t1 : Fin k0_t1_loop.trips) : Fin 5 → Nat :=
  let c0_85 : Index := 0#32
  let c0_86 : Index := 0#32
  let c0_87 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v173 : Index := Scalar.indexCast v17
  let c1024 : Index := 1024#32
  ![0, 0, 0, v173.toNat, 1024]
def k0_off16 (k0_t1 : Fin k0_t1_loop.trips) : Fin 5 → Nat :=
  let c0_88 : Index := 0#32
  let c0_89 : Index := 0#32
  let c0_90 : Index := 0#32
  let c0_i32 : BitVec 32 := 0#32
  let c1_i32 : BitVec 32 := 1#32
  let arg13 : BitVec 32 := Scf.iv c0_i32 c1_i32 k0_t1
  let v177 : Index := Scalar.indexCast arg13
  let c1024_91 : Index := 1024#32
  ![0, 0, 0, v177.toNat, 1024]
def k0_off17 (k0_t1 : Fin k0_t1_loop.trips) : Fin 3 → Nat :=
  let c0_i32 : BitVec 32 := 0#32
  let c1_i32 : BitVec 32 := 1#32
  let arg13 : BitVec 32 := Scf.iv c0_i32 c1_i32 k0_t1
  let v194 : Index := Scalar.indexCast arg13
  let c1024_93 : Index := 1024#32
  let c0_94 : Index := 0#32
  ![v194.toNat, 1024, 0]
def k0_off18 (k0_t1 : Fin k0_t1_loop.trips) : Fin 5 → Nat :=
  let c0_101 : Index := 0#32
  let c0_102 : Index := 0#32
  let c0_103 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v208 : Index := Scalar.indexCast v17
  let c1280 : Index := 1280#32
  ![0, 0, 0, v208.toNat, 1280]
def k0_off19 (k0_t1 : Fin k0_t1_loop.trips) : Fin 5 → Nat :=
  let c0_104 : Index := 0#32
  let c0_105 : Index := 0#32
  let c0_106 : Index := 0#32
  let c0_i32 : BitVec 32 := 0#32
  let c1_i32 : BitVec 32 := 1#32
  let arg13 : BitVec 32 := Scf.iv c0_i32 c1_i32 k0_t1
  let v212 : Index := Scalar.indexCast arg13
  let c1280_107 : Index := 1280#32
  ![0, 0, 0, v212.toNat, 1280]
def k0_off20 (k0_t1 : Fin k0_t1_loop.trips) : Fin 3 → Nat :=
  let c0_i32 : BitVec 32 := 0#32
  let c1_i32 : BitVec 32 := 1#32
  let arg13 : BitVec 32 := Scf.iv c0_i32 c1_i32 k0_t1
  let v229 : Index := Scalar.indexCast arg13
  let c1280_109 : Index := 1280#32
  let c0_110 : Index := 0#32
  ![v229.toNat, 1280, 0]
def k0_off21 (k0_t1 : Fin k0_t1_loop.trips) : Fin 5 → Nat :=
  let c0_117 : Index := 0#32
  let c0_118 : Index := 0#32
  let c0_119 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v243 : Index := Scalar.indexCast v17
  let c1536 : Index := 1536#32
  ![0, 0, 0, v243.toNat, 1536]
def k0_off22 (k0_t1 : Fin k0_t1_loop.trips) : Fin 5 → Nat :=
  let c0_120 : Index := 0#32
  let c0_121 : Index := 0#32
  let c0_122 : Index := 0#32
  let c0_i32 : BitVec 32 := 0#32
  let c1_i32 : BitVec 32 := 1#32
  let arg13 : BitVec 32 := Scf.iv c0_i32 c1_i32 k0_t1
  let v247 : Index := Scalar.indexCast arg13
  let c1536_123 : Index := 1536#32
  ![0, 0, 0, v247.toNat, 1536]
def k0_off23 (k0_t1 : Fin k0_t1_loop.trips) : Fin 3 → Nat :=
  let c0_i32 : BitVec 32 := 0#32
  let c1_i32 : BitVec 32 := 1#32
  let arg13 : BitVec 32 := Scf.iv c0_i32 c1_i32 k0_t1
  let v264 : Index := Scalar.indexCast arg13
  let c1536_125 : Index := 1536#32
  let c0_126 : Index := 0#32
  ![v264.toNat, 1536, 0]
def k0_off24 (k0_t1 : Fin k0_t1_loop.trips) : Fin 5 → Nat :=
  let c0_133 : Index := 0#32
  let c0_134 : Index := 0#32
  let c0_135 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v278 : Index := Scalar.indexCast v17
  let c1792 : Index := 1792#32
  ![0, 0, 0, v278.toNat, 1792]
def k0_off25 (k0_t1 : Fin k0_t1_loop.trips) : Fin 5 → Nat :=
  let c0_136 : Index := 0#32
  let c0_137 : Index := 0#32
  let c0_138 : Index := 0#32
  let c0_i32 : BitVec 32 := 0#32
  let c1_i32 : BitVec 32 := 1#32
  let arg13 : BitVec 32 := Scf.iv c0_i32 c1_i32 k0_t1
  let v282 : Index := Scalar.indexCast arg13
  let c1792_139 : Index := 1792#32
  ![0, 0, 0, v282.toNat, 1792]
def k0_off26 (k0_t1 : Fin k0_t1_loop.trips) : Fin 3 → Nat :=
  let c0_i32 : BitVec 32 := 0#32
  let c1_i32 : BitVec 32 := 1#32
  let arg13 : BitVec 32 := Scf.iv c0_i32 c1_i32 k0_t1
  let v299 : Index := Scalar.indexCast arg13
  let c1792_141 : Index := 1792#32
  let c0_142 : Index := 0#32
  ![v299.toNat, 1792, 0]
def k0_off27 (k0_t1 : Fin k0_t1_loop.trips) : Fin 5 → Nat :=
  let c0_149 : Index := 0#32
  let c0_150 : Index := 0#32
  let c0_151 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v313 : Index := Scalar.indexCast v17
  let c2048 : Index := 2048#32
  ![0, 0, 0, v313.toNat, 2048]
def k0_off28 (k0_t1 : Fin k0_t1_loop.trips) : Fin 5 → Nat :=
  let c0_152 : Index := 0#32
  let c0_153 : Index := 0#32
  let c0_154 : Index := 0#32
  let c0_i32 : BitVec 32 := 0#32
  let c1_i32 : BitVec 32 := 1#32
  let arg13 : BitVec 32 := Scf.iv c0_i32 c1_i32 k0_t1
  let v317 : Index := Scalar.indexCast arg13
  let c2048_155 : Index := 2048#32
  ![0, 0, 0, v317.toNat, 2048]
def k0_off29 (k0_t1 : Fin k0_t1_loop.trips) : Fin 3 → Nat :=
  let c0_i32 : BitVec 32 := 0#32
  let c1_i32 : BitVec 32 := 1#32
  let arg13 : BitVec 32 := Scf.iv c0_i32 c1_i32 k0_t1
  let v334 : Index := Scalar.indexCast arg13
  let c2048_157 : Index := 2048#32
  let c0_158 : Index := 0#32
  ![v334.toNat, 2048, 0]
def k0_off30 (k0_t1 : Fin k0_t1_loop.trips) : Fin 5 → Nat :=
  let c0_165 : Index := 0#32
  let c0_166 : Index := 0#32
  let c0_167 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v348 : Index := Scalar.indexCast v17
  let c2304 : Index := 2304#32
  ![0, 0, 0, v348.toNat, 2304]
def k0_off31 (k0_t1 : Fin k0_t1_loop.trips) : Fin 5 → Nat :=
  let c0_168 : Index := 0#32
  let c0_169 : Index := 0#32
  let c0_170 : Index := 0#32
  let c0_i32 : BitVec 32 := 0#32
  let c1_i32 : BitVec 32 := 1#32
  let arg13 : BitVec 32 := Scf.iv c0_i32 c1_i32 k0_t1
  let v352 : Index := Scalar.indexCast arg13
  let c2304_171 : Index := 2304#32
  ![0, 0, 0, v352.toNat, 2304]
def k0_off32 (k0_t1 : Fin k0_t1_loop.trips) : Fin 3 → Nat :=
  let c0_i32 : BitVec 32 := 0#32
  let c1_i32 : BitVec 32 := 1#32
  let arg13 : BitVec 32 := Scf.iv c0_i32 c1_i32 k0_t1
  let v369 : Index := Scalar.indexCast arg13
  let c2304_173 : Index := 2304#32
  let c0_174 : Index := 0#32
  ![v369.toNat, 2304, 0]
def k0_off33 (k0_t1 : Fin k0_t1_loop.trips) : Fin 5 → Nat :=
  let c0_181 : Index := 0#32
  let c0_182 : Index := 0#32
  let c0_183 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v383 : Index := Scalar.indexCast v17
  let c2560 : Index := 2560#32
  ![0, 0, 0, v383.toNat, 2560]
def k0_off34 (k0_t1 : Fin k0_t1_loop.trips) : Fin 5 → Nat :=
  let c0_184 : Index := 0#32
  let c0_185 : Index := 0#32
  let c0_186 : Index := 0#32
  let c0_i32 : BitVec 32 := 0#32
  let c1_i32 : BitVec 32 := 1#32
  let arg13 : BitVec 32 := Scf.iv c0_i32 c1_i32 k0_t1
  let v387 : Index := Scalar.indexCast arg13
  let c2560_187 : Index := 2560#32
  ![0, 0, 0, v387.toNat, 2560]
def k0_off35 (k0_t1 : Fin k0_t1_loop.trips) : Fin 3 → Nat :=
  let c0_i32 : BitVec 32 := 0#32
  let c1_i32 : BitVec 32 := 1#32
  let arg13 : BitVec 32 := Scf.iv c0_i32 c1_i32 k0_t1
  let v404 : Index := Scalar.indexCast arg13
  let c2560_189 : Index := 2560#32
  let c0_190 : Index := 0#32
  ![v404.toNat, 2560, 0]
def k0_off36 (k0_t1 : Fin k0_t1_loop.trips) : Fin 5 → Nat :=
  let c0_197 : Index := 0#32
  let c0_198 : Index := 0#32
  let c0_199 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v418 : Index := Scalar.indexCast v17
  let c2816 : Index := 2816#32
  ![0, 0, 0, v418.toNat, 2816]
def k0_off37 (k0_t1 : Fin k0_t1_loop.trips) : Fin 5 → Nat :=
  let c0_200 : Index := 0#32
  let c0_201 : Index := 0#32
  let c0_202 : Index := 0#32
  let c0_i32 : BitVec 32 := 0#32
  let c1_i32 : BitVec 32 := 1#32
  let arg13 : BitVec 32 := Scf.iv c0_i32 c1_i32 k0_t1
  let v422 : Index := Scalar.indexCast arg13
  let c2816_203 : Index := 2816#32
  ![0, 0, 0, v422.toNat, 2816]
def k0_off38 (k0_t1 : Fin k0_t1_loop.trips) : Fin 3 → Nat :=
  let c0_i32 : BitVec 32 := 0#32
  let c1_i32 : BitVec 32 := 1#32
  let arg13 : BitVec 32 := Scf.iv c0_i32 c1_i32 k0_t1
  let v439 : Index := Scalar.indexCast arg13
  let c2816_205 : Index := 2816#32
  let c0_206 : Index := 0#32
  ![v439.toNat, 2816, 0]
def k0_off39 (k0_t1 : Fin k0_t1_loop.trips) : Fin 5 → Nat :=
  let c0_213 : Index := 0#32
  let c0_214 : Index := 0#32
  let c0_215 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v453 : Index := Scalar.indexCast v17
  let c3072 : Index := 3072#32
  ![0, 0, 0, v453.toNat, 3072]
def k0_off40 (k0_t1 : Fin k0_t1_loop.trips) : Fin 5 → Nat :=
  let c0_216 : Index := 0#32
  let c0_217 : Index := 0#32
  let c0_218 : Index := 0#32
  let c0_i32 : BitVec 32 := 0#32
  let c1_i32 : BitVec 32 := 1#32
  let arg13 : BitVec 32 := Scf.iv c0_i32 c1_i32 k0_t1
  let v457 : Index := Scalar.indexCast arg13
  let c3072_219 : Index := 3072#32
  ![0, 0, 0, v457.toNat, 3072]
def k0_off41 (k0_t1 : Fin k0_t1_loop.trips) : Fin 3 → Nat :=
  let c0_i32 : BitVec 32 := 0#32
  let c1_i32 : BitVec 32 := 1#32
  let arg13 : BitVec 32 := Scf.iv c0_i32 c1_i32 k0_t1
  let v474 : Index := Scalar.indexCast arg13
  let c3072_221 : Index := 3072#32
  let c0_222 : Index := 0#32
  ![v474.toNat, 3072, 0]
def k0_off42 (k0_t1 : Fin k0_t1_loop.trips) : Fin 5 → Nat :=
  let c0_229 : Index := 0#32
  let c0_230 : Index := 0#32
  let c0_231 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v488 : Index := Scalar.indexCast v17
  let c3328 : Index := 3328#32
  ![0, 0, 0, v488.toNat, 3328]
def k0_off43 (k0_t1 : Fin k0_t1_loop.trips) : Fin 5 → Nat :=
  let c0_232 : Index := 0#32
  let c0_233 : Index := 0#32
  let c0_234 : Index := 0#32
  let c0_i32 : BitVec 32 := 0#32
  let c1_i32 : BitVec 32 := 1#32
  let arg13 : BitVec 32 := Scf.iv c0_i32 c1_i32 k0_t1
  let v492 : Index := Scalar.indexCast arg13
  let c3328_235 : Index := 3328#32
  ![0, 0, 0, v492.toNat, 3328]
def k0_off44 (k0_t1 : Fin k0_t1_loop.trips) : Fin 3 → Nat :=
  let c0_i32 : BitVec 32 := 0#32
  let c1_i32 : BitVec 32 := 1#32
  let arg13 : BitVec 32 := Scf.iv c0_i32 c1_i32 k0_t1
  let v509 : Index := Scalar.indexCast arg13
  let c3328_237 : Index := 3328#32
  let c0_238 : Index := 0#32
  ![v509.toNat, 3328, 0]
def k0_off45 (k0_t1 : Fin k0_t1_loop.trips) : Fin 5 → Nat :=
  let c0_245 : Index := 0#32
  let c0_246 : Index := 0#32
  let c0_247 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v523 : Index := Scalar.indexCast v17
  let c3584 : Index := 3584#32
  ![0, 0, 0, v523.toNat, 3584]
def k0_off46 (k0_t1 : Fin k0_t1_loop.trips) : Fin 5 → Nat :=
  let c0_248 : Index := 0#32
  let c0_249 : Index := 0#32
  let c0_250 : Index := 0#32
  let c0_i32 : BitVec 32 := 0#32
  let c1_i32 : BitVec 32 := 1#32
  let arg13 : BitVec 32 := Scf.iv c0_i32 c1_i32 k0_t1
  let v527 : Index := Scalar.indexCast arg13
  let c3584_251 : Index := 3584#32
  ![0, 0, 0, v527.toNat, 3584]
def k0_off47 (k0_t1 : Fin k0_t1_loop.trips) : Fin 3 → Nat :=
  let c0_i32 : BitVec 32 := 0#32
  let c1_i32 : BitVec 32 := 1#32
  let arg13 : BitVec 32 := Scf.iv c0_i32 c1_i32 k0_t1
  let v544 : Index := Scalar.indexCast arg13
  let c3584_253 : Index := 3584#32
  let c0_254 : Index := 0#32
  ![v544.toNat, 3584, 0]
def k0_off48 (k0_t1 : Fin k0_t1_loop.trips) : Fin 5 → Nat :=
  let c0_261 : Index := 0#32
  let c0_262 : Index := 0#32
  let c0_263 : Index := 0#32
  let c0_i32 : BitVec 32 := 0#32
  let c1_i32 : BitVec 32 := 1#32
  let arg13 : BitVec 32 := Scf.iv c0_i32 c1_i32 k0_t1
  let c32_i32 : BitVec 32 := 32#32
  let v16 : BitVec 32 := Scalar.muli arg13 c32_i32
  let v17 : BitVec 32 := v16
  let v558 : Index := Scalar.indexCast v17
  let c3840 : Index := 3840#32
  ![0, 0, 0, v558.toNat, 3840]
def k0_off49 (k0_t1 : Fin k0_t1_loop.trips) : Fin 5 → Nat :=
  let c0_264 : Index := 0#32
  let c0_265 : Index := 0#32
  let c0_266 : Index := 0#32
  let c0_i32 : BitVec 32 := 0#32
  let c1_i32 : BitVec 32 := 1#32
  let arg13 : BitVec 32 := Scf.iv c0_i32 c1_i32 k0_t1
  let v562 : Index := Scalar.indexCast arg13
  let c3840_267 : Index := 3840#32
  ![0, 0, 0, v562.toNat, 3840]
def k0_off50 (k0_t1 : Fin k0_t1_loop.trips) : Fin 3 → Nat :=
  let c0_i32 : BitVec 32 := 0#32
  let c1_i32 : BitVec 32 := 1#32
  let arg13 : BitVec 32 := Scf.iv c0_i32 c1_i32 k0_t1
  let v579 : Index := Scalar.indexCast arg13
  let c3840_269 : Index := 3840#32
  let c0_270 : Index := 0#32
  ![v579.toNat, 3840, 0]
@[reducible] def k0_t2_loop : Scf.Loop 32 :=
  let c0_i32_4 : BitVec 32 := 0#32
  let c27_i32 : BitVec 32 := 27#32
  let v7 : BitVec 32 := Scalar.addi c0_i32_4 c27_i32
  let c1_i32_5 : BitVec 32 := 1#32
  ⟨c0_i32_4, v7, c1_i32_5⟩
def k0_mult2 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let c0_i32_12 : BitVec 32 := 0#32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c48_i32_20 : BitVec 32 := 48#32
  let v37 : BitVec 32 := Scalar.subi v17 c48_i32_20
  let v38 : BitVec 32 := Scalar.select v18 v35 v37
  let c32_i32 : BitVec 32 := 32#32
  let v51 : BitVec 32 := Scalar.muli v38 c32_i32
  v51
def k0_mult3 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32_27 : BitVec 32 := 2#32
  let v53 : BitVec 32 := Scalar.muli arg13 c2_i32_27
  let c1_i32_28 : BitVec 32 := 1#32
  let v54 : BitVec 32 := Scalar.addi v53 c1_i32_28
  let c48_i32_29 : BitVec 32 := 48#32
  let v55 : BitVec 1 := Scalar.cmpi .slt v54 c48_i32_29
  let c0_i32_31 : BitVec 32 := 0#32
  let v57 : BitVec 1 := Scalar.cmpi .sgt v54 c0_i32_31
  let v58 : BitVec 32 := Scalar.extui v57
  let c0_i32_32 : BitVec 32 := 0#32
  let v59 : BitVec 1 := Scalar.cmpi .slt v54 c0_i32_32
  let v60 : BitVec 32 := Scalar.extui v59
  let v61 : BitVec 32 := Scalar.subi v58 v60
  let c8_i32_30 : BitVec 32 := 8#32
  let c0_i32_33 : BitVec 32 := 0#32
  let v62 : BitVec 1 := Scalar.cmpi .sgt c8_i32_30 c0_i32_33
  let v63 : BitVec 32 := Scalar.extui v62
  let c0_i32_34 : BitVec 32 := 0#32
  let v64 : BitVec 1 := Scalar.cmpi .slt c8_i32_30 c0_i32_34
  let v65 : BitVec 32 := Scalar.extui v64
  let v66 : BitVec 32 := Scalar.subi v63 v65
  let v67 : BitVec 1 := Scalar.cmpi .ne v61 v66
  let v68 : BitVec 32 := Scalar.remsi v54 c8_i32_30
  let c0_i32_35 : BitVec 32 := 0#32
  let v69 : BitVec 1 := Scalar.cmpi .ne v68 c0_i32_35
  let v70 : BitVec 1 := Scalar.andi v67 v69
  let v56 : BitVec 32 := Scalar.divsi v54 c8_i32_30
  let c1_i32_36 : BitVec 32 := 1#32
  let v71 : BitVec 32 := Scalar.subi v56 c1_i32_36
  let v72 : BitVec 32 := Scalar.select v70 v71 v56
  let c48_i32_38 : BitVec 32 := 48#32
  let v74 : BitVec 32 := Scalar.subi v54 c48_i32_38
  let v75 : BitVec 32 := Scalar.select v55 v72 v74
  let c32_i32_47 : BitVec 32 := 32#32
  let v88 : BitVec 32 := Scalar.muli v75 c32_i32_47
  v88
def k0_mult4 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let c0_i32_12 : BitVec 32 := 0#32
  let v17 : BitVec 32 := Scalar.addi v16 c0_i32_12
  let c48_i32 : BitVec 32 := 48#32
  let v18 : BitVec 1 := Scalar.cmpi .slt v17 c48_i32
  let c8_i32_21 : BitVec 32 := 8#32
  let c0_i32_22 : BitVec 32 := 0#32
  let v39 : BitVec 1 := Scalar.cmpi .eq c8_i32_21 c0_i32_22
  let c1_i32_23 : BitVec 32 := 1#32
  let v40 : BitVec 32 := Scalar.select v39 c1_i32_23 c8_i32_21
  let v41 : BitVec 32 := Scalar.remsi v17 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c512_i32 : BitVec 32 := 512#32
  let v49 : BitVec 32 := Scalar.muli v48 c512_i32
  let c4096_i32 : BitVec 32 := 4096#32
  let v50 : BitVec 32 := Scalar.select v18 v49 c4096_i32
  let c0_i32_48 : BitVec 32 := 0#32
  let v90 : BitVec 32 := Scalar.addi v50 c0_i32_48
  v90
def k0_off51 (k0_t2 : Fin k0_t2_loop.trips) (c0_i32_12 : BitVec 32) (c0_i32_48 : BitVec 32) : Fin 4 → Nat :=
  let c0_49 : Index := 0#32
  let c0_50 : Index := 0#32
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c48_i32_20 : BitVec 32 := 48#32
  let v37 : BitVec 32 := Scalar.subi v17 c48_i32_20
  let v38 : BitVec 32 := Scalar.select v18 v35 v37
  let c32_i32 : BitVec 32 := 32#32
  let v51 : BitVec 32 := Scalar.muli v38 c32_i32
  let v52 : BitVec 32 := v51
  let v92 : Index := Scalar.indexCast v52
  let c8_i32_21 : BitVec 32 := 8#32
  let c0_i32_22 : BitVec 32 := 0#32
  let v39 : BitVec 1 := Scalar.cmpi .eq c8_i32_21 c0_i32_22
  let c1_i32_23 : BitVec 32 := 1#32
  let v40 : BitVec 32 := Scalar.select v39 c1_i32_23 c8_i32_21
  let v41 : BitVec 32 := Scalar.remsi v17 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c512_i32 : BitVec 32 := 512#32
  let v49 : BitVec 32 := Scalar.muli v48 c512_i32
  let c4096_i32 : BitVec 32 := 4096#32
  let v50 : BitVec 32 := Scalar.select v18 v49 c4096_i32
  let v90 : BitVec 32 := Scalar.addi v50 c0_i32_48
  let v91 : BitVec 32 := v90
  let v93 : Index := Scalar.indexCast v91
  ![0, 0, v92.toNat, v93.toNat]
def k0_off52 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v98 : Index := Scalar.indexCast v36
  let c0_51 : Index := 0#32
  let c0_52 : Index := 0#32
  ![v98.toNat, 0, 0]
def k0_mult5 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let c0_i32_12 : BitVec 32 := 0#32
  let v17 : BitVec 32 := Scalar.addi v16 c0_i32_12
  let c48_i32 : BitVec 32 := 48#32
  let v18 : BitVec 1 := Scalar.cmpi .slt v17 c48_i32
  let c8_i32_21 : BitVec 32 := 8#32
  let c0_i32_22 : BitVec 32 := 0#32
  let v39 : BitVec 1 := Scalar.cmpi .eq c8_i32_21 c0_i32_22
  let c1_i32_23 : BitVec 32 := 1#32
  let v40 : BitVec 32 := Scalar.select v39 c1_i32_23 c8_i32_21
  let v41 : BitVec 32 := Scalar.remsi v17 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c512_i32 : BitVec 32 := 512#32
  let v49 : BitVec 32 := Scalar.muli v48 c512_i32
  let c4096_i32 : BitVec 32 := 4096#32
  let v50 : BitVec 32 := Scalar.select v18 v49 c4096_i32
  let c256_i32 : BitVec 32 := 256#32
  let v102 : BitVec 32 := Scalar.addi v50 c256_i32
  v102
def k0_off53 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v114 : Index := Scalar.indexCast v36
  let c256 : Index := 256#32
  let c0_59 : Index := 0#32
  ![v114.toNat, 256, 0]
def k0_off54 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v122 : Index := Scalar.indexCast v36
  let c512 : Index := 512#32
  let c0_64 : Index := 0#32
  ![v122.toNat, 512, 0]
def k0_off55 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v139 : Index := Scalar.indexCast v36
  let c0_72 : Index := 0#32
  let c0_73 : Index := 0#32
  ![v139.toNat, 0, 0]
def k0_off56 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v156 : Index := Scalar.indexCast v36
  let c768 : Index := 768#32
  let c0_81 : Index := 0#32
  ![v156.toNat, 768, 0]
def k0_off57 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v173 : Index := Scalar.indexCast v36
  let c0_89 : Index := 0#32
  let c256_90 : Index := 256#32
  ![v173.toNat, 0, 256]
def k0_off58 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v194 : Index := Scalar.indexCast v36
  let c1024 : Index := 1024#32
  let c0_98 : Index := 0#32
  ![v194.toNat, 1024, 0]
def k0_off59 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v211 : Index := Scalar.indexCast v36
  let c0_106 : Index := 0#32
  let c512_107 : Index := 512#32
  ![v211.toNat, 0, 512]
def k0_off60 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v232 : Index := Scalar.indexCast v36
  let c1280 : Index := 1280#32
  let c0_115 : Index := 0#32
  ![v232.toNat, 1280, 0]
def k0_off61 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v249 : Index := Scalar.indexCast v36
  let c0_123 : Index := 0#32
  let c768_124 : Index := 768#32
  ![v249.toNat, 0, 768]
def k0_off62 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v270 : Index := Scalar.indexCast v36
  let c1536 : Index := 1536#32
  let c0_132 : Index := 0#32
  ![v270.toNat, 1536, 0]
def k0_off63 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v287 : Index := Scalar.indexCast v36
  let c0_140 : Index := 0#32
  let c1024_141 : Index := 1024#32
  ![v287.toNat, 0, 1024]
def k0_off64 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v308 : Index := Scalar.indexCast v36
  let c1792 : Index := 1792#32
  let c0_149 : Index := 0#32
  ![v308.toNat, 1792, 0]
def k0_off65 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v325 : Index := Scalar.indexCast v36
  let c0_157 : Index := 0#32
  let c1280_158 : Index := 1280#32
  ![v325.toNat, 0, 1280]
def k0_off66 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v346 : Index := Scalar.indexCast v36
  let c2048 : Index := 2048#32
  let c0_166 : Index := 0#32
  ![v346.toNat, 2048, 0]
def k0_off67 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v363 : Index := Scalar.indexCast v36
  let c0_174 : Index := 0#32
  let c1536_175 : Index := 1536#32
  ![v363.toNat, 0, 1536]
def k0_off68 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v384 : Index := Scalar.indexCast v36
  let c2304 : Index := 2304#32
  let c0_183 : Index := 0#32
  ![v384.toNat, 2304, 0]
def k0_off69 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v401 : Index := Scalar.indexCast v36
  let c0_191 : Index := 0#32
  let c1792_192 : Index := 1792#32
  ![v401.toNat, 0, 1792]
def k0_off70 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v422 : Index := Scalar.indexCast v36
  let c2560 : Index := 2560#32
  let c0_200 : Index := 0#32
  ![v422.toNat, 2560, 0]
def k0_off71 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v439 : Index := Scalar.indexCast v36
  let c0_208 : Index := 0#32
  let c2048_209 : Index := 2048#32
  ![v439.toNat, 0, 2048]
def k0_off72 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v460 : Index := Scalar.indexCast v36
  let c2816 : Index := 2816#32
  let c0_217 : Index := 0#32
  ![v460.toNat, 2816, 0]
def k0_off73 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v477 : Index := Scalar.indexCast v36
  let c0_225 : Index := 0#32
  let c2304_226 : Index := 2304#32
  ![v477.toNat, 0, 2304]
def k0_off74 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v498 : Index := Scalar.indexCast v36
  let c3072 : Index := 3072#32
  let c0_234 : Index := 0#32
  ![v498.toNat, 3072, 0]
def k0_off75 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v515 : Index := Scalar.indexCast v36
  let c0_242 : Index := 0#32
  let c2560_243 : Index := 2560#32
  ![v515.toNat, 0, 2560]
def k0_off76 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v536 : Index := Scalar.indexCast v36
  let c3328 : Index := 3328#32
  let c0_251 : Index := 0#32
  ![v536.toNat, 3328, 0]
def k0_off77 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v553 : Index := Scalar.indexCast v36
  let c0_259 : Index := 0#32
  let c2816_260 : Index := 2816#32
  ![v553.toNat, 0, 2816]
def k0_off78 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v574 : Index := Scalar.indexCast v36
  let c3584 : Index := 3584#32
  let c0_268 : Index := 0#32
  ![v574.toNat, 3584, 0]
def k0_off79 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v591 : Index := Scalar.indexCast v36
  let c0_276 : Index := 0#32
  let c3072_277 : Index := 3072#32
  ![v591.toNat, 0, 3072]
def k0_off80 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v612 : Index := Scalar.indexCast v36
  let c3840 : Index := 3840#32
  let c0_285 : Index := 0#32
  ![v612.toNat, 3840, 0]
def k0_off81 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v629 : Index := Scalar.indexCast v36
  let c0_293 : Index := 0#32
  let c3328_294 : Index := 3328#32
  ![v629.toNat, 0, 3328]
def k0_mult6 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32_27 : BitVec 32 := 2#32
  let v53 : BitVec 32 := Scalar.muli arg13 c2_i32_27
  let c1_i32_28 : BitVec 32 := 1#32
  let v54 : BitVec 32 := Scalar.addi v53 c1_i32_28
  let c48_i32_29 : BitVec 32 := 48#32
  let v55 : BitVec 1 := Scalar.cmpi .slt v54 c48_i32_29
  let c8_i32_39 : BitVec 32 := 8#32
  let c0_i32_40 : BitVec 32 := 0#32
  let v76 : BitVec 1 := Scalar.cmpi .eq c8_i32_39 c0_i32_40
  let c1_i32_41 : BitVec 32 := 1#32
  let v77 : BitVec 32 := Scalar.select v76 c1_i32_41 c8_i32_39
  let v78 : BitVec 32 := Scalar.remsi v54 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c512_i32_45 : BitVec 32 := 512#32
  let v86 : BitVec 32 := Scalar.muli v85 c512_i32_45
  let c4096_i32_46 : BitVec 32 := 4096#32
  let v87 : BitVec 32 := Scalar.select v55 v86 c4096_i32_46
  let c0_i32_302 : BitVec 32 := 0#32
  let v650 : BitVec 32 := Scalar.addi v87 c0_i32_302
  v650
def k0_mult7 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32_27 : BitVec 32 := 2#32
  let v53 : BitVec 32 := Scalar.muli arg13 c2_i32_27
  let c1_i32_28 : BitVec 32 := 1#32
  let v54 : BitVec 32 := Scalar.addi v53 c1_i32_28
  let c48_i32_29 : BitVec 32 := 48#32
  let v55 : BitVec 1 := Scalar.cmpi .slt v54 c48_i32_29
  let c8_i32_39 : BitVec 32 := 8#32
  let c0_i32_40 : BitVec 32 := 0#32
  let v76 : BitVec 1 := Scalar.cmpi .eq c8_i32_39 c0_i32_40
  let c1_i32_41 : BitVec 32 := 1#32
  let v77 : BitVec 32 := Scalar.select v76 c1_i32_41 c8_i32_39
  let v78 : BitVec 32 := Scalar.remsi v54 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c512_i32_45 : BitVec 32 := 512#32
  let v86 : BitVec 32 := Scalar.muli v85 c512_i32_45
  let c4096_i32_46 : BitVec 32 := 4096#32
  let v87 : BitVec 32 := Scalar.select v55 v86 c4096_i32_46
  let c256_i32_308 : BitVec 32 := 256#32
  let v662 : BitVec 32 := Scalar.addi v87 c256_i32_308
  v662
def k0_off82 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v683 : Index := Scalar.indexCast v36
  let c0_317 : Index := 0#32
  let c3584_318 : Index := 3584#32
  ![v683.toNat, 0, 3584]
def k0_off83 (k0_t2 : Fin k0_t2_loop.trips) (c0_i32_12 : BitVec 32) : Fin 3 → Nat :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let v17 : BitVec 32 := Scalar.addi v16 c0_i32_12
  let c48_i32 : BitVec 32 := 48#32
  let v18 : BitVec 1 := Scalar.cmpi .slt v17 c48_i32
  let c0_i32_13 : BitVec 32 := 0#32
  let v20 : BitVec 1 := Scalar.cmpi .sgt v17 c0_i32_13
  let v21 : BitVec 32 := Scalar.extui v20
  let c0_i32_14 : BitVec 32 := 0#32
  let v22 : BitVec 1 := Scalar.cmpi .slt v17 c0_i32_14
  let v23 : BitVec 32 := Scalar.extui v22
  let v24 : BitVec 32 := Scalar.subi v21 v23
  let c8_i32 : BitVec 32 := 8#32
  let c0_i32_15 : BitVec 32 := 0#32
  let v25 : BitVec 1 := Scalar.cmpi .sgt c8_i32 c0_i32_15
  let v26 : BitVec 32 := Scalar.extui v25
  let c0_i32_16 : BitVec 32 := 0#32
  let v27 : BitVec 1 := Scalar.cmpi .slt c8_i32 c0_i32_16
  let v28 : BitVec 32 := Scalar.extui v27
  let v29 : BitVec 32 := Scalar.subi v26 v28
  let v30 : BitVec 1 := Scalar.cmpi .ne v24 v29
  let v31 : BitVec 32 := Scalar.remsi v17 c8_i32
  let c0_i32_17 : BitVec 32 := 0#32
  let v32 : BitVec 1 := Scalar.cmpi .ne v31 c0_i32_17
  let v33 : BitVec 1 := Scalar.andi v30 v32
  let v19 : BitVec 32 := Scalar.divsi v17 c8_i32
  let c1_i32_18 : BitVec 32 := 1#32
  let v34 : BitVec 32 := Scalar.subi v19 c1_i32_18
  let v35 : BitVec 32 := Scalar.select v33 v34 v19
  let c0_i32_19 : BitVec 32 := 0#32
  let v36 : BitVec 32 := Scalar.select v18 v35 c0_i32_19
  let v721 : Index := Scalar.indexCast v36
  let c0_335 : Index := 0#32
  let c3840_336 : Index := 3840#32
  ![v721.toNat, 0, 3840]
def k0_mult8 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let c0_i32_12 : BitVec 32 := 0#32
  let v17 : BitVec 32 := Scalar.addi v16 c0_i32_12
  let c48_i32 : BitVec 32 := 48#32
  let v18 : BitVec 1 := Scalar.cmpi .slt v17 c48_i32
  let c8_i32_21 : BitVec 32 := 8#32
  let c0_i32_22 : BitVec 32 := 0#32
  let v39 : BitVec 1 := Scalar.cmpi .eq c8_i32_21 c0_i32_22
  let c1_i32_23 : BitVec 32 := 1#32
  let v40 : BitVec 32 := Scalar.select v39 c1_i32_23 c8_i32_21
  let v41 : BitVec 32 := Scalar.remsi v17 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c512_i32 : BitVec 32 := 512#32
  let v49 : BitVec 32 := Scalar.muli v48 c512_i32
  let c4096_i32 : BitVec 32 := 4096#32
  let v50 : BitVec 32 := Scalar.select v18 v49 c4096_i32
  let c0_i32_353 : BitVec 32 := 0#32
  let v757 : BitVec 32 := Scalar.addi v50 c0_i32_353
  v757
def k0_mult9 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32 : BitVec 32 := 2#32
  let v16 : BitVec 32 := Scalar.muli arg13 c2_i32
  let c0_i32_12 : BitVec 32 := 0#32
  let v17 : BitVec 32 := Scalar.addi v16 c0_i32_12
  let c48_i32 : BitVec 32 := 48#32
  let v18 : BitVec 1 := Scalar.cmpi .slt v17 c48_i32
  let c8_i32_21 : BitVec 32 := 8#32
  let c0_i32_22 : BitVec 32 := 0#32
  let v39 : BitVec 1 := Scalar.cmpi .eq c8_i32_21 c0_i32_22
  let c1_i32_23 : BitVec 32 := 1#32
  let v40 : BitVec 32 := Scalar.select v39 c1_i32_23 c8_i32_21
  let v41 : BitVec 32 := Scalar.remsi v17 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c512_i32 : BitVec 32 := 512#32
  let v49 : BitVec 32 := Scalar.muli v48 c512_i32
  let c4096_i32 : BitVec 32 := 4096#32
  let v50 : BitVec 32 := Scalar.select v18 v49 c4096_i32
  let c256_i32_367 : BitVec 32 := 256#32
  let v789 : BitVec 32 := Scalar.addi v50 c256_i32_367
  v789
def k0_mult10 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32_27 : BitVec 32 := 2#32
  let v53 : BitVec 32 := Scalar.muli arg13 c2_i32_27
  let c1_i32_28 : BitVec 32 := 1#32
  let v54 : BitVec 32 := Scalar.addi v53 c1_i32_28
  let c48_i32_29 : BitVec 32 := 48#32
  let v55 : BitVec 1 := Scalar.cmpi .slt v54 c48_i32_29
  let c8_i32_39 : BitVec 32 := 8#32
  let c0_i32_40 : BitVec 32 := 0#32
  let v76 : BitVec 1 := Scalar.cmpi .eq c8_i32_39 c0_i32_40
  let c1_i32_41 : BitVec 32 := 1#32
  let v77 : BitVec 32 := Scalar.select v76 c1_i32_41 c8_i32_39
  let v78 : BitVec 32 := Scalar.remsi v54 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c512_i32_45 : BitVec 32 := 512#32
  let v86 : BitVec 32 := Scalar.muli v85 c512_i32_45
  let c4096_i32_46 : BitVec 32 := 4096#32
  let v87 : BitVec 32 := Scalar.select v55 v86 c4096_i32_46
  let c0_i32_657 : BitVec 32 := 0#32
  let v1409 : BitVec 32 := Scalar.addi v87 c0_i32_657
  v1409
def k0_mult11 (k0_t2 : Fin k0_t2_loop.trips) : BitVec 32 :=
  let c0_i32_4 : BitVec 32 := 0#32
  let c1_i32_5 : BitVec 32 := 1#32
  let arg13 : BitVec 32 := Scf.iv c0_i32_4 c1_i32_5 k0_t2
  let c2_i32_27 : BitVec 32 := 2#32
  let v53 : BitVec 32 := Scalar.muli arg13 c2_i32_27
  let c1_i32_28 : BitVec 32 := 1#32
  let v54 : BitVec 32 := Scalar.addi v53 c1_i32_28
  let c48_i32_29 : BitVec 32 := 48#32
  let v55 : BitVec 1 := Scalar.cmpi .slt v54 c48_i32_29
  let c8_i32_39 : BitVec 32 := 8#32
  let c0_i32_40 : BitVec 32 := 0#32
  let v76 : BitVec 1 := Scalar.cmpi .eq c8_i32_39 c0_i32_40
  let c1_i32_41 : BitVec 32 := 1#32
  let v77 : BitVec 32 := Scalar.select v76 c1_i32_41 c8_i32_39
  let v78 : BitVec 32 := Scalar.remsi v54 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c512_i32_45 : BitVec 32 := 512#32
  let v86 : BitVec 32 := Scalar.muli v85 c512_i32_45
  let c4096_i32_46 : BitVec 32 := 4096#32
  let v87 : BitVec 32 := Scalar.select v55 v86 c4096_i32_46
  let c256_i32_671 : BitVec 32 := 256#32
  let v1441 : BitVec 32 := Scalar.addi v87 c256_i32_671
  v1441
@[reducible] def k0_t3_loop : Scf.Loop 32 :=
  let c0_i32_12 : BitVec 32 := 0#32
  let c108_i32 : BitVec 32 := 108#32
  let v16 : BitVec 32 := Scalar.addi c0_i32_12 c108_i32
  let c1_i32_13 : BitVec 32 := 1#32
  ⟨c0_i32_12, v16, c1_i32_13⟩
def k0_mult12 (k0_t3 : Fin k0_t3_loop.trips) : BitVec 32 :=
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c0_i32_21 : BitVec 32 := 0#32
  let v36 : BitVec 1 := Scalar.cmpi .sgt v33 c0_i32_21
  let v37 : BitVec 32 := Scalar.extui v36
  let c0_i32_22 : BitVec 32 := 0#32
  let v38 : BitVec 1 := Scalar.cmpi .slt v33 c0_i32_22
  let v39 : BitVec 32 := Scalar.extui v38
  let v40 : BitVec 32 := Scalar.subi v37 v39
  let c8_i32 : BitVec 32 := 8#32
  let c0_i32_23 : BitVec 32 := 0#32
  let v41 : BitVec 1 := Scalar.cmpi .sgt c8_i32 c0_i32_23
  let v42 : BitVec 32 := Scalar.extui v41
  let c0_i32_24 : BitVec 32 := 0#32
  let v43 : BitVec 1 := Scalar.cmpi .slt c8_i32 c0_i32_24
  let v44 : BitVec 32 := Scalar.extui v43
  let v45 : BitVec 32 := Scalar.subi v42 v44
  let v46 : BitVec 1 := Scalar.cmpi .ne v40 v45
  let v47 : BitVec 32 := Scalar.remsi v33 c8_i32
  let c0_i32_25 : BitVec 32 := 0#32
  let v48 : BitVec 1 := Scalar.cmpi .ne v47 c0_i32_25
  let v49 : BitVec 1 := Scalar.andi v46 v48
  let v35 : BitVec 32 := Scalar.divsi v33 c8_i32
  let c1_i32_26 : BitVec 32 := 1#32
  let v50 : BitVec 32 := Scalar.subi v35 c1_i32_26
  let v51 : BitVec 32 := Scalar.select v49 v50 v35
  let c48_i32_28 : BitVec 32 := 48#32
  let v53 : BitVec 32 := Scalar.subi v33 c48_i32_28
  let v54 : BitVec 32 := Scalar.select v34 v51 v53
  let c32_i32 : BitVec 32 := 32#32
  let v67 : BitVec 32 := Scalar.muli v54 c32_i32
  v67
def k0_mult13 (k0_t3 : Fin k0_t3_loop.trips) : BitVec 32 :=
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c8_i32_29 : BitVec 32 := 8#32
  let c0_i32_30 : BitVec 32 := 0#32
  let v55 : BitVec 1 := Scalar.cmpi .eq c8_i32_29 c0_i32_30
  let c1_i32_31 : BitVec 32 := 1#32
  let v56 : BitVec 32 := Scalar.select v55 c1_i32_31 c8_i32_29
  let v57 : BitVec 32 := Scalar.remsi v33 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c512_i32 : BitVec 32 := 512#32
  let v65 : BitVec 32 := Scalar.muli v64 c512_i32
  let c4096_i32 : BitVec 32 := 4096#32
  let v66 : BitVec 32 := Scalar.select v34 v65 c4096_i32
  let c2_i32_35 : BitVec 32 := 2#32
  let c0_i32_36 : BitVec 32 := 0#32
  let v69 : BitVec 1 := Scalar.cmpi .eq c2_i32_35 c0_i32_36
  let c1_i32_37 : BitVec 32 := 1#32
  let v70 : BitVec 32 := Scalar.select v69 c1_i32_37 c2_i32_35
  let v71 : BitVec 32 := Scalar.remsi arg13 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c256_i32 : BitVec 32 := 256#32
  let v79 : BitVec 32 := Scalar.muli v78 c256_i32
  let v80 : BitVec 32 := Scalar.addi v66 v79
  v80
def k0_off84 (k0_t3 : Fin k0_t3_loop.trips) : Fin 4 → Nat :=
  let c0_41 : Index := 0#32
  let c0_42 : Index := 0#32
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c0_i32_21 : BitVec 32 := 0#32
  let v36 : BitVec 1 := Scalar.cmpi .sgt v33 c0_i32_21
  let v37 : BitVec 32 := Scalar.extui v36
  let c0_i32_22 : BitVec 32 := 0#32
  let v38 : BitVec 1 := Scalar.cmpi .slt v33 c0_i32_22
  let v39 : BitVec 32 := Scalar.extui v38
  let v40 : BitVec 32 := Scalar.subi v37 v39
  let c8_i32 : BitVec 32 := 8#32
  let c0_i32_23 : BitVec 32 := 0#32
  let v41 : BitVec 1 := Scalar.cmpi .sgt c8_i32 c0_i32_23
  let v42 : BitVec 32 := Scalar.extui v41
  let c0_i32_24 : BitVec 32 := 0#32
  let v43 : BitVec 1 := Scalar.cmpi .slt c8_i32 c0_i32_24
  let v44 : BitVec 32 := Scalar.extui v43
  let v45 : BitVec 32 := Scalar.subi v42 v44
  let v46 : BitVec 1 := Scalar.cmpi .ne v40 v45
  let v47 : BitVec 32 := Scalar.remsi v33 c8_i32
  let c0_i32_25 : BitVec 32 := 0#32
  let v48 : BitVec 1 := Scalar.cmpi .ne v47 c0_i32_25
  let v49 : BitVec 1 := Scalar.andi v46 v48
  let v35 : BitVec 32 := Scalar.divsi v33 c8_i32
  let c1_i32_26 : BitVec 32 := 1#32
  let v50 : BitVec 32 := Scalar.subi v35 c1_i32_26
  let v51 : BitVec 32 := Scalar.select v49 v50 v35
  let c48_i32_28 : BitVec 32 := 48#32
  let v53 : BitVec 32 := Scalar.subi v33 c48_i32_28
  let v54 : BitVec 32 := Scalar.select v34 v51 v53
  let c32_i32 : BitVec 32 := 32#32
  let v67 : BitVec 32 := Scalar.muli v54 c32_i32
  let v68 : BitVec 32 := v67
  let v82 : Index := Scalar.indexCast v68
  let c8_i32_29 : BitVec 32 := 8#32
  let c0_i32_30 : BitVec 32 := 0#32
  let v55 : BitVec 1 := Scalar.cmpi .eq c8_i32_29 c0_i32_30
  let c1_i32_31 : BitVec 32 := 1#32
  let v56 : BitVec 32 := Scalar.select v55 c1_i32_31 c8_i32_29
  let v57 : BitVec 32 := Scalar.remsi v33 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c512_i32 : BitVec 32 := 512#32
  let v65 : BitVec 32 := Scalar.muli v64 c512_i32
  let c4096_i32 : BitVec 32 := 4096#32
  let v66 : BitVec 32 := Scalar.select v34 v65 c4096_i32
  let c2_i32_35 : BitVec 32 := 2#32
  let c0_i32_36 : BitVec 32 := 0#32
  let v69 : BitVec 1 := Scalar.cmpi .eq c2_i32_35 c0_i32_36
  let c1_i32_37 : BitVec 32 := 1#32
  let v70 : BitVec 32 := Scalar.select v69 c1_i32_37 c2_i32_35
  let v71 : BitVec 32 := Scalar.remsi arg13 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c256_i32 : BitVec 32 := 256#32
  let v79 : BitVec 32 := Scalar.muli v78 c256_i32
  let v80 : BitVec 32 := Scalar.addi v66 v79
  let v81 : BitVec 32 := v80
  let v83 : Index := Scalar.indexCast v81
  ![0, 0, v82.toNat, v83.toNat]
@[reducible] def k0_t4_loop : Scf.Loop 32 :=
  let c0_i32_44 : BitVec 32 := 0#32
  let c16_i32 : BitVec 32 := 16#32
  let v88 : BitVec 32 := Scalar.addi c0_i32_44 c16_i32
  let c1_i32_45 : BitVec 32 := 1#32
  ⟨c0_i32_44, v88, c1_i32_45⟩
def k0_mult14 (k0_t4 : Fin k0_t4_loop.trips) : BitVec 32 :=
  let c0_i32_44 : BitVec 32 := 0#32
  let c1_i32_45 : BitVec 32 := 1#32
  let arg14 : BitVec 32 := Scf.iv c0_i32_44 c1_i32_45 k0_t4
  let c256_i32_63 : BitVec 32 := 256#32
  let v141 : BitVec 32 := Scalar.muli arg14 c256_i32_63
  v141
def k0_off85 (k0_t3 : Fin k0_t3_loop.trips) (k0_t4 : Fin k0_t4_loop.trips) : Fin 3 → Nat :=
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c0_i32_21 : BitVec 32 := 0#32
  let v36 : BitVec 1 := Scalar.cmpi .sgt v33 c0_i32_21
  let v37 : BitVec 32 := Scalar.extui v36
  let c0_i32_22 : BitVec 32 := 0#32
  let v38 : BitVec 1 := Scalar.cmpi .slt v33 c0_i32_22
  let v39 : BitVec 32 := Scalar.extui v38
  let v40 : BitVec 32 := Scalar.subi v37 v39
  let c8_i32 : BitVec 32 := 8#32
  let c0_i32_23 : BitVec 32 := 0#32
  let v41 : BitVec 1 := Scalar.cmpi .sgt c8_i32 c0_i32_23
  let v42 : BitVec 32 := Scalar.extui v41
  let c0_i32_24 : BitVec 32 := 0#32
  let v43 : BitVec 1 := Scalar.cmpi .slt c8_i32 c0_i32_24
  let v44 : BitVec 32 := Scalar.extui v43
  let v45 : BitVec 32 := Scalar.subi v42 v44
  let v46 : BitVec 1 := Scalar.cmpi .ne v40 v45
  let v47 : BitVec 32 := Scalar.remsi v33 c8_i32
  let c0_i32_25 : BitVec 32 := 0#32
  let v48 : BitVec 1 := Scalar.cmpi .ne v47 c0_i32_25
  let v49 : BitVec 1 := Scalar.andi v46 v48
  let v35 : BitVec 32 := Scalar.divsi v33 c8_i32
  let c1_i32_26 : BitVec 32 := 1#32
  let v50 : BitVec 32 := Scalar.subi v35 c1_i32_26
  let v51 : BitVec 32 := Scalar.select v49 v50 v35
  let c0_i32_27 : BitVec 32 := 0#32
  let v52 : BitVec 32 := Scalar.select v34 v51 c0_i32_27
  let v144 : Index := Scalar.indexCast v52
  let c0_i32_44 : BitVec 32 := 0#32
  let c1_i32_45 : BitVec 32 := 1#32
  let arg14 : BitVec 32 := Scf.iv c0_i32_44 c1_i32_45 k0_t4
  let c256_i32_63 : BitVec 32 := 256#32
  let v141 : BitVec 32 := Scalar.muli arg14 c256_i32_63
  let v142 : BitVec 32 := v141
  let v145 : Index := Scalar.indexCast v142
  let c0_64 : Index := 0#32
  ![v144.toNat, v145.toNat, 0]
@[reducible] def k0_t5_loop : Scf.Loop 32 :=
  let c0_i32_54 : BitVec 32 := 0#32
  let c16_i32_55 : BitVec 32 := 16#32
  let v121 : BitVec 32 := Scalar.addi c0_i32_54 c16_i32_55
  let c1_i32_56 : BitVec 32 := 1#32
  ⟨c0_i32_54, v121, c1_i32_56⟩
def k0_mult15 (k0_t5 : Fin k0_t5_loop.trips) : BitVec 32 :=
  let c0_i32_54 : BitVec 32 := 0#32
  let c1_i32_56 : BitVec 32 := 1#32
  let arg14 : BitVec 32 := Scf.iv c0_i32_54 c1_i32_56 k0_t5
  let c256_i32_63 : BitVec 32 := 256#32
  let v141 : BitVec 32 := Scalar.muli arg14 c256_i32_63
  v141
def k0_mult16 (k0_t5 : Fin k0_t5_loop.trips) : BitVec 32 :=
  let c0_i32_54 : BitVec 32 := 0#32
  let c1_i32_56 : BitVec 32 := 1#32
  let arg14 : BitVec 32 := Scf.iv c0_i32_54 c1_i32_56 k0_t5
  let c256_i32_64 : BitVec 32 := 256#32
  let v143 : BitVec 32 := Scalar.muli arg14 c256_i32_64
  v143
def k0_off86 (k0_t3 : Fin k0_t3_loop.trips) (k0_t5 : Fin k0_t5_loop.trips) : Fin 3 → Nat :=
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c0_i32_21 : BitVec 32 := 0#32
  let v36 : BitVec 1 := Scalar.cmpi .sgt v33 c0_i32_21
  let v37 : BitVec 32 := Scalar.extui v36
  let c0_i32_22 : BitVec 32 := 0#32
  let v38 : BitVec 1 := Scalar.cmpi .slt v33 c0_i32_22
  let v39 : BitVec 32 := Scalar.extui v38
  let v40 : BitVec 32 := Scalar.subi v37 v39
  let c8_i32 : BitVec 32 := 8#32
  let c0_i32_23 : BitVec 32 := 0#32
  let v41 : BitVec 1 := Scalar.cmpi .sgt c8_i32 c0_i32_23
  let v42 : BitVec 32 := Scalar.extui v41
  let c0_i32_24 : BitVec 32 := 0#32
  let v43 : BitVec 1 := Scalar.cmpi .slt c8_i32 c0_i32_24
  let v44 : BitVec 32 := Scalar.extui v43
  let v45 : BitVec 32 := Scalar.subi v42 v44
  let v46 : BitVec 1 := Scalar.cmpi .ne v40 v45
  let v47 : BitVec 32 := Scalar.remsi v33 c8_i32
  let c0_i32_25 : BitVec 32 := 0#32
  let v48 : BitVec 1 := Scalar.cmpi .ne v47 c0_i32_25
  let v49 : BitVec 1 := Scalar.andi v46 v48
  let v35 : BitVec 32 := Scalar.divsi v33 c8_i32
  let c1_i32_26 : BitVec 32 := 1#32
  let v50 : BitVec 32 := Scalar.subi v35 c1_i32_26
  let v51 : BitVec 32 := Scalar.select v49 v50 v35
  let c0_i32_27 : BitVec 32 := 0#32
  let v52 : BitVec 32 := Scalar.select v34 v51 c0_i32_27
  let v145 : Index := Scalar.indexCast v52
  let c0_i32_54 : BitVec 32 := 0#32
  let c1_i32_56 : BitVec 32 := 1#32
  let arg14 : BitVec 32 := Scf.iv c0_i32_54 c1_i32_56 k0_t5
  let c256_i32_64 : BitVec 32 := 256#32
  let v143 : BitVec 32 := Scalar.muli arg14 c256_i32_64
  let v144 : BitVec 32 := v143
  let v146 : Index := Scalar.indexCast v144
  let c0_65 : Index := 0#32
  ![v145.toNat, v146.toNat, 0]
def k0_off87 (k0_t3 : Fin k0_t3_loop.trips) (k0_t5 : Fin k0_t5_loop.trips) : Fin 3 → Nat :=
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c0_i32_21 : BitVec 32 := 0#32
  let v36 : BitVec 1 := Scalar.cmpi .sgt v33 c0_i32_21
  let v37 : BitVec 32 := Scalar.extui v36
  let c0_i32_22 : BitVec 32 := 0#32
  let v38 : BitVec 1 := Scalar.cmpi .slt v33 c0_i32_22
  let v39 : BitVec 32 := Scalar.extui v38
  let v40 : BitVec 32 := Scalar.subi v37 v39
  let c8_i32 : BitVec 32 := 8#32
  let c0_i32_23 : BitVec 32 := 0#32
  let v41 : BitVec 1 := Scalar.cmpi .sgt c8_i32 c0_i32_23
  let v42 : BitVec 32 := Scalar.extui v41
  let c0_i32_24 : BitVec 32 := 0#32
  let v43 : BitVec 1 := Scalar.cmpi .slt c8_i32 c0_i32_24
  let v44 : BitVec 32 := Scalar.extui v43
  let v45 : BitVec 32 := Scalar.subi v42 v44
  let v46 : BitVec 1 := Scalar.cmpi .ne v40 v45
  let v47 : BitVec 32 := Scalar.remsi v33 c8_i32
  let c0_i32_25 : BitVec 32 := 0#32
  let v48 : BitVec 1 := Scalar.cmpi .ne v47 c0_i32_25
  let v49 : BitVec 1 := Scalar.andi v46 v48
  let v35 : BitVec 32 := Scalar.divsi v33 c8_i32
  let c1_i32_26 : BitVec 32 := 1#32
  let v50 : BitVec 32 := Scalar.subi v35 c1_i32_26
  let v51 : BitVec 32 := Scalar.select v49 v50 v35
  let c0_i32_27 : BitVec 32 := 0#32
  let v52 : BitVec 32 := Scalar.select v34 v51 c0_i32_27
  let v160 : Index := Scalar.indexCast v52
  let c0_69 : Index := 0#32
  let c0_i32_54 : BitVec 32 := 0#32
  let c1_i32_56 : BitVec 32 := 1#32
  let arg14 : BitVec 32 := Scf.iv c0_i32_54 c1_i32_56 k0_t5
  let c256_i32_63 : BitVec 32 := 256#32
  let v141 : BitVec 32 := Scalar.muli arg14 c256_i32_63
  let v142 : BitVec 32 := v141
  let v161 : Index := Scalar.indexCast v142
  ![v160.toNat, 0, v161.toNat]
def k0_mult17 (k0_t3 : Fin k0_t3_loop.trips) : BitVec 32 :=
  let c0_i32_12 : BitVec 32 := 0#32
  let c1_i32_13 : BitVec 32 := 1#32
  let arg13 : BitVec 32 := Scf.iv c0_i32_12 c1_i32_13 k0_t3
  let c0_i32_15 : BitVec 32 := 0#32
  let v18 : BitVec 1 := Scalar.cmpi .sgt arg13 c0_i32_15
  let v19 : BitVec 32 := Scalar.extui v18
  let c0_i32_16 : BitVec 32 := 0#32
  let v20 : BitVec 1 := Scalar.cmpi .slt arg13 c0_i32_16
  let v21 : BitVec 32 := Scalar.extui v20
  let v22 : BitVec 32 := Scalar.subi v19 v21
  let c2_i32 : BitVec 32 := 2#32
  let c0_i32_17 : BitVec 32 := 0#32
  let v23 : BitVec 1 := Scalar.cmpi .sgt c2_i32 c0_i32_17
  let v24 : BitVec 32 := Scalar.extui v23
  let c0_i32_18 : BitVec 32 := 0#32
  let v25 : BitVec 1 := Scalar.cmpi .slt c2_i32 c0_i32_18
  let v26 : BitVec 32 := Scalar.extui v25
  let v27 : BitVec 32 := Scalar.subi v24 v26
  let v28 : BitVec 1 := Scalar.cmpi .ne v22 v27
  let v29 : BitVec 32 := Scalar.remsi arg13 c2_i32
  let c0_i32_19 : BitVec 32 := 0#32
  let v30 : BitVec 1 := Scalar.cmpi .ne v29 c0_i32_19
  let v31 : BitVec 1 := Scalar.andi v28 v30
  let v17 : BitVec 32 := Scalar.divsi arg13 c2_i32
  let c1_i32_20 : BitVec 32 := 1#32
  let v32 : BitVec 32 := Scalar.subi v17 c1_i32_20
  let v33 : BitVec 32 := Scalar.select v31 v32 v17
  let c48_i32 : BitVec 32 := 48#32
  let v34 : BitVec 1 := Scalar.cmpi .slt v33 c48_i32
  let c8_i32_29 : BitVec 32 := 8#32
  let c0_i32_30 : BitVec 32 := 0#32
  let v55 : BitVec 1 := Scalar.cmpi .eq c8_i32_29 c0_i32_30
  let c1_i32_31 : BitVec 32 := 1#32
  let v56 : BitVec 32 := Scalar.select v55 c1_i32_31 c8_i32_29
  let v57 : BitVec 32 := Scalar.remsi v33 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c512_i32 : BitVec 32 := 512#32
  let v65 : BitVec 32 := Scalar.muli v64 c512_i32
  let c4096_i32 : BitVec 32 := 4096#32
  let v66 : BitVec 32 := Scalar.select v34 v65 c4096_i32
  let c2_i32_35 : BitVec 32 := 2#32
  let c0_i32_36 : BitVec 32 := 0#32
  let v69 : BitVec 1 := Scalar.cmpi .eq c2_i32_35 c0_i32_36
  let c1_i32_37 : BitVec 32 := 1#32
  let v70 : BitVec 32 := Scalar.select v69 c1_i32_37 c2_i32_35
  let v71 : BitVec 32 := Scalar.remsi arg13 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c256_i32 : BitVec 32 := 256#32
  let v79 : BitVec 32 := Scalar.muli v78 c256_i32
  let v80 : BitVec 32 := Scalar.addi v66 v79
  v80
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x192x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x192x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x192x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x6x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x192x4608 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RowRefIdeal.lean ====
abbrev S2x6 : Shape := ⟨2, ![2, 6]⟩
abbrev S3x9x192x4608 : Shape := ⟨4, ![3, 9, 192, 4608]⟩
abbrev S2x3x9x192x4096 : Shape := ⟨5, ![2, 3, 9, 192, 4096]⟩
abbrev S2x3x9x6x4096 : Shape := ⟨5, ![2, 3, 9, 6, 4096]⟩
abbrev S3x4608x9x192 : Shape := ⟨4, ![3, 4608, 9, 192]⟩
abbrev S3x4608x9x6x32 : Shape := ⟨5, ![3, 4608, 9, 6, 32]⟩
abbrev S1x3x9x192x4096 : Shape := ⟨5, ![1, 3, 9, 192, 4096]⟩
abbrev S3x9x192x4096 : Shape := ⟨4, ![3, 9, 192, 4096]⟩
abbrev S3x4096x9x192 : Shape := ⟨4, ![3, 4096, 9, 192]⟩
abbrev S3x4096x9x6x32 : Shape := ⟨5, ![3, 4096, 9, 6, 32]⟩
abbrev S1x3x9x6x4096 : Shape := ⟨5, ![1, 3, 9, 6, 4096]⟩
abbrev S3x9x6x4096 : Shape := ⟨4, ![3, 9, 6, 4096]⟩
abbrev S3x4096x9x6 : Shape := ⟨4, ![3, 4096, 9, 6]⟩
abbrev S3x4096x9x6x1x32 : Shape := ⟨6, ![3, 4096, 9, 6, 1, 32]⟩
abbrev S3x9x6x1x1x4096 : Shape := ⟨6, ![3, 9, 6, 1, 1, 4096]⟩
abbrev S3x9x6x4096x4096x1 : Shape := ⟨6, ![3, 9, 6, 4096, 4096, 1]⟩
abbrev S3x9x6x1x4096x4096 : Shape := ⟨6, ![3, 9, 6, 1, 4096, 4096]⟩
abbrev S_ : Shape := ⟨0, ![]⟩
abbrev S3x9x6x1x4096 : Shape := ⟨5, ![3, 9, 6, 1, 4096]⟩
abbrev S3x9x6x1x4096x1 : Shape := ⟨6, ![3, 9, 6, 1, 4096, 1]⟩
abbrev S3x9x6x32x1x4096 : Shape := ⟨6, ![3, 9, 6, 32, 1, 4096]⟩
abbrev S3x4096x9x6x1 : Shape := ⟨5, ![3, 4096, 9, 6, 1]⟩
abbrev S3x4096x9x6x1x1 : Shape := ⟨6, ![3, 4096, 9, 6, 1, 1]⟩
abbrev S3x512x9x6x32 : Shape := ⟨5, ![3, 512, 9, 6, 32]⟩
abbrev S3x512x9x1x6x32 : Shape := ⟨6, ![3, 512, 9, 1, 6, 32]⟩
abbrev S3x4096x9x1x32 : Shape := ⟨5, ![3, 4096, 9, 1, 32]⟩
abbrev S3x4096x9x1 : Shape := ⟨4, ![3, 4096, 9, 1]⟩
abbrev S3x9x1x4096 : Shape := ⟨4, ![3, 9, 1, 4096]⟩
abbrev S3x9x1x1x1x4096 : Shape := ⟨6, ![3, 9, 1, 1, 1, 4096]⟩
abbrev S3x9x1x4096x512x6 : Shape := ⟨6, ![3, 9, 1, 4096, 512, 6]⟩
abbrev S3x9x1x6x512x4096 : Shape := ⟨6, ![3, 9, 1, 6, 512, 4096]⟩
abbrev S3x9x1x6x512 : Shape := ⟨5, ![3, 9, 1, 6, 512]⟩
abbrev S3x9x1x6x512x1 : Shape := ⟨6, ![3, 9, 1, 6, 512, 1]⟩
abbrev S3x9x1x32x6x512 : Shape := ⟨6, ![3, 9, 1, 32, 6, 512]⟩
abbrev S3x512x9x1x6 : Shape := ⟨5, ![3, 512, 9, 1, 6]⟩
abbrev S3x512x9x1x6x1 : Shape := ⟨6, ![3, 512, 9, 1, 6, 1]⟩
abbrev S3x512x9x192 : Shape := ⟨4, ![3, 512, 9, 192]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S2x6, .f32⟩
  | .hbm, ⟨1, _⟩ => ⟨S3x9x192x4608, .bf16⟩
  | .hbm, ⟨2, _⟩ => ⟨S2x3x9x192x4096, .i8⟩
  | .hbm, ⟨3, _⟩ => ⟨S2x3x9x6x4096, .f32⟩
  | .hbm, ⟨4, _⟩ => ⟨S2x3x9x192x4096, .i8⟩
  | .hbm, ⟨5, _⟩ => ⟨S2x3x9x6x4096, .f32⟩
  | .hbm, ⟨6, _⟩ => ⟨S3x4608x9x192, .bf16⟩
  | .hbm, ⟨7, _⟩ => ⟨S3x4608x9x6x32, .bf16⟩
  | .hbm, ⟨8, _⟩ => ⟨S1x3x9x192x4096, .i8⟩
  | .hbm, ⟨9, _⟩ => ⟨S3x9x192x4096, .i8⟩
  | .hbm, ⟨10, _⟩ => ⟨S3x4096x9x192, .i8⟩
  | .hbm, ⟨11, _⟩ => ⟨S3x4096x9x6x32, .i8⟩
  | .hbm, ⟨12, _⟩ => ⟨S1x3x9x192x4096, .i8⟩
  | .hbm, ⟨13, _⟩ => ⟨S3x9x192x4096, .i8⟩
  | .hbm, ⟨14, _⟩ => ⟨S3x4096x9x192, .i8⟩
  | .hbm, ⟨15, _⟩ => ⟨S3x4096x9x6x32, .i8⟩
  | .hbm, ⟨16, _⟩ => ⟨S1x3x9x6x4096, .f32⟩
  | .hbm, ⟨17, _⟩ => ⟨S3x9x6x4096, .f32⟩
  | .hbm, ⟨18, _⟩ => ⟨S3x4096x9x6, .f32⟩
  | .hbm, ⟨19, _⟩ => ⟨S1x3x9x6x4096, .f32⟩
  | .hbm, ⟨20, _⟩ => ⟨S3x9x6x4096, .f32⟩
  | .hbm, ⟨21, _⟩ => ⟨S3x4096x9x6, .f32⟩
  | .hbm, ⟨22, _⟩ => ⟨S3x4096x9x6x32, .bf16⟩
  | .hbm, ⟨23, _⟩ => ⟨S3x4096x9x6x1x32, .bf16⟩
  | .hbm, ⟨24, _⟩ => ⟨S3x4096x9x6x32, .i32⟩
  | .hbm, ⟨25, _⟩ => ⟨S3x4096x9x6x32, .f32⟩
  | .hbm, ⟨26, _⟩ => ⟨S3x4096x9x6x32, .bf16⟩
  | .hbm, ⟨27, _⟩ => ⟨S3x4096x9x6x32, .i32⟩
  | .hbm, ⟨28, _⟩ => ⟨S3x4096x9x6x32, .f32⟩
  | .hbm, ⟨29, _⟩ => ⟨S3x4096x9x6x32, .bf16⟩
  | .hbm, ⟨30, _⟩ => ⟨S3x9x6x4096, .f32⟩
  | .hbm, ⟨31, _⟩ => ⟨S3x9x6x1x1x4096, .f32⟩
  | .hbm, ⟨32, _⟩ => ⟨S3x9x6x4096, .f32⟩
  | .hbm, ⟨33, _⟩ => ⟨S3x9x6x1x1x4096, .f32⟩
  | .hbm, ⟨34, _⟩ => ⟨S3x9x6x4096x4096x1, .f32⟩
  | .hbm, ⟨35, _⟩ => ⟨S3x9x6x1x4096x4096, .f32⟩
  | .hbm, ⟨36, _⟩ => ⟨S3x9x6x1x4096x4096, .f32⟩
  | .hbm, ⟨37, _⟩ => ⟨S3x9x6x1x4096x4096, .f32⟩
  | .hbm, ⟨38, _⟩ => ⟨S_, .f32⟩
  | .hbm, ⟨39, _⟩ => ⟨S3x9x6x1x4096x4096, .f32⟩
  | .hbm, ⟨40, _⟩ => ⟨S3x9x6x1x4096x4096, .f32⟩
  | .hbm, ⟨41, _⟩ => ⟨S_, .f32⟩
  | .hbm, ⟨42, _⟩ => ⟨S3x9x6x1x4096x4096, .f32⟩
  | .hbm, ⟨43, _⟩ => ⟨S_, .f32⟩
  | .hbm, ⟨44, _⟩ => ⟨S3x9x6x1x4096, .f32⟩
  | .hbm, ⟨45, _⟩ => ⟨S3x9x6x1x4096x1, .f32⟩
  | .hbm, ⟨46, _⟩ => ⟨S3x9x6x1x4096x1, .f32⟩
  | .hbm, ⟨47, _⟩ => ⟨S3x9x6x1x4096x4096, .f32⟩
  | .hbm, ⟨48, _⟩ => ⟨S3x9x6x1x4096x4096, .f32⟩
  | .hbm, ⟨49, _⟩ => ⟨S3x9x6x1x4096x4096, .f32⟩
  | .hbm, ⟨50, _⟩ => ⟨S_, .f32⟩
  | .hbm, ⟨51, _⟩ => ⟨S3x9x6x1x4096, .f32⟩
  | .hbm, ⟨52, _⟩ => ⟨S3x9x6x1x4096x4096, .f32⟩
  | .hbm, ⟨53, _⟩ => ⟨S3x9x6x1x4096x4096, .f32⟩
  | .hbm, ⟨54, _⟩ => ⟨S3x9x6x1x4096x4096, .bf16⟩
  | .hbm, ⟨55, _⟩ => ⟨S3x9x6x32x1x4096, .f32⟩
  | .hbm, ⟨56, _⟩ => ⟨S3x4096x9x6x1x32, .f32⟩
  | .hbm, ⟨57, _⟩ => ⟨S3x4096x9x6x1, .f32⟩
  | .hbm, ⟨58, _⟩ => ⟨S3x4096x9x6x1x1, .f32⟩
  | .hbm, ⟨59, _⟩ => ⟨S3x4096x9x6x1x32, .f32⟩
  | .hbm, ⟨60, _⟩ => ⟨S3x4096x9x6x1x32, .f32⟩
  | .hbm, ⟨61, _⟩ => ⟨S3x4096x9x192, .f32⟩
  | .hbm, ⟨62, _⟩ => ⟨S3x512x9x6x32, .bf16⟩
  | .hbm, ⟨63, _⟩ => ⟨S3x512x9x1x6x32, .bf16⟩
  | .hbm, ⟨64, _⟩ => ⟨S3x4096x9x1x32, .i8⟩
  | .hbm, ⟨65, _⟩ => ⟨S3x4096x9x1, .f32⟩
  | .hbm, ⟨66, _⟩ => ⟨S3x4096x9x1x32, .i8⟩
  | .hbm, ⟨67, _⟩ => ⟨S3x4096x9x1, .f32⟩
  | .hbm, ⟨68, _⟩ => ⟨S3x4096x9x1x32, .i32⟩
  | .hbm, ⟨69, _⟩ => ⟨S3x4096x9x1x32, .f32⟩
  | .hbm, ⟨70, _⟩ => ⟨S3x4096x9x1x32, .bf16⟩
  | .hbm, ⟨71, _⟩ => ⟨S3x4096x9x1x32, .i32⟩
  | .hbm, ⟨72, _⟩ => ⟨S3x4096x9x1x32, .f32⟩
  | .hbm, ⟨73, _⟩ => ⟨S3x4096x9x1x32, .bf16⟩
  | .hbm, ⟨74, _⟩ => ⟨S3x9x1x4096, .f32⟩
  | .hbm, ⟨75, _⟩ => ⟨S3x9x1x1x1x4096, .f32⟩
  | .hbm, ⟨76, _⟩ => ⟨S3x9x1x4096, .f32⟩
  | .hbm, ⟨77, _⟩ => ⟨S3x9x1x1x1x4096, .f32⟩
  | .hbm, ⟨78, _⟩ => ⟨S3x9x1x4096x512x6, .f32⟩
  | .hbm, ⟨79, _⟩ => ⟨S3x9x1x6x512x4096, .f32⟩
  | .hbm, ⟨80, _⟩ => ⟨S3x9x1x6x512x4096, .f32⟩
  | .hbm, ⟨81, _⟩ => ⟨S3x9x1x6x512x4096, .f32⟩
  | .hbm, ⟨82, _⟩ => ⟨S_, .f32⟩
  | .hbm, ⟨83, _⟩ => ⟨S3x9x1x6x512x4096, .f32⟩
  | .hbm, ⟨84, _⟩ => ⟨S3x9x1x6x512x4096, .f32⟩
  | .hbm, ⟨85, _⟩ => ⟨S_, .f32⟩
  | .hbm, ⟨86, _⟩ => ⟨S3x9x1x6x512x4096, .f32⟩
  | .hbm, ⟨87, _⟩ => ⟨S_, .f32⟩
  | .hbm, ⟨88, _⟩ => ⟨S3x9x1x6x512, .f32⟩
  | .hbm, ⟨89, _⟩ => ⟨S3x9x1x6x512x1, .f32⟩
  | .hbm, ⟨90, _⟩ => ⟨S3x9x1x6x512x1, .f32⟩
  | .hbm, ⟨91, _⟩ => ⟨S3x9x1x6x512x4096, .f32⟩
  | .hbm, ⟨92, _⟩ => ⟨S3x9x1x6x512x4096, .f32⟩
  | .hbm, ⟨93, _⟩ => ⟨S3x9x1x6x512x4096, .f32⟩
  | .hbm, ⟨94, _⟩ => ⟨S_, .f32⟩
  | .hbm, ⟨95, _⟩ => ⟨S3x9x1x6x512, .f32⟩
  | .hbm, ⟨96, _⟩ => ⟨S3x9x1x6x512x4096, .f32⟩
  | .hbm, ⟨97, _⟩ => ⟨S3x9x1x6x512x4096, .f32⟩
  | .hbm, ⟨98, _⟩ => ⟨S3x9x1x6x512x4096, .bf16⟩
  | .hbm, ⟨99, _⟩ => ⟨S3x9x1x32x6x512, .f32⟩
  | .hbm, ⟨100, _⟩ => ⟨S3x512x9x1x6x32, .f32⟩
  | .hbm, ⟨101, _⟩ => ⟨S3x512x9x1x6, .f32⟩
  | .hbm, ⟨102, _⟩ => ⟨S3x512x9x1x6x1, .f32⟩
  | .hbm, ⟨103, _⟩ => ⟨S3x512x9x1x6x32, .f32⟩
  | .hbm, ⟨104, _⟩ => ⟨S3x512x9x1x6x32, .f32⟩
  | .hbm, ⟨105, _⟩ => ⟨S3x512x9x192, .f32⟩
  | .hbm, ⟨106, _⟩ => ⟨S3x4608x9x192, .f32⟩
  | .hbm, ⟨107, _⟩ => ⟨S1x1, .f32⟩
  | .hbm, ⟨108, _⟩ => ⟨S_, .f32⟩
  | .hbm, ⟨109, _⟩ => ⟨S3x4608x9x192, .f32⟩
  | .hbm, ⟨110, _⟩ => ⟨S3x4608x9x192, .f32⟩
  | .hbm, ⟨111, _⟩ => ⟨S3x4608x9x192, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S3x4608x9x192, .f32⟩
  | .hbm, ⟨116, _⟩ => ⟨S3x4608x9x192, .f32⟩
  | .hbm, ⟨117, _⟩ => ⟨S_, .f32⟩
  | .hbm, ⟨118, _⟩ => ⟨S3x4608x9x192, .f32⟩
  | .hbm, ⟨119, _⟩ => ⟨S3x4608x9x192, .f32⟩
  | .hbm, ⟨120, _⟩ => ⟨S3x9x192x4608, .f32⟩
  | .hbm, ⟨121, _⟩ => ⟨S3x9x192x4608, .i32⟩
  | .hbm, ⟨122, _⟩ => ⟨S3x9x192x4608, .i8⟩
  | _, _ => ⟨S2x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_3 : Ref sig .tc := ⟨.hbm, 82, rfl⟩
abbrev main_v72 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_7 : Ref sig .tc := ⟨.hbm, 112, rfl⟩
abbrev main_cst_8 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩

abbrev nD : Nat := 1
abbrev τ : Topo := Topo.v7x

variable {F : FTy → Type} [FloatOps F]
-- ==== Mlp.lean ====
abbrev S2x6 : Shape := ⟨2, ![2, 6]⟩
abbrev S3x9x192x4608 : Shape := ⟨4, ![3, 9, 192, 4608]⟩
abbrev S2x6x32x192 : Shape := ⟨4, ![2, 6, 32, 192]⟩
abbrev S2x192 : Shape := ⟨2, ![2, 192]⟩
abbrev S2x192x768 : Shape := ⟨3, ![2, 192, 768]⟩
abbrev S2x768 : Shape := ⟨2, ![2, 768]⟩
abbrev S2x768x192 : Shape := ⟨3, ![2, 768, 192]⟩
abbrev S1x6 : Shape := ⟨2, ![1, 6]⟩
abbrev S6 : Shape := ⟨1, ![6]⟩
abbrev S1x6x32x192 : Shape := ⟨4, ![1, 6, 32, 192]⟩
abbrev S6x32x192 : Shape := ⟨3, ![6, 32, 192]⟩
abbrev S192x192 : Shape := ⟨2, ![192, 192]⟩
abbrev S1 : Shape := ⟨1, ![1]⟩
abbrev S_ : Shape := ⟨0, ![]⟩
abbrev S1x192 : Shape := ⟨2, ![1, 192]⟩
abbrev S192 : Shape := ⟨1, ![192]⟩
abbrev S192x1 : Shape := ⟨2, ![192, 1]⟩
abbrev S192x128 : Shape := ⟨2, ![192, 128]⟩
abbrev S1x192x768 : Shape := ⟨3, ![1, 192, 768]⟩
abbrev S192x768 : Shape := ⟨2, ![192, 768]⟩
abbrev S768x192 : Shape := ⟨2, ![768, 192]⟩
abbrev S1x768 : Shape := ⟨2, ![1, 768]⟩
abbrev S768 : Shape := ⟨1, ![768]⟩
abbrev S768x1 : Shape := ⟨2, ![768, 1]⟩
abbrev S768x128 : Shape := ⟨2, ![768, 128]⟩
abbrev S1x768x192 : Shape := ⟨3, ![1, 768, 192]⟩
abbrev S2x3x9x192x4608 : Shape := ⟨5, ![2, 3, 9, 192, 4608]⟩
abbrev S3x9x768x4608 : Shape := ⟨4, ![3, 9, 768, 4608]⟩
abbrev S1x1x192x512 : Shape := ⟨4, ![1, 1, 192, 512]⟩
abbrev S1x1x1x192x512 : Shape := ⟨5, ![1, 1, 1, 192, 512]⟩
abbrev S1x1x768x512 : Shape := ⟨4, ![1, 1, 768, 512]⟩
abbrev S1x1 : Shape := ⟨2, ![1, 1]⟩
abbrev S192x512 : Shape := ⟨2, ![192, 512]⟩
abbrev S512 : Shape := ⟨1, ![512]⟩
abbrev S1x512 : Shape := ⟨2, ![1, 512]⟩
abbrev S768x512 : Shape := ⟨2, ![768, 512]⟩

abbrev nBuf : Space → Nat
  | .hbm => 57
  | .vmem => 16
  | .smem => 1
  | _ => 0

abbrev bufTy : (tb : Table) → Fin (tcTables nBuf tb) → BufTy
  | .hbm, ⟨0, _⟩ => ⟨S2x6, .f32⟩
  | .hbm, ⟨1, _⟩ => ⟨S3x9x192x4608, .i8⟩
  | .hbm, ⟨2, _⟩ => ⟨S3x9x192x4608, .f32⟩
  | .hbm, ⟨3, _⟩ => ⟨S2x6x32x192, .i8⟩
  | .hbm, ⟨4, _⟩ => ⟨S2x192, .f32⟩
  | .hbm, ⟨5, _⟩ => ⟨S2x192x768, .i8⟩
  | .hbm, ⟨6, _⟩ => ⟨S2x768, .f32⟩
  | .hbm, ⟨7, _⟩ => ⟨S2x768x192, .i8⟩
  | .hbm, ⟨8, _⟩ => ⟨S2x192, .f32⟩
  | .hbm, ⟨9, _⟩ => ⟨S1x6, .f32⟩
  | .hbm, ⟨10, _⟩ => ⟨S6, .f32⟩
  | .hbm, ⟨11, _⟩ => ⟨S1x6x32x192, .i8⟩
  | .hbm, ⟨12, _⟩ => ⟨S6x32x192, .i8⟩
  | .hbm, ⟨13, _⟩ => ⟨S192x192, .i8⟩
  | .hbm, ⟨14, _⟩ => ⟨S192x192, .i8⟩
  | .hbm, ⟨15, _⟩ => ⟨S192x192, .i32⟩
  | .hbm, ⟨16, _⟩ => ⟨S192x192, .f32⟩
  | .hbm, ⟨17, _⟩ => ⟨S192x192, .bf16⟩
  | .hbm, ⟨18, _⟩ => ⟨S1, .f32⟩
  | .hbm, ⟨19, _⟩ => ⟨S_, .f32⟩
  | .hbm, ⟨20, _⟩ => ⟨S1x192, .f32⟩
  | .hbm, ⟨21, _⟩ => ⟨S192, .f32⟩
  | .hbm, ⟨22, _⟩ => ⟨S192, .f32⟩
  | .hbm, ⟨23, _⟩ => ⟨S192, .f32⟩
  | .hbm, ⟨24, _⟩ => ⟨S192x1, .f32⟩
  | .hbm, ⟨25, _⟩ => ⟨S192x128, .f32⟩
  | .hbm, ⟨26, _⟩ => ⟨S1x192x768, .i8⟩
  | .hbm, ⟨27, _⟩ => ⟨S192x768, .i8⟩
  | .hbm, ⟨28, _⟩ => ⟨S768x192, .i8⟩
  | .hbm, ⟨29, _⟩ => ⟨S768x192, .i32⟩
  | .hbm, ⟨30, _⟩ => ⟨S768x192, .f32⟩
  | .hbm, ⟨31, _⟩ => ⟨S768x192, .bf16⟩
  | .hbm, ⟨32, _⟩ => ⟨S1, .f32⟩
  | .hbm, ⟨33, _⟩ => ⟨S_, .f32⟩
  | .hbm, ⟨34, _⟩ => ⟨S1x768, .f32⟩
  | .hbm, ⟨35, _⟩ => ⟨S768, .f32⟩
  | .hbm, ⟨36, _⟩ => ⟨S768, .f32⟩
  | .hbm, ⟨37, _⟩ => ⟨S768, .f32⟩
  | .hbm, ⟨38, _⟩ => ⟨S768x1, .f32⟩
  | .hbm, ⟨39, _⟩ => ⟨S768x128, .f32⟩
  | .hbm, ⟨40, _⟩ => ⟨S1x768x192, .i8⟩
  | .hbm, ⟨41, _⟩ => ⟨S768x192, .i8⟩
  | .hbm, ⟨42, _⟩ => ⟨S192x768, .i8⟩
  | .hbm, ⟨43, _⟩ => ⟨S192x768, .i32⟩
  | .hbm, ⟨44, _⟩ => ⟨S192x768, .f32⟩
  | .hbm, ⟨45, _⟩ => ⟨S192x768, .bf16⟩
  | .hbm, ⟨46, _⟩ => ⟨S1, .f32⟩
  | .hbm, ⟨47, _⟩ => ⟨S_, .f32⟩
  | .hbm, ⟨48, _⟩ => ⟨S1x192, .f32⟩
  | .hbm, ⟨49, _⟩ => ⟨S192, .f32⟩
  | .hbm, ⟨50, _⟩ => ⟨S192, .f32⟩
  | .hbm, ⟨51, _⟩ => ⟨S192, .f32⟩
  | .hbm, ⟨52, _⟩ => ⟨S192x1, .f32⟩
  | .hbm, ⟨53, _⟩ => ⟨S192x128, .f32⟩
  | .hbm, ⟨54, _⟩ => ⟨S2x3x9x192x4608, .f32⟩
  | .hbm, ⟨55, _⟩ => ⟨S3x9x192x4608, .i8⟩
  | .hbm, ⟨56, _⟩ => ⟨S3x9x768x4608, .i8⟩
  | .local _ .vmem, ⟨0, _⟩ => ⟨S1x1x192x512, .i8⟩
  | .local _ .vmem, ⟨1, _⟩ => ⟨S1x1x192x512, .i8⟩
  | .local _ .vmem, ⟨2, _⟩ => ⟨S1x1x192x512, .f32⟩
  | .local _ .vmem, ⟨3, _⟩ => ⟨S1x1x192x512, .f32⟩
  | .local _ .vmem, ⟨4, _⟩ => ⟨S192x192, .bf16⟩
  | .local _ .vmem, ⟨5, _⟩ => ⟨S192x128, .f32⟩
  | .local _ .vmem, ⟨6, _⟩ => ⟨S768x192, .bf16⟩
  | .local _ .vmem, ⟨7, _⟩ => ⟨S768x128, .f32⟩
  | .local _ .vmem, ⟨8, _⟩ => ⟨S192x768, .bf16⟩
  | .local _ .vmem, ⟨9, _⟩ => ⟨S192x128, .f32⟩
  | .local _ .vmem, ⟨10, _⟩ => ⟨S1x1x1x192x512, .f32⟩
  | .local _ .vmem, ⟨11, _⟩ => ⟨S1x1x1x192x512, .f32⟩
  | .local _ .vmem, ⟨12, _⟩ => ⟨S1x1x192x512, .i8⟩
  | .local _ .vmem, ⟨13, _⟩ => ⟨S1x1x192x512, .i8⟩
  | .local _ .vmem, ⟨14, _⟩ => ⟨S1x1x768x512, .i8⟩
  | .local _ .vmem, ⟨15, _⟩ => ⟨S1x1x768x512, .i8⟩
  | .local _ .smem, ⟨0, _⟩ => ⟨S2x6, .f32⟩
  | _, _ => ⟨S2x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45_0 : Ref sig .tc := ⟨.hbm, 54, rfl⟩
abbrev main_v45_1 : Ref sig .tc := ⟨.hbm, 55, rfl⟩
abbrev main_v45_2 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨3, ![3, 9, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S768x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S192x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1x1x192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x192x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x768x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== MlpRefIdeal.lean ====
abbrev S2x6 : Shape := ⟨2, ![2, 6]⟩
abbrev S3x9x192x4608 : Shape := ⟨4, ![3, 9, 192, 4608]⟩
abbrev S2x6x32x192 : Shape := ⟨4, ![2, 6, 32, 192]⟩
abbrev S2x192 : Shape := ⟨2, ![2, 192]⟩
abbrev S2x192x768 : Shape := ⟨3, ![2, 192, 768]⟩
abbrev S2x768 : Shape := ⟨2, ![2, 768]⟩
abbrev S2x768x192 : Shape := ⟨3, ![2, 768, 192]⟩
abbrev S1x6 : Shape := ⟨2, ![1, 6]⟩
abbrev S6 : Shape := ⟨1, ![6]⟩
abbrev S3x4608x9x192 : Shape := ⟨4, ![3, 4608, 9, 192]⟩
abbrev S1 : Shape := ⟨1, ![1]⟩
abbrev S_ : Shape := ⟨0, ![]⟩
abbrev S1x6x32x192 : Shape := ⟨4, ![1, 6, 32, 192]⟩
abbrev S6x32x192 : Shape := ⟨3, ![6, 32, 192]⟩
abbrev S192x192 : Shape := ⟨2, ![192, 192]⟩
abbrev S1x192 : Shape := ⟨2, ![1, 192]⟩
abbrev S192 : Shape := ⟨1, ![192]⟩
abbrev S1x1x1x192 : Shape := ⟨4, ![1, 1, 1, 192]⟩
abbrev S3x4608x9 : Shape := ⟨3, ![3, 4608, 9]⟩
abbrev S3x4608x9x1 : Shape := ⟨4, ![3, 4608, 9, 1]⟩
abbrev S1x192x768 : Shape := ⟨3, ![1, 192, 768]⟩
abbrev S192x768 : Shape := ⟨2, ![192, 768]⟩
abbrev S1x768 : Shape := ⟨2, ![1, 768]⟩
abbrev S768 : Shape := ⟨1, ![768]⟩
abbrev S3x4608x9x768 : Shape := ⟨4, ![3, 4608, 9, 768]⟩
abbrev S1x1x1x768 : Shape := ⟨4, ![1, 1, 1, 768]⟩
abbrev S1x768x192 : Shape := ⟨3, ![1, 768, 192]⟩
abbrev S768x192 : Shape := ⟨2, ![768, 192]⟩
abbrev S1x3x4608x9x192 : Shape := ⟨5, ![1, 3, 4608, 9, 192]⟩
abbrev S2x3x4608x9x192 : Shape := ⟨5, ![2, 3, 4608, 9, 192]⟩
abbrev S2x3x9x192x4608 : Shape := ⟨5, ![2, 3, 9, 192, 4608]⟩
abbrev S3x9x768x4608 : Shape := ⟨4, ![3, 9, 768, 4608]⟩

abbrev nBuf : Space → Nat
  | .hbm => 155
  | .vmem => 0
  | .smem => 0
  | _ => 0

abbrev hbmTy0_0 (i : Nat) : BufTy := match i % 128 with
  | 0 => ⟨S2x6, .f32⟩
  | 1 => ⟨S3x9x192x4608, .i8⟩
  | 2 => ⟨S3x9x192x4608, .f32⟩
  | 3 => ⟨S2x6x32x192, .i8⟩
  | 4 => ⟨S2x192, .f32⟩
  | 5 => ⟨S2x192x768, .i8⟩
  | 6 => ⟨S2x768, .f32⟩
  | 7 => ⟨S2x768x192, .i8⟩
  | 8 => ⟨S2x192, .f32⟩
  | 9 => ⟨S1x6, .f32⟩
  | 10 => ⟨S6, .f32⟩
  | 11 => ⟨S3x4608x9x192, .i8⟩
  | 12 => ⟨S3x4608x9x192, .f32⟩
  | 13 => ⟨S3x4608x9x192, .i32⟩
  | 14 => ⟨S3x4608x9x192, .f32⟩
  | 15 => ⟨S3x4608x9x192, .bf16⟩
  | 16 => ⟨S1, .f32⟩
  | 17 => ⟨S_, .f32⟩
  | 18 => ⟨S1x6x32x192, .i8⟩
  | 19 => ⟨S6x32x192, .i8⟩
  | 20 => ⟨S192x192, .i8⟩
  | 21 => ⟨S1x192, .f32⟩
  | 22 => ⟨S192, .f32⟩
  | 23 => ⟨S192x192, .i32⟩
  | 24 => ⟨S192x192, .f32⟩
  | 25 => ⟨S192x192, .bf16⟩
  | 26 => ⟨S3x4608x9x192, .f32⟩
  | 27 => ⟨S3x4608x9x192, .f32⟩
  | 28 => ⟨S3x4608x9x192, .f32⟩
  | 29 => ⟨S1x1x1x192, .f32⟩
  | 30 => ⟨S3x4608x9x192, .f32⟩
  | 31 => ⟨S3x4608x9x192, .f32⟩
  | 32 => ⟨S3x4608x9x192, .f32⟩
  | 33 => ⟨S_, .f32⟩
  | 34 => ⟨S3x4608x9, .f32⟩
  | 35 => ⟨S3x4608x9x1, .f32⟩
  | 36 => ⟨S_, .f32⟩
  | 37 => ⟨S3x4608x9x1, .f32⟩
  | 38 => ⟨S3x4608x9x1, .f32⟩
  | 39 => ⟨S3x4608x9x192, .f32⟩
  | 40 => ⟨S3x4608x9x192, .f32⟩
  | 41 => ⟨S3x4608x9x192, .f32⟩
  | 42 => ⟨S_, .f32⟩
  | 43 => ⟨S3x4608x9, .f32⟩
  | 44 => ⟨S3x4608x9x1, .f32⟩
  | 45 => ⟨S_, .f32⟩
  | 46 => ⟨S3x4608x9x1, .f32⟩
  | 47 => ⟨S3x4608x9x1, .f32⟩
  | 48 => ⟨S_, .f32⟩
  | 49 => ⟨S3x4608x9x1, .f32⟩
  | 50 => ⟨S3x4608x9x1, .f32⟩
  | 51 => ⟨S3x4608x9x1, .f32⟩
  | 52 => ⟨S3x4608x9x192, .f32⟩
  | 53 => ⟨S3x4608x9x192, .f32⟩
  | 54 => ⟨S1, .f32⟩
  | 55 => ⟨S_, .f32⟩
  | 56 => ⟨S3x4608x9x192, .f32⟩
  | 57 => ⟨S3x4608x9x192, .f32⟩
  | 58 => ⟨S3x4608x9x192, .f32⟩
  | 59 => ⟨S_, .f32⟩
  | 60 => ⟨S_, .f32⟩
  | 61 => ⟨S_, .f32⟩
  | 62 => ⟨S3x4608x9x192, .f32⟩
  | 63 => ⟨S3x4608x9x192, .f32⟩
  | 64 => ⟨S_, .f32⟩
  | 65 => ⟨S3x4608x9x192, .f32⟩
  | 66 => ⟨S3x4608x9x192, .f32⟩
  | 67 => ⟨S3x4608x9x192, .bf16⟩
  | 68 => ⟨S1, .f32⟩
  | 69 => ⟨S_, .f32⟩
  | 70 => ⟨S1x192x768, .i8⟩
  | 71 => ⟨S192x768, .i8⟩
  | 72 => ⟨S1x768, .f32⟩
  | 73 => ⟨S768, .f32⟩
  | 74 => ⟨S192x768, .i32⟩
  | 75 => ⟨S192x768, .f32⟩
  | 76 => ⟨S192x768, .bf16⟩
  | 77 => ⟨S3x4608x9x768, .f32⟩
  | 78 => ⟨S3x4608x9x768, .f32⟩
  | 79 => ⟨S3x4608x9x768, .f32⟩
  | 80 => ⟨S1x1x1x768, .f32⟩
  | 81 => ⟨S3x4608x9x768, .f32⟩
  | 82 => ⟨S3x4608x9x768, .f32⟩
  | 83 => ⟨S_, .f32⟩
  | 84 => ⟨S3x4608x9x768, .f32⟩
  | 85 => ⟨S3x4608x9x768, .f32⟩
  | 86 => ⟨S_, .f32⟩
  | 87 => ⟨S3x4608x9x768, .f32⟩
  | 88 => ⟨S3x4608x9x768, .f32⟩
  | 89 => ⟨S3x4608x9x768, .f32⟩
  | 90 => ⟨S_, .f32⟩
  | 91 => ⟨S3x4608x9x768, .f32⟩
  | 92 => ⟨S3x4608x9x768, .f32⟩
  | 93 => ⟨S3x4608x9x768, .f32⟩
  | 94 => ⟨S1, .f32⟩
  | 95 => ⟨S_, .f32⟩
  | 96 => ⟨S3x4608x9x768, .f32⟩
  | 97 => ⟨S3x4608x9x768, .f32⟩
  | 98 => ⟨S3x4608x9x768, .f32⟩
  | 99 => ⟨S_, .f32⟩
  | 100 => ⟨S_, .f32⟩
  | 101 => ⟨S_, .f32⟩
  | 102 => ⟨S3x4608x9x768, .f32⟩
  | 103 => ⟨S3x4608x9x768, .f32⟩
  | 104 => ⟨S_, .f32⟩
  | 105 => ⟨S3x4608x9x768, .f32⟩
  | 106 => ⟨S3x4608x9x768, .f32⟩
  | 107 => ⟨S3x4608x9x768, .bf16⟩
  | 108 => ⟨S1, .f32⟩
  | 109 => ⟨S_, .f32⟩
  | 110 => ⟨S1x768x192, .i8⟩
  | 111 => ⟨S768x192, .i8⟩
  | 112 => ⟨S1x192, .f32⟩
  | 113 => ⟨S192, .f32⟩
  | 114 => ⟨S768x192, .i32⟩
  | 115 => ⟨S768x192, .f32⟩
  | 116 => ⟨S768x192, .bf16⟩
  | 117 => ⟨S3x4608x9x192, .f32⟩
  | 118 => ⟨S3x4608x9x192, .f32⟩
  | 119 => ⟨S3x4608x9x192, .f32⟩
  | 120 => ⟨S1x1x1x192, .f32⟩
  | 121 => ⟨S3x4608x9x192, .f32⟩
  | 122 => ⟨S3x4608x9x192, .f32⟩
  | 123 => ⟨S3x4608x9x192, .f32⟩
  | 124 => ⟨S_, .f32⟩
  | 125 => ⟨S3x4608x9, .f32⟩
  | 126 => ⟨S3x4608x9x1, .f32⟩
  | 127 => ⟨S_, .f32⟩
  | _ => ⟨S2x6, .f32⟩

abbrev hbmTy0_1 (i : Nat) : BufTy := match i % 128 with
  | 0 => ⟨S3x4608x9x1, .f32⟩
  | 1 => ⟨S3x4608x9x1, .f32⟩
  | 2 => ⟨S3x4608x9x192, .f32⟩
  | 3 => ⟨S3x4608x9x192, .f32⟩
  | 4 => ⟨S3x4608x9x192, .f32⟩
  | 5 => ⟨S_, .f32⟩
  | 6 => ⟨S3x4608x9, .f32⟩
  | 7 => ⟨S3x4608x9x1, .f32⟩
  | 8 => ⟨S_, .f32⟩
  | 9 => ⟨S3x4608x9x1, .f32⟩
  | 10 => ⟨S3x4608x9x1, .f32⟩
  | 11 => ⟨S_, .f32⟩
  | 12 => ⟨S3x4608x9x1, .f32⟩
  | 13 => ⟨S3x4608x9x1, .f32⟩
  | 14 => ⟨S3x4608x9x1, .f32⟩
  | 15 => ⟨S3x4608x9x192, .f32⟩
  | 16 => ⟨S3x4608x9x192, .f32⟩
  | 17 => ⟨S3x4608x9x192, .i32⟩
  | 18 => ⟨S3x4608x9x192, .i8⟩
  | 19 => ⟨S3x4608x9x768, .i32⟩
  | 20 => ⟨S3x4608x9x768, .i8⟩
  | 21 => ⟨S1x3x4608x9x192, .f32⟩
  | 22 => ⟨S1x3x4608x9x192, .f32⟩
  | 23 => ⟨S2x3x4608x9x192, .f32⟩
  | 24 => ⟨S2x3x9x192x4608, .f32⟩
  | 25 => ⟨S3x9x192x4608, .i8⟩
  | 26 => ⟨S3x9x768x4608, .i8⟩
  | _ => ⟨S2x6, .f32⟩

abbrev hbmTy (i : Nat) : BufTy := match i / 128 with
  | 0 => hbmTy0_0 i
  | 1 => hbmTy0_1 i
  | _ => ⟨S2x6, .f32⟩

abbrev bufTy : (tb : Table) → Fin (tcTables nBuf tb) → BufTy
  | .hbm, ⟨i, _⟩ => hbmTy i
  | _, _ => ⟨S2x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_cst_10 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_11 : Ref sig .tc := ⟨.hbm, 124, rfl⟩
abbrev main_v93 : Ref sig .tc := ⟨.hbm, 125, rfl⟩
abbrev main_v94 : Ref sig .tc := ⟨.hbm, 126, rfl⟩
abbrev main_cst_12 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_13 : Ref sig .tc := ⟨.hbm, 133, rfl⟩
abbrev main_v100 : Ref sig .tc := ⟨.hbm, 134, rfl⟩
abbrev main_v101 : Ref sig .tc := ⟨.hbm, 135, rfl⟩
abbrev main_cst_14 : Ref sig .tc := ⟨.hbm, 136, rfl⟩
abbrev main_v102 : Ref sig .tc := ⟨.hbm, 137, rfl⟩
abbrev main_v103 : Ref sig .tc := ⟨.hbm, 138, rfl⟩
abbrev main_cst_15 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]
-- ==== Last.lean ====
abbrev S2x6 : Shape := ⟨2, ![2, 6]⟩
abbrev S3x9x192x4608 : Shape := ⟨4, ![3, 9, 192, 4608]⟩
abbrev S2x6x32x192 : Shape := ⟨4, ![2, 6, 32, 192]⟩
abbrev S2x192 : Shape := ⟨2, ![2, 192]⟩
abbrev S2x192x768 : Shape := ⟨3, ![2, 192, 768]⟩
abbrev S2x768 : Shape := ⟨2, ![2, 768]⟩
abbrev S2x768x192 : Shape := ⟨3, ![2, 768, 192]⟩
abbrev S2x3x9x192x4608 : Shape := ⟨5, ![2, 3, 9, 192, 4608]⟩
abbrev S1x6 : Shape := ⟨2, ![1, 6]⟩
abbrev S6 : Shape := ⟨1, ![6]⟩
abbrev S1x6x32x192 : Shape := ⟨4, ![1, 6, 32, 192]⟩
abbrev S6x32x192 : Shape := ⟨3, ![6, 32, 192]⟩
abbrev S192x192 : Shape := ⟨2, ![192, 192]⟩
abbrev S1 : Shape := ⟨1, ![1]⟩
abbrev S_ : Shape := ⟨0, ![]⟩
abbrev S1x192 : Shape := ⟨2, ![1, 192]⟩
abbrev S192 : Shape := ⟨1, ![192]⟩
abbrev S192x1 : Shape := ⟨2, ![192, 1]⟩
abbrev S192x128 : Shape := ⟨2, ![192, 128]⟩
abbrev S1x192x768 : Shape := ⟨3, ![1, 192, 768]⟩
abbrev S192x768 : Shape := ⟨2, ![192, 768]⟩
abbrev S768x192 : Shape := ⟨2, ![768, 192]⟩
abbrev S1x768 : Shape := ⟨2, ![1, 768]⟩
abbrev S768 : Shape := ⟨1, ![768]⟩
abbrev S768x1 : Shape := ⟨2, ![768, 1]⟩
abbrev S768x128 : Shape := ⟨2, ![768, 128]⟩
abbrev S1x768x192 : Shape := ⟨3, ![1, 768, 192]⟩
abbrev S1x1x192x512 : Shape := ⟨4, ![1, 1, 192, 512]⟩
abbrev S1x1x1x192x512 : Shape := ⟨5, ![1, 1, 1, 192, 512]⟩
abbrev S1x1 : Shape := ⟨2, ![1, 1]⟩
abbrev S192x512 : Shape := ⟨2, ![192, 512]⟩
abbrev S512 : Shape := ⟨1, ![512]⟩
abbrev S1x512 : Shape := ⟨2, ![1, 512]⟩
abbrev S768x512 : Shape := ⟨2, ![768, 512]⟩

abbrev nBuf : Space → Nat
  | .hbm => 56
  | .vmem => 12
  | .smem => 1
  | _ => 0

abbrev bufTy : (tb : Table) → Fin (tcTables nBuf tb) → BufTy
  | .hbm, ⟨0, _⟩ => ⟨S2x6, .f32⟩
  | .hbm, ⟨1, _⟩ => ⟨S3x9x192x4608, .i8⟩
  | .hbm, ⟨2, _⟩ => ⟨S3x9x192x4608, .f32⟩
  | .hbm, ⟨3, _⟩ => ⟨S2x6x32x192, .i8⟩
  | .hbm, ⟨4, _⟩ => ⟨S2x192, .f32⟩
  | .hbm, ⟨5, _⟩ => ⟨S2x192x768, .i8⟩
  | .hbm, ⟨6, _⟩ => ⟨S2x768, .f32⟩
  | .hbm, ⟨7, _⟩ => ⟨S2x768x192, .i8⟩
  | .hbm, ⟨8, _⟩ => ⟨S2x192, .f32⟩
  | .hbm, ⟨9, _⟩ => ⟨S2x3x9x192x4608, .f32⟩
  | .hbm, ⟨10, _⟩ => ⟨S1x6, .f32⟩
  | .hbm, ⟨11, _⟩ => ⟨S6, .f32⟩
  | .hbm, ⟨12, _⟩ => ⟨S1x6x32x192, .i8⟩
  | .hbm, ⟨13, _⟩ => ⟨S6x32x192, .i8⟩
  | .hbm, ⟨14, _⟩ => ⟨S192x192, .i8⟩
  | .hbm, ⟨15, _⟩ => ⟨S192x192, .i8⟩
  | .hbm, ⟨16, _⟩ => ⟨S192x192, .i32⟩
  | .hbm, ⟨17, _⟩ => ⟨S192x192, .f32⟩
  | .hbm, ⟨18, _⟩ => ⟨S192x192, .bf16⟩
  | .hbm, ⟨19, _⟩ => ⟨S1, .f32⟩
  | .hbm, ⟨20, _⟩ => ⟨S_, .f32⟩
  | .hbm, ⟨21, _⟩ => ⟨S1x192, .f32⟩
  | .hbm, ⟨22, _⟩ => ⟨S192, .f32⟩
  | .hbm, ⟨23, _⟩ => ⟨S192, .f32⟩
  | .hbm, ⟨24, _⟩ => ⟨S192, .f32⟩
  | .hbm, ⟨25, _⟩ => ⟨S192x1, .f32⟩
  | .hbm, ⟨26, _⟩ => ⟨S192x128, .f32⟩
  | .hbm, ⟨27, _⟩ => ⟨S1x192x768, .i8⟩
  | .hbm, ⟨28, _⟩ => ⟨S192x768, .i8⟩
  | .hbm, ⟨29, _⟩ => ⟨S768x192, .i8⟩
  | .hbm, ⟨30, _⟩ => ⟨S768x192, .i32⟩
  | .hbm, ⟨31, _⟩ => ⟨S768x192, .f32⟩
  | .hbm, ⟨32, _⟩ => ⟨S768x192, .bf16⟩
  | .hbm, ⟨33, _⟩ => ⟨S1, .f32⟩
  | .hbm, ⟨34, _⟩ => ⟨S_, .f32⟩
  | .hbm, ⟨35, _⟩ => ⟨S1x768, .f32⟩
  | .hbm, ⟨36, _⟩ => ⟨S768, .f32⟩
  | .hbm, ⟨37, _⟩ => ⟨S768, .f32⟩
  | .hbm, ⟨38, _⟩ => ⟨S768, .f32⟩
  | .hbm, ⟨39, _⟩ => ⟨S768x1, .f32⟩
  | .hbm, ⟨40, _⟩ => ⟨S768x128, .f32⟩
  | .hbm, ⟨41, _⟩ => ⟨S1x768x192, .i8⟩
  | .hbm, ⟨42, _⟩ => ⟨S768x192, .i8⟩
  | .hbm, ⟨43, _⟩ => ⟨S192x768, .i8⟩
  | .hbm, ⟨44, _⟩ => ⟨S192x768, .i32⟩
  | .hbm, ⟨45, _⟩ => ⟨S192x768, .f32⟩
  | .hbm, ⟨46, _⟩ => ⟨S192x768, .bf16⟩
  | .hbm, ⟨47, _⟩ => ⟨S1, .f32⟩
  | .hbm, ⟨48, _⟩ => ⟨S_, .f32⟩
  | .hbm, ⟨49, _⟩ => ⟨S1x192, .f32⟩
  | .hbm, ⟨50, _⟩ => ⟨S192, .f32⟩
  | .hbm, ⟨51, _⟩ => ⟨S192, .f32⟩
  | .hbm, ⟨52, _⟩ => ⟨S192, .f32⟩
  | .hbm, ⟨53, _⟩ => ⟨S192x1, .f32⟩
  | .hbm, ⟨54, _⟩ => ⟨S192x128, .f32⟩
  | .hbm, ⟨55, _⟩ => ⟨S2x3x9x192x4608, .f32⟩
  | .local _ .vmem, ⟨0, _⟩ => ⟨S1x1x192x512, .i8⟩
  | .local _ .vmem, ⟨1, _⟩ => ⟨S1x1x192x512, .i8⟩
  | .local _ .vmem, ⟨2, _⟩ => ⟨S1x1x192x512, .f32⟩
  | .local _ .vmem, ⟨3, _⟩ => ⟨S1x1x192x512, .f32⟩
  | .local _ .vmem, ⟨4, _⟩ => ⟨S192x192, .bf16⟩
  | .local _ .vmem, ⟨5, _⟩ => ⟨S192x128, .f32⟩
  | .local _ .vmem, ⟨6, _⟩ => ⟨S768x192, .bf16⟩
  | .local _ .vmem, ⟨7, _⟩ => ⟨S768x128, .f32⟩
  | .local _ .vmem, ⟨8, _⟩ => ⟨S192x768, .bf16⟩
  | .local _ .vmem, ⟨9, _⟩ => ⟨S192x128, .f32⟩
  | .local _ .vmem, ⟨10, _⟩ => ⟨S1x1x1x192x512, .f32⟩
  | .local _ .vmem, ⟨11, _⟩ => ⟨S1x1x1x192x512, .f32⟩
  | .local _ .smem, ⟨0, _⟩ => ⟨S2x6, .f32⟩
  | _, _ => ⟨S2x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨3, ![3, 9, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg1.toNat, c0_i32.toNat, arg2.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S768x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S192x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1x1x192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== LastRefIdeal.lean ====
abbrev S2x6 : Shape := ⟨2, ![2, 6]⟩
abbrev S3x9x192x4608 : Shape := ⟨4, ![3, 9, 192, 4608]⟩
abbrev S2x6x32x192 : Shape := ⟨4, ![2, 6, 32, 192]⟩
abbrev S2x192 : Shape := ⟨2, ![2, 192]⟩
abbrev S2x192x768 : Shape := ⟨3, ![2, 192, 768]⟩
abbrev S2x768 : Shape := ⟨2, ![2, 768]⟩
abbrev S2x768x192 : Shape := ⟨3, ![2, 768, 192]⟩
abbrev S2x3x9x192x4608 : Shape := ⟨5, ![2, 3, 9, 192, 4608]⟩
abbrev S1x6 : Shape := ⟨2, ![1, 6]⟩
abbrev S6 : Shape := ⟨1, ![6]⟩
abbrev S3x4608x9x192 : Shape := ⟨4, ![3, 4608, 9, 192]⟩
abbrev S1 : Shape := ⟨1, ![1]⟩
abbrev S_ : Shape := ⟨0, ![]⟩
abbrev S1x6x32x192 : Shape := ⟨4, ![1, 6, 32, 192]⟩
abbrev S6x32x192 : Shape := ⟨3, ![6, 32, 192]⟩
abbrev S192x192 : Shape := ⟨2, ![192, 192]⟩
abbrev S1x192 : Shape := ⟨2, ![1, 192]⟩
abbrev S192 : Shape := ⟨1, ![192]⟩
abbrev S1x1x1x192 : Shape := ⟨4, ![1, 1, 1, 192]⟩
abbrev S3x4608x9 : Shape := ⟨3, ![3, 4608, 9]⟩
abbrev S3x4608x9x1 : Shape := ⟨4, ![3, 4608, 9, 1]⟩
abbrev S1x192x768 : Shape := ⟨3, ![1, 192, 768]⟩
abbrev S192x768 : Shape := ⟨2, ![192, 768]⟩
abbrev S1x768 : Shape := ⟨2, ![1, 768]⟩
abbrev S768 : Shape := ⟨1, ![768]⟩
abbrev S3x4608x9x768 : Shape := ⟨4, ![3, 4608, 9, 768]⟩
abbrev S1x1x1x768 : Shape := ⟨4, ![1, 1, 1, 768]⟩
abbrev S1x768x192 : Shape := ⟨3, ![1, 768, 192]⟩
abbrev S768x192 : Shape := ⟨2, ![768, 192]⟩
abbrev S1x3x9x192x4608 : Shape := ⟨5, ![1, 3, 9, 192, 4608]⟩

abbrev nBuf : Space → Nat
  | .hbm => 152
  | .vmem => 0
  | .smem => 0
  | _ => 0

abbrev hbmTy0_0 (i : Nat) : BufTy := match i % 128 with
  | 0 => ⟨S2x6, .f32⟩
  | 1 => ⟨S3x9x192x4608, .i8⟩
  | 2 => ⟨S3x9x192x4608, .f32⟩
  | 3 => ⟨S2x6x32x192, .i8⟩
  | 4 => ⟨S2x192, .f32⟩
  | 5 => ⟨S2x192x768, .i8⟩
  | 6 => ⟨S2x768, .f32⟩
  | 7 => ⟨S2x768x192, .i8⟩
  | 8 => ⟨S2x192, .f32⟩
  | 9 => ⟨S2x3x9x192x4608, .f32⟩
  | 10 => ⟨S1x6, .f32⟩
  | 11 => ⟨S6, .f32⟩
  | 12 => ⟨S3x4608x9x192, .i8⟩
  | 13 => ⟨S3x4608x9x192, .f32⟩
  | 14 => ⟨S3x4608x9x192, .i32⟩
  | 15 => ⟨S3x4608x9x192, .f32⟩
  | 16 => ⟨S3x4608x9x192, .bf16⟩
  | 17 => ⟨S1, .f32⟩
  | 18 => ⟨S_, .f32⟩
  | 19 => ⟨S1x6x32x192, .i8⟩
  | 20 => ⟨S6x32x192, .i8⟩
  | 21 => ⟨S192x192, .i8⟩
  | 22 => ⟨S1x192, .f32⟩
  | 23 => ⟨S192, .f32⟩
  | 24 => ⟨S192x192, .i32⟩
  | 25 => ⟨S192x192, .f32⟩
  | 26 => ⟨S192x192, .bf16⟩
  | 27 => ⟨S3x4608x9x192, .f32⟩
  | 28 => ⟨S3x4608x9x192, .f32⟩
  | 29 => ⟨S3x4608x9x192, .f32⟩
  | 30 => ⟨S1x1x1x192, .f32⟩
  | 31 => ⟨S3x4608x9x192, .f32⟩
  | 32 => ⟨S3x4608x9x192, .f32⟩
  | 33 => ⟨S3x4608x9x192, .f32⟩
  | 34 => ⟨S_, .f32⟩
  | 35 => ⟨S3x4608x9, .f32⟩
  | 36 => ⟨S3x4608x9x1, .f32⟩
  | 37 => ⟨S_, .f32⟩
  | 38 => ⟨S3x4608x9x1, .f32⟩
  | 39 => ⟨S3x4608x9x1, .f32⟩
  | 40 => ⟨S3x4608x9x192, .f32⟩
  | 41 => ⟨S3x4608x9x192, .f32⟩
  | 42 => ⟨S3x4608x9x192, .f32⟩
  | 43 => ⟨S_, .f32⟩
  | 44 => ⟨S3x4608x9, .f32⟩
  | 45 => ⟨S3x4608x9x1, .f32⟩
  | 46 => ⟨S_, .f32⟩
  | 47 => ⟨S3x4608x9x1, .f32⟩
  | 48 => ⟨S3x4608x9x1, .f32⟩
  | 49 => ⟨S_, .f32⟩
  | 50 => ⟨S3x4608x9x1, .f32⟩
  | 51 => ⟨S3x4608x9x1, .f32⟩
  | 52 => ⟨S3x4608x9x1, .f32⟩
  | 53 => ⟨S3x4608x9x192, .f32⟩
  | 54 => ⟨S3x4608x9x192, .f32⟩
  | 55 => ⟨S1, .f32⟩
  | 56 => ⟨S_, .f32⟩
  | 57 => ⟨S3x4608x9x192, .f32⟩
  | 58 => ⟨S3x4608x9x192, .f32⟩
  | 59 => ⟨S3x4608x9x192, .f32⟩
  | 60 => ⟨S_, .f32⟩
  | 61 => ⟨S_, .f32⟩
  | 62 => ⟨S_, .f32⟩
  | 63 => ⟨S3x4608x9x192, .f32⟩
  | 64 => ⟨S3x4608x9x192, .f32⟩
  | 65 => ⟨S_, .f32⟩
  | 66 => ⟨S3x4608x9x192, .f32⟩
  | 67 => ⟨S3x4608x9x192, .f32⟩
  | 68 => ⟨S3x4608x9x192, .bf16⟩
  | 69 => ⟨S1, .f32⟩
  | 70 => ⟨S_, .f32⟩
  | 71 => ⟨S1x192x768, .i8⟩
  | 72 => ⟨S192x768, .i8⟩
  | 73 => ⟨S1x768, .f32⟩
  | 74 => ⟨S768, .f32⟩
  | 75 => ⟨S192x768, .i32⟩
  | 76 => ⟨S192x768, .f32⟩
  | 77 => ⟨S192x768, .bf16⟩
  | 78 => ⟨S3x4608x9x768, .f32⟩
  | 79 => ⟨S3x4608x9x768, .f32⟩
  | 80 => ⟨S3x4608x9x768, .f32⟩
  | 81 => ⟨S1x1x1x768, .f32⟩
  | 82 => ⟨S3x4608x9x768, .f32⟩
  | 83 => ⟨S3x4608x9x768, .f32⟩
  | 84 => ⟨S_, .f32⟩
  | 85 => ⟨S3x4608x9x768, .f32⟩
  | 86 => ⟨S3x4608x9x768, .f32⟩
  | 87 => ⟨S_, .f32⟩
  | 88 => ⟨S3x4608x9x768, .f32⟩
  | 89 => ⟨S3x4608x9x768, .f32⟩
  | 90 => ⟨S3x4608x9x768, .f32⟩
  | 91 => ⟨S_, .f32⟩
  | 92 => ⟨S3x4608x9x768, .f32⟩
  | 93 => ⟨S3x4608x9x768, .f32⟩
  | 94 => ⟨S3x4608x9x768, .f32⟩
  | 95 => ⟨S1, .f32⟩
  | 96 => ⟨S_, .f32⟩
  | 97 => ⟨S3x4608x9x768, .f32⟩
  | 98 => ⟨S3x4608x9x768, .f32⟩
  | 99 => ⟨S3x4608x9x768, .f32⟩
  | 100 => ⟨S_, .f32⟩
  | 101 => ⟨S_, .f32⟩
  | 102 => ⟨S_, .f32⟩
  | 103 => ⟨S3x4608x9x768, .f32⟩
  | 104 => ⟨S3x4608x9x768, .f32⟩
  | 105 => ⟨S_, .f32⟩
  | 106 => ⟨S3x4608x9x768, .f32⟩
  | 107 => ⟨S3x4608x9x768, .f32⟩
  | 108 => ⟨S3x4608x9x768, .bf16⟩
  | 109 => ⟨S1, .f32⟩
  | 110 => ⟨S_, .f32⟩
  | 111 => ⟨S1x768x192, .i8⟩
  | 112 => ⟨S768x192, .i8⟩
  | 113 => ⟨S1x192, .f32⟩
  | 114 => ⟨S192, .f32⟩
  | 115 => ⟨S768x192, .i32⟩
  | 116 => ⟨S768x192, .f32⟩
  | 117 => ⟨S768x192, .bf16⟩
  | 118 => ⟨S3x4608x9x192, .f32⟩
  | 119 => ⟨S3x4608x9x192, .f32⟩
  | 120 => ⟨S3x4608x9x192, .f32⟩
  | 121 => ⟨S1x1x1x192, .f32⟩
  | 122 => ⟨S3x4608x9x192, .f32⟩
  | 123 => ⟨S3x4608x9x192, .f32⟩
  | 124 => ⟨S3x4608x9x192, .f32⟩
  | 125 => ⟨S_, .f32⟩
  | 126 => ⟨S3x4608x9, .f32⟩
  | 127 => ⟨S3x4608x9x1, .f32⟩
  | _ => ⟨S2x6, .f32⟩

abbrev hbmTy0_1 (i : Nat) : BufTy := match i % 128 with
  | 0 => ⟨S_, .f32⟩
  | 1 => ⟨S3x4608x9x1, .f32⟩
  | 2 => ⟨S3x4608x9x1, .f32⟩
  | 3 => ⟨S3x4608x9x192, .f32⟩
  | 4 => ⟨S3x4608x9x192, .f32⟩
  | 5 => ⟨S3x4608x9x192, .f32⟩
  | 6 => ⟨S_, .f32⟩
  | 7 => ⟨S3x4608x9, .f32⟩
  | 8 => ⟨S3x4608x9x1, .f32⟩
  | 9 => ⟨S_, .f32⟩
  | 10 => ⟨S3x4608x9x1, .f32⟩
  | 11 => ⟨S3x4608x9x1, .f32⟩
  | 12 => ⟨S_, .f32⟩
  | 13 => ⟨S3x4608x9x1, .f32⟩
  | 14 => ⟨S3x4608x9x1, .f32⟩
  | 15 => ⟨S3x4608x9x1, .f32⟩
  | 16 => ⟨S3x4608x9x192, .f32⟩
  | 17 => ⟨S3x4608x9x192, .f32⟩
  | 18 => ⟨S1x3x9x192x4608, .f32⟩
  | 19 => ⟨S3x9x192x4608, .f32⟩
  | 20 => ⟨S3x9x192x4608, .f32⟩
  | 21 => ⟨S1x3x9x192x4608, .f32⟩
  | 22 => ⟨S1x3x9x192x4608, .f32⟩
  | 23 => ⟨S2x3x9x192x4608, .f32⟩
  | _ => ⟨S2x6, .f32⟩

abbrev hbmTy (i : Nat) : BufTy := match i / 128 with
  | 0 => hbmTy0_0 i
  | 1 => hbmTy0_1 i
  | _ => ⟨S2x6, .f32⟩

abbrev bufTy : (tb : Table) → Fin (tcTables nBuf tb) → BufTy
  | .hbm, ⟨i, _⟩ => hbmTy i
  | _, _ => ⟨S2x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_9 : Ref sig .tc := ⟨.hbm, 100, rfl⟩
abbrev main_cst_10 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_13 : Ref sig .tc := ⟨.hbm, 134, rfl⟩
abbrev main_v100 : Ref sig .tc := ⟨.hbm, 135, rfl⟩
abbrev main_v101 : Ref sig .tc := ⟨.hbm, 136, rfl⟩
abbrev main_cst_14 : Ref sig .tc := ⟨.hbm, 137, rfl⟩
abbrev main_v102 : Ref sig .tc := ⟨.hbm, 138, rfl⟩
abbrev main_v103 : Ref sig .tc := ⟨.hbm, 139, rfl⟩
abbrev main_cst_15 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Proof.RowBitsFast.lean ====
module

public import proofs.«01_k».proof.Proof.Gen.Row
public import proofs.«01_k».proof.Proof.Gen.Row.Skeleton
public import proofs.«01_k».proof.Proof.Gen.Row.Loops

@[expose] public section

set_option maxRecDepth 8192
set_option maxHeartbeats 4000000

noncomputable section

namespace Cert.Row.Hand

open Cert.Row Cert.Row.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The head of the queries of work item `j`. -/
abbrev itemQ (j : ℕ) : ℕ := (j - (j - 48)) / 8 - 6 * (j / 48) + (j - 48)
/-- The head of the keys of work item `j`. -/
abbrev itemK (j : ℕ) : ℕ := (j - (j - 48)) / 8 - 6 * (j / 48)
/-- The first query column of work item `j`. -/
abbrev itemL (j : ℕ) : ℕ := ((j - (j - 48)) % 8) * 512 + 4096 * (j / 48)

theorem off51_00 : ∀ k : Fin k0_t2_loop.trips, k0_off51 k 0#32 0#32 = ![0, 0, 32 * itemQ (2 * k.val), itemL (2 * k.val)] := by decide +kernel
theorem off51_01 : ∀ k : Fin k0_t2_loop.trips, k0_off51 k 0#32 256#32 = ![0, 0, 32 * itemQ (2 * k.val), itemL (2 * k.val) + 256] := by decide +kernel
theorem off51_10 : ∀ k : Fin k0_t2_loop.trips, k0_off51 k 1#32 0#32 = ![0, 0, 32 * itemQ (2 * k.val + 1), itemL (2 * k.val + 1)] := by decide +kernel
theorem off51_11 : ∀ k : Fin k0_t2_loop.trips, k0_off51 k 1#32 256#32 = ![0, 0, 32 * itemQ (2 * k.val + 1), itemL (2 * k.val + 1) + 256] := by decide +kernel

instance (k : Fin k0_t2_loop.trips) : ClosedOff (k0_off51 k 0#32 0#32) := ⟨_, off51_00 k⟩
instance (k : Fin k0_t2_loop.trips) : ClosedOff (k0_off51 k 0#32 256#32) := ⟨_, off51_01 k⟩
instance (k : Fin k0_t2_loop.trips) : ClosedOff (k0_off51 k 1#32 0#32) := ⟨_, off51_10 k⟩
instance (k : Fin k0_t2_loop.trips) : ClosedOff (k0_off51 k 1#32 256#32) := ⟨_, off51_11 k⟩

abbrev Trip2 (c : Dev nD) (arg3 : Memref sig .tc .vmem S1x1x192x4608 .bf16) (arg8 : Memref sig .tc .vmem S1x1x192x4608 .i8) (arg9 : Memref sig .tc .vmem S6x4096x128 .bf16) (arg10 : Memref sig .tc .vmem S6x32x4096 .bf16) (arg11 : Memref sig .tc .vmem S6x4096x128 .f32) (arg12 : Memref sig .tc .vmem S1x256 .f32)
    (X3 : BufTy.Contents (Elt F) arg3.view.ty) (X9 : BufTy.Contents (Elt F) arg9.view.ty) (X10 : BufTy.Contents (Elt F) arg10.view.ty) (X11 : BufTy.Contents (Elt F) arg11.view.ty) (f8 : BufTy.Contents (Elt F) arg8.view.ty) (f12 : BufTy.Contents (Elt F) arg12.view.ty) : sProp 𝕄G :=
  iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg8.view.loc (c : Thread nD τ) ↦[arg8.view.set]{fullShare} f8) ∗ (arg12.view.loc (c : Thread nD τ) ↦[arg12.view.set]{fullShare} f12))

@[irreducible] def trip2 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (k : Fin k0_t2_loop.trips) (f12 : BufTy.Contents (Elt F) arg12.view.ty) :
    Σ' (L8 : List (View.Piece (Elt F) S1x1x192x4608 .i8)), { L12 : List (View.Piece (Elt F) S1x256 .f32) // ∀ (E : Set ℕ) (f8 : BufTy.Contents (Elt F) arg8.view.ty),
      Trip2 (F := F) c arg3 arg8 arg9 arg10 arg11 arg12 X3 X9 X10 X11 f8 f12
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 v0 k PUnit.unit)
          (fun _ => Trip2 (F := F) c arg3 arg8 arg9 arg10 arg11 arg12 X3 X9 X10 X11 (arg8.view.writes (Elt F) f8 L8) (arg12.view.writes (Elt F) f12 L12)) } := by
  have hk : k.val < 27 := Nat.lt_of_lt_of_le k.isLt k0_t2_abs.2.1
  refine ⟨?_, ?_, fun E f8 => ?run⟩
  case run =>
    unfold k0_t2_body
    iintro ⟨HR3, HR9, HR10, HR11, HW8, HW12⟩
    sl_exec
    sl_step
    sl_close

/-- The contents of the codes' block and of the flag row before trip `k` of the fast pass. -/
def st2 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) : ℕ → BufTy.Contents (Elt F) arg8.view.ty × BufTy.Contents (Elt F) arg12.view.ty
  | 0 => (G8, G12)
  | k + 1 =>
    let p := st2 𝒱 c bd i arg2 harg2 arg3 harg3 arg4 harg4 arg5 harg5 arg6 harg6 arg7 harg7 arg8 harg8 arg9 harg9 arg10 harg10 arg11 harg11 arg12 harg12 v0 X3 X9 X10 X11 G8 G12 k
    if h : k < k0_t2_loop.trips then
      (arg8.view.writes (Elt F) p.1 (trip2 𝒱 c bd i arg2 harg2 arg3 harg3 arg4 harg4 arg5 harg5 arg6 harg6 arg7 harg7 arg8 harg8 arg9 harg9 arg10 harg10 arg11 harg11 arg12 harg12 v0 X3 X9 X10 X11 ⟨k, h⟩ p.2).1,
        arg12.view.writes (Elt F) p.2 (trip2 𝒱 c bd i arg2 harg2 arg3 harg3 arg4 harg4 arg5 harg5 arg6 harg6 arg7 harg7 arg8 harg8 arg9 harg9 arg10 harg10 arg11 harg11 arg12 harg12 v0 X3 X9 X10 X11 ⟨k, h⟩ p.2).2.1)
    else p

theorem st2_zero1 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) :
    (st2 𝒱 c bd i arg2 harg2 arg3 harg3 arg4 harg4 arg5 harg5 arg6 harg6 arg7 harg7 arg8 harg8 arg9 harg9 arg10 harg10 arg11 harg11 arg12 harg12 v0 X3 X9 X10 X11 G8 G12 0).1 = G8 := rfl

theorem st2_zero2 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) :
    (st2 𝒱 c bd i arg2 harg2 arg3 harg3 arg4 harg4 arg5 harg5 arg6 harg6 arg7 harg7 arg8 harg8 arg9 harg9 arg10 harg10 arg11 harg11 arg12 harg12 v0 X3 X9 X10 X11 G8 G12 0).2 = G12 := rfl

theorem st2_succ (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) (k : Fin k0_t2_loop.trips) :
    st2 𝒱 c bd i arg2 harg2 arg3 harg3 arg4 harg4 arg5 harg5 arg6 harg6 arg7 harg7 arg8 harg8 arg9 harg9 arg10 harg10 arg11 harg11 arg12 harg12 v0 X3 X9 X10 X11 G8 G12 (k.val + 1)
      = (arg8.view.writes (Elt F) (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).1 (trip2 𝒱 c bd i arg2 harg2 arg3 harg3 arg4 harg4 arg5 harg5 arg6 harg6 arg7 harg7 arg8 harg8 arg9 harg9 arg10 harg10 arg11 harg11 arg12 harg12 v0 X3 X9 X10 X11 k (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2).1,
        arg12.view.writes (Elt F) (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2 (trip2 𝒱 c bd i arg2 harg2 arg3 harg3 arg4 harg4 arg5 harg5 arg6 harg6 arg7 harg7 arg8 harg8 arg9 harg9 arg10 harg10 arg11 harg11 arg12 harg12 v0 X3 X9 X10 X11 k (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2).2.1) := by
  rw [st2]; exact dif_pos k.isLt

set_option warn.classDefReducibility false in
/-- The fast pass by its invariant: the buffers read keep their contents, and the two written hold `st2`. -/
@[sl_loop] def loopInv2 (𝒱 : Variants) (c : Dev nD) (bd : Option 𝒱.V) (E : Set ℕ) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v0 where
  inv k _ := iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg8.view.loc (c : Thread nD τ) ↦[arg8.view.set]{fullShare} f) ∗ ⌜f = (st2 𝒱 c bd i arg2 harg2 arg3 harg3 arg4 harg4 arg5 harg5 arg6 harg6 arg7 harg7 arg8 harg8 arg9 harg9 arg10 harg10 arg11 harg11 arg12 harg12 v0 X3 X9 X10 X11 G8 G12 k).1⌝)
    ∗ (∃ f, (arg12.view.loc (c : Thread nD τ) ↦[arg12.view.set]{fullShare} f) ∗ ⌜f = (st2 𝒱 c bd i arg2 harg2 arg3 harg3 arg4 harg4 arg5 harg5 arg6 harg6 arg7 harg7 arg8 harg8 arg9 harg9 arg10 harg10 arg11 harg11 arg12 harg12 v0 X3 X9 X10 X11 G8 G12 k).2⌝))
  step k acc := by
    iintro ⟨H3, H9, H10, H11, ⟨%f8, H8, %h8⟩, ⟨%f12, H12, %h12⟩⟩
    subst h8; subst h12
    iapply (wp_wand_r Idealize.ShloMosaic.frame (wpE (defs₀ (F := F)) 𝒱 (c : Thread nD τ) bd) E)
    isplitl [H3 H9 H10 H11 H8 H12]
    · iapply ((trip2 𝒱 c bd i arg2 harg2 arg3 harg3 arg4 harg4 arg5 harg5 arg6 harg6 arg7 harg7 arg8 harg8 arg9 harg9 arg10 harg10 arg11 harg11 arg12 harg12 v0 X3 X9 X10 X11 k (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2).2.2 E (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).1)
      isplitl [H3]; · iexact H3
      isplitl [H9]; · iexact H9
      isplitl [H10]; · iexact H10
      isplitl [H11]; · iexact H11
      isplitl [H8]; · iexact H8
      iexact H12
    · iintro %_ ⟨H3, H9, H10, H11, H8, H12⟩
      isplitl [H3]; · iexact H3
      isplitl [H9]; · iexact H9
      isplitl [H10]; · iexact H10
      isplitl [H11]; · iexact H11
      rw [st2_succ]
      isplitl [H8]
      · iexists _; isplitl [H8]; · iexact H8
        ipureintro; rfl
      iexists _; isplitl [H12]; · iexact H12
      ipureintro; rfl

end Cert.Row.Hand
-- ==== Proof.RowBitsExact.lean ====
module

public import proofs.«01_k».proof.Proof.RowBitsFast
public import proofs.«01_k».proof.Proof.Gen.Row.Skeleton
public import proofs.«01_k».proof.Proof.Gen.Row.Loops

@[expose] public section

set_option maxRecDepth 8192
set_option maxHeartbeats 4000000

noncomputable section

namespace Cert.Row.Hand

open Cert.Row Cert.Row.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem off84 : ∀ k : Fin k0_t3_loop.trips, k0_off84 k = ![0, 0, 32 * itemQ (k.val / 2), itemL (k.val / 2) + 256 * (k.val % 2)] := by decide +kernel

instance (k : Fin k0_t3_loop.trips) : ClosedOff (k0_off84 k) := ⟨_, off84 k⟩

/-- The buffers a trip of the exact pass reads and writes. -/
abbrev Trip3 (c : Dev nD) (arg3 : Memref sig .tc .vmem S1x1x192x4608 .bf16) (arg8 : Memref sig .tc .vmem S1x1x192x4608 .i8) (arg9 : Memref sig .tc .vmem S6x4096x128 .bf16) (arg10 : Memref sig .tc .vmem S6x32x4096 .bf16) (arg11 : Memref sig .tc .vmem S6x4096x128 .f32)
    (X3 : BufTy.Contents (Elt F) arg3.view.ty) (X9 : BufTy.Contents (Elt F) arg9.view.ty) (X10 : BufTy.Contents (Elt F) arg10.view.ty) (X11 : BufTy.Contents (Elt F) arg11.view.ty) (f8 : BufTy.Contents (Elt F) arg8.view.ty) : sProp 𝕄G :=
  iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg8.view.loc (c : Thread nD τ) ↦[arg8.view.set]{fullShare} f8))

/-- One trip of the exact pass: one half of a work item. -/
@[irreducible] def trip3 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (k : Fin k0_t3_loop.trips) :
    { L8 : List (View.Piece (Elt F) S1x1x192x4608 .i8) // ∀ (E : Set ℕ) (f8 : BufTy.Contents (Elt F) arg8.view.ty),
      Trip3 (F := F) c arg3 arg8 arg9 arg10 arg11 X3 X9 X10 X11 f8
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 v0 k PUnit.unit)
          (fun _ => Trip3 (F := F) c arg3 arg8 arg9 arg10 arg11 X3 X9 X10 X11 (arg8.view.writes (Elt F) f8 L8)) } := by
  have hk : k.val < 108 := Nat.lt_of_lt_of_le k.isLt k0_t3_abs.2.1
  refine ⟨?_, fun E f8 => ?run⟩
  case run =>
    unfold k0_t3_body
    iintro ⟨HR3, HR9, HR10, HR11, HW8⟩
    sl_exec
    sl_step
    sl_close

/-- The contents of the codes' block before trip `k` of the exact pass. -/
def st3 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) : ℕ → BufTy.Contents (Elt F) arg8.view.ty
  | 0 => G8
  | k + 1 =>
    let p := st3 𝒱 c bd i arg2 harg2 arg3 harg3 arg4 harg4 arg5 harg5 arg6 harg6 arg7 harg7 arg8 harg8 arg9 harg9 arg10 harg10 arg11 harg11 arg12 harg12 v0 X3 X9 X10 X11 G8 k
    if h : k < k0_t3_loop.trips then
      arg8.view.writes (Elt F) p (trip3 𝒱 c bd i arg2 harg2 arg3 harg3 arg4 harg4 arg5 harg5 arg6 harg6 arg7 harg7 arg8 harg8 arg9 harg9 arg10 harg10 arg11 harg11 arg12 harg12 v0 X3 X9 X10 X11 ⟨k, h⟩).1
    else p

theorem st3_zero (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) :
    st3 𝒱 c bd i arg2 harg2 arg3 harg3 arg4 harg4 arg5 harg5 arg6 harg6 arg7 harg7 arg8 harg8 arg9 harg9 arg10 harg10 arg11 harg11 arg12 harg12 v0 X3 X9 X10 X11 G8 0 = G8 := rfl

theorem st3_succ (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (k : Fin k0_t3_loop.trips) :
    st3 𝒱 c bd i arg2 harg2 arg3 harg3 arg4 harg4 arg5 harg5 arg6 harg6 arg7 harg7 arg8 harg8 arg9 harg9 arg10 harg10 arg11 harg11 arg12 harg12 v0 X3 X9 X10 X11 G8 (k.val + 1)
      = arg8.view.writes (Elt F) (st3 𝒱 c bd i arg2 harg2 arg3 harg3 arg4 harg4 arg5 harg5 arg6 harg6 arg7 harg7 arg8 harg8 arg9 harg9 arg10 harg10 arg11 harg11 arg12 harg12 v0 X3 X9 X10 X11 G8 k.val) (trip3 𝒱 c bd i arg2 harg2 arg3 harg3 arg4 harg4 arg5 harg5 arg6 harg6 arg7 harg7 arg8 harg8 arg9 harg9 arg10 harg10 arg11 harg11 arg12 harg12 v0 X3 X9 X10 X11 k).1 := by
  rw [st3]; exact dif_pos k.isLt

set_option warn.classDefReducibility false in
/-- The exact pass by its invariant. -/
@[sl_loop] def loopInv3 (𝒱 : Variants) (c : Dev nD) (bd : Option 𝒱.V) (E : Set ℕ) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v0 where
  inv k _ := iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg8.view.loc (c : Thread nD τ) ↦[arg8.view.set]{fullShare} f) ∗ ⌜f = st3 𝒱 c bd i arg2 harg2 arg3 harg3 arg4 harg4 arg5 harg5 arg6 harg6 arg7 harg7 arg8 harg8 arg9 harg9 arg10 harg10 arg11 harg11 arg12 harg12 v0 X3 X9 X10 X11 G8 k⌝))
  step k acc := by
    iintro ⟨H3, H9, H10, H11, ⟨%f8, H8, %h8⟩⟩
    subst h8
    iapply (wp_wand_r Idealize.ShloMosaic.frame (wpE (defs₀ (F := F)) 𝒱 (c : Thread nD τ) bd) E)
    isplitl [H3 H9 H10 H11 H8]
    · iapply ((trip3 𝒱 c bd i arg2 harg2 arg3 harg3 arg4 harg4 arg5 harg5 arg6 harg6 arg7 harg7 arg8 harg8 arg9 harg9 arg10 harg10 arg11 harg11 arg12 harg12 v0 X3 X9 X10 X11 k).2 E (st3 𝒱 c bd i arg2 harg2 arg3 harg3 arg4 harg4 arg5 harg5 arg6 harg6 arg7 harg7 arg8 harg8 arg9 harg9 arg10 harg10 arg11 harg11 arg12 harg12 v0 X3 X9 X10 X11 G8 k.val))
      isplitl [H3]; · iexact H3
      isplitl [H9]; · iexact H9
      isplitl [H10]; · iexact H10
      isplitl [H11]; · iexact H11
      iexact H8
    · iintro %_ ⟨H3, H9, H10, H11, H8⟩
      isplitl [H3]; · iexact H3
      isplitl [H9]; · iexact H9
      isplitl [H10]; · iexact H10
      isplitl [H11]; · iexact H11
      rw [st3_succ]
      iexists _; isplitl [H8]; · iexact H8
      ipureintro; rfl

end Cert.Row.Hand
-- ==== Proof.RowBitsBody.lean ====
module

public import proofs.«01_k».proof.Proof.RowBitsExact
public import proofs.«01_k».proof.Proof.Gen.Row.Skeleton
public import proofs.«01_k».proof.Proof.Gen.Row.Loops

@[expose] public section

set_option maxRecDepth 8192
set_option maxHeartbeats 4000000

noncomputable section

namespace Cert.Row.Hand

open Cert.Row Cert.Row.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The buffers a grid point's body reads and writes. -/
abbrev Bufs (c : Dev nD) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- The scale a grid point's body reads first. -/
abbrev scaleOf (arg2 : Memref sig .tc .smem S2x6 .f32) (X2 : BufTy.Contents (Elt F) arg2.view.ty) : Elt F .f32 :=
  View.readAt (Elt F) arg2.view (Rect.unit (s := S2x6) ![0, 3] S1x1.size inb_S2x6_S1x1_0_3).toLoadRect X2 (Shape.Idx.first (by decide))

/-- Scratch 9 after the preparing loop. -/
abbrev prep9 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (f9 : BufTy.Contents (Elt F) arg9.view.ty) : BufTy.Contents (Elt F) arg9.view.ty :=
  arg9.view.writes (Elt F) f9 (pb_k0_t1 𝒱 c bd i arg2 harg2 arg3 harg3 arg4 harg4 arg5 harg5 arg6 harg6 arg7 harg7 arg8 harg8 arg9 harg9 arg10 harg10 arg11 harg11 arg12 harg12 X4 X5 X6 X7 (Scf.trips (0#32) (Scalar.addi 0#32 6#32) 1#32)).1

/-- Scratch 10 after the preparing loop. -/
abbrev prep10 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) : BufTy.Contents (Elt F) arg10.view.ty :=
  arg10.view.writes (Elt F) f10 (pb_k0_t1 𝒱 c bd i arg2 harg2 arg3 harg3 arg4 harg4 arg5 harg5 arg6 harg6 arg7 harg7 arg8 harg8 arg9 harg9 arg10 harg10 arg11 harg11 arg12 harg12 X4 X5 X6 X7 (Scf.trips (0#32) (Scalar.addi 0#32 6#32) 1#32)).2.1

/-- Scratch 11 after the preparing loop. -/
abbrev prep11 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (f11 : BufTy.Contents (Elt F) arg11.view.ty) : BufTy.Contents (Elt F) arg11.view.ty :=
  arg11.view.writes (Elt F) f11 (pb_k0_t1 𝒱 c bd i arg2 harg2 arg3 harg3 arg4 harg4 arg5 harg5 arg6 harg6 arg7 harg7 arg8 harg8 arg9 harg9 arg10 harg10 arg11 harg11 arg12 harg12 X4 X5 X6 X7 (Scf.trips (0#32) (Scalar.addi 0#32 6#32) 1#32)).2.2

/-- What the fast pass leaves of the results, `st2` after its last trip. -/
abbrev fastOf (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (f8 : BufTy.Contents (Elt F) arg8.view.ty) (G12 : BufTy.Contents (Elt F) arg12.view.ty) : BufTy.Contents (Elt F) arg8.view.ty :=
  (st2 𝒱 c bd i arg2 harg2 arg3 harg3 arg4 harg4 arg5 harg5 arg6 harg6 arg7 harg7 arg8 harg8 arg9 harg9 arg10 harg10 arg11 harg11 arg12 harg12 v0 X3 X9 X10 X11 f8 G12 (Scf.trips (0#32) (Scalar.addi 0#32 27#32) 1#32)).1

/-- What the body leaves of the results: what the fast pass leaves, or the exact pass over it. -/
def OutRel (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (f8 g8 : BufTy.Contents (Elt F) arg8.view.ty) : Prop :=
  ∃ G12, g8 = fastOf 𝒱 c bd i arg2 harg2 arg3 harg3 arg4 harg4 arg5 harg5 arg6 harg6 arg7 harg7 arg8 harg8 arg9 harg9 arg10 harg10 arg11 harg11 arg12 harg12 v0 X3 X9 X10 X11 f8 G12
    ∨ g8 = st3 𝒱 c bd i arg2 harg2 arg3 harg3 arg4 harg4 arg5 harg5 arg6 harg6 arg7 harg7 arg8 harg8 arg9 harg9 arg10 harg10 arg11 harg11 arg12 harg12 v0 X3 X9 X10 X11 (fastOf 𝒱 c bd i arg2 harg2 arg3 harg3 arg4 harg4 arg5 harg5 arg6 harg6 arg7 harg7 arg8 harg8 arg9 harg9 arg10 harg10 arg11 harg11 arg12 harg12 v0 X3 X9 X10 X11 f8 G12) (Scf.trips (0#32) (Scalar.addi 0#32 108#32) 1#32)

/-- What the body leaves of the results, from the blocks it reads and whatever the other buffers held. -/
def BodyOut (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (g8 : BufTy.Contents (Elt F) arg8.view.ty) : Prop :=
  OutRel 𝒱 c bd i arg2 harg2 arg3 harg3 arg4 harg4 arg5 harg5 arg6 harg6 arg7 harg7 arg8 harg8 arg9 harg9 arg10 harg10 arg11 harg11 arg12 harg12 (scaleOf arg2 X2) X3 (prep9 𝒱 c bd i arg2 harg2 arg3 harg3 arg4 harg4 arg5 harg5 arg6 harg6 arg7 harg7 arg8 harg8 arg9 harg9 arg10 harg10 arg11 harg11 arg12 harg12 X4 X5 X6 X7 f9) (prep10 𝒱 c bd i arg2 harg2 arg3 harg3 arg4 harg4 arg5 harg5 arg6 harg6 arg7 harg7 arg8 harg8 arg9 harg9 arg10 harg10 arg11 harg11 arg12 harg12 X4 X5 X6 X7 f10) (prep11 𝒱 c bd i arg2 harg2 arg3 harg3 arg4 harg4 arg5 harg5 arg6 harg6 arg7 harg7 arg8 harg8 arg9 harg9 arg10 harg10 arg11 harg11 arg12 harg12 X4 X5 X6 X7 f11) f8 g8

theorem forget12 (c : Dev nD) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X12 : BufTy.Contents (Elt F) arg12.view.ty) :
    ((arg12.view.loc (c : Thread nD τ) ↦[arg12.view.set]{fullShare} X12) : sProp 𝕄G) ⊢ iprop(∃ g, (arg12.view.loc (c : Thread nD τ) ↦[arg12.view.set]{fullShare} g)) := by
  iintro H; iexists _; iexact H

theorem body_run (𝒱 : Variants) (c : Dev nD) (bd : Option 𝒱.V) (E : Set ℕ) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    Bufs c i arg2 harg2 arg3 harg3 arg4 harg4 arg5 harg5 arg6 harg6 arg7 harg7 arg8 harg8 arg9 harg9 arg10 harg10 arg11 harg11 arg12 harg12 X2 X3 X4 X5 X6 X7 f8 f9 f10 f11 f12
      ⊢ wp frame (wpE (defs₀ (F := F)) 𝒱 (c : Thread nD τ) bd) E (cc0_row0 (F := F) i arg2 harg2 arg3 harg3 arg4 harg4 arg5 harg5 arg6 harg6 arg7 harg7 arg8 harg8 arg9 harg9 arg10 harg10 arg11 harg11 arg12 harg12)
        (fun _ => iprop(∃ g8 g12, Bufs c i arg2 harg2 arg3 harg3 arg4 harg4 arg5 harg5 arg6 harg6 arg7 harg7 arg8 harg8 arg9 harg9 arg10 harg10 arg11 harg11 arg12 harg12 X2 X3 X4 X5 X6 X7 g8 (prep9 𝒱 c bd i arg2 harg2 arg3 harg3 arg4 harg4 arg5 harg5 arg6 harg6 arg7 harg7 arg8 harg8 arg9 harg9 arg10 harg10 arg11 harg11 arg12 harg12 X4 X5 X6 X7 f9) (prep10 𝒱 c bd i arg2 harg2 arg3 harg3 arg4 harg4 arg5 harg5 arg6 harg6 arg7 harg7 arg8 harg8 arg9 harg9 arg10 harg10 arg11 harg11 arg12 harg12 X4 X5 X6 X7 f10) (prep11 𝒱 c bd i arg2 harg2 arg3 harg3 arg4 harg4 arg5 harg5 arg6 harg6 arg7 harg7 arg8 harg8 arg9 harg9 arg10 harg10 arg11 harg11 arg12 harg12 X4 X5 X6 X7 f11) g12
          ∗ ⌜BodyOut 𝒱 c bd i arg2 harg2 arg3 harg3 arg4 harg4 arg5 harg5 arg6 harg6 arg7 harg7 arg8 harg8 arg9 harg9 arg10 harg10 arg11 harg11 arg12 harg12 X2 X3 X4 X5 X6 X7 f8 f9 f10 f11 g8⌝)) := by
  rw [cc0_row0_eq_skeleton]; unfold cc0_row0_skel
  iintro ⟨H2, H3, H4, H5, H6, H7, H8, H9, H10, H11, H12⟩
  sl_exec
  ihave ⟨%G12, H12⟩ := (forget12 c i arg2 harg2 arg3 harg3 arg4 harg4 arg5 harg5 arg6 harg6 arg7 harg7 arg8 harg8 arg9 harg9 arg10 harg10 arg11 harg11 arg12 harg12 _) $$ H12
  iapply (Scf.wp_for_bind Idealize.ShloMosaic.frame (wpE (defs₀ (F := F)) 𝒱 (c : Thread nD τ) bd) E _ _ _ _ _ _
    (loopInv2 𝒱 c bd E i arg2 harg2 arg3 harg3 arg4 harg4 arg5 harg5 arg6 harg6 arg7 harg7 arg8 harg8 arg9 harg9 arg10 harg10 arg11 harg11 arg12 harg12 _ X3 _ _ _ f8 G12).inv (loopInv2 𝒱 c bd E i arg2 harg2 arg3 harg3 arg4 harg4 arg5 harg5 arg6 harg6 arg7 harg7 arg8 harg8 arg9 harg9 arg10 harg10 arg11 harg11 arg12 harg12 _ X3 _ _ _ f8 G12).step) $$ [H3 H8 H9 H10 H11 H12]
  · unfold loopInv2; dsimp only
    isplitl [H3]; · iexact H3
    isplitl [H9]; · iexact H9
    isplitl [H10]; · iexact H10
    isplitl [H11]; · iexact H11
    isplitl [H8]
    · iexists f8; isplitl [H8]; · iexact H8
      ipureintro; exact (st2_zero1 ..).symm
    iexists G12; isplitl [H12]; · iexact H12
    ipureintro; exact (st2_zero2 ..).symm
  unfold loopInv2; dsimp only
  iintro %acc ⟨H3, H9, H10, H11, ⟨%g8, H8, %h8⟩, ⟨%g12, H12, %h12⟩⟩
  sl_exec
  beta_reduce
  split
  · iapply (Scf.wp_for_bind Idealize.ShloMosaic.frame (wpE (defs₀ (F := F)) 𝒱 (c : Thread nD τ) bd) E _ _ _ _ _ _
      (loopInv3 𝒱 c bd E i arg2 harg2 arg3 harg3 arg4 harg4 arg5 harg5 arg6 harg6 arg7 harg7 arg8 harg8 arg9 harg9 arg10 harg10 arg11 harg11 arg12 harg12 _ X3 _ _ _ g8).inv (loopInv3 𝒱 c bd E i arg2 harg2 arg3 harg3 arg4 harg4 arg5 harg5 arg6 harg6 arg7 harg7 arg8 harg8 arg9 harg9 arg10 harg10 arg11 harg11 arg12 harg12 _ X3 _ _ _ g8).step) $$ [H3 H8 H9 H10 H11]
    · unfold loopInv3; dsimp only
      isplitl [H3]; · iexact H3
      isplitl [H9]; · iexact H9
      isplitl [H10]; · iexact H10
      isplitl [H11]; · iexact H11
      iexists g8; isplitl [H8]; · iexact H8
      ipureintro; exact (st3_zero ..).symm
    unfold loopInv3; dsimp only
    iintro %acc ⟨H3, H9, H10, H11, ⟨%g8', H8, %h8'⟩⟩
    sl_exec
    rw [wp_ret]; imodintro
    iexists g8', g12
    unfold Bufs
    isplitl [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · ipureintro
      exact ⟨G12, .inr (by rw [h8', h8]; rfl)⟩
  · sl_exec
    rw [wp_ret]; imodintro
    iexists g8, g12
    unfold Bufs
    isplitl [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · ipureintro
      exact ⟨G12, .inl h8⟩

end Cert.Row.Hand
-- ==== Proof.RowBitsRun.lean ====
module

public import proofs.«01_k».proof.Proof.RowBitsBody
public import proofs.«01_k».proof.Proof.Gen.Row.Frame
public import Idealize.ShloMosaic.Lib.Pipeline.DatRel
public import Idealize.ShloMosaic.Lib.Claim

/-!
The row kernel's whole run. Of the result the proof data say that what a grid point leaves meets a predicate `P`
that follows from the body's relation `BodyOut`; every argument array keeps its contents and every semaphore
counter ends at zero.
-/

@[expose] public section

set_option maxRecDepth 16384

noncomputable section

namespace Cert.Row.Hand

open Cert.Row Cert.Row.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: inputs at their blocks; of the result's window nothing is named. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ _ := Pipeline.ΦA spec0 c
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem before0_0 (c : Dev nD) (t : Fin cfg0.N) (d) : (dats m c).before 0 t d = iblk m c 0 t :=
  before0_0_of m (dats m c) (A_eq m c 0) (fun t => after0_0 m c t) t d
theorem after0_1 (c : Dev nD) (t : Fin cfg0.N) : (dats m c).after 1 t = iblk m c 1 t := by dsimp only [dats]
theorem before0_1 (c : Dev nD) (t : Fin cfg0.N) (d) : (dats m c).before 1 t d = iblk m c 1 t :=
  before0_1_of m (dats m c) (A_eq m c 1) (fun t => after0_1 m c t) t d
theorem after0_2 (c : Dev nD) (t : Fin cfg0.N) : (dats m c).after 2 t = iblk m c 2 t := by dsimp only [dats]
theorem before0_2 (c : Dev nD) (t : Fin cfg0.N) (d) : (dats m c).before 2 t d = iblk m c 2 t :=
  before0_2_of m (dats m c) (A_eq m c 2) (fun t => after0_2 m c t) t d
theorem after0_3 (c : Dev nD) (t : Fin cfg0.N) : (dats m c).after 3 t = iblk m c 3 t := by dsimp only [dats]
theorem before0_3 (c : Dev nD) (t : Fin cfg0.N) (d) : (dats m c).before 3 t d = iblk m c 3 t :=
  before0_3_of m (dats m c) (A_eq m c 3) (fun t => after0_3 m c t) t d
theorem after0_4 (c : Dev nD) (t : Fin cfg0.N) : (dats m c).after 4 t = iblk m c 4 t := by dsimp only [dats]
theorem before0_4 (c : Dev nD) (t : Fin cfg0.N) (d) : (dats m c).before 4 t d = iblk m c 4 t :=
  before0_4_of m (dats m c) (A_eq m c 4) (fun t => after0_4 m c t) t d
theorem after0_5 (c : Dev nD) (t : Fin cfg0.N) : (dats m c).after 5 t = iblk m c 5 t := by dsimp only [dats]
theorem before0_5 (c : Dev nD) (t : Fin cfg0.N) (d) : (dats m c).before 5 t d = iblk m c 5 t :=
  before0_5_of m (dats m c) (A_eq m c 5) (fun t => after0_5 m c t) t d

/-- The windows held to a predicate: the result's alone. -/
def held : Fin cfg0.W → Bool := ![false, false, false, false, false, false, true]

/-- A predicate on what the body leaves in the result's window at a point. -/
abbrev OutPred (F : FTy → Type) [FloatOps F] : Type := Fin cfg0.N → ((cfg0.win 6).block.Idx → Elt F (cfg0.win 6).elt) → Prop

/-- The predicate window by window. -/
def Rl (P : OutPred F) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun t X => P t X

/-- The predicate holds of whatever the body may leave. -/
def Leads (c : Dev nD) (P : OutPred F) : Prop :=
  ∀ (t : Fin cfg0.N) X2 X3 X4 X5 X6 X7 f8 f9 f10 f11 g8,
    (win0_0.stage (cfg0.slots t 0)).view.read (Elt F) X2 = iblk m c 0 t →
    (win0_1.stage (cfg0.slots t 1)).view.read (Elt F) X3 = iblk m c 1 t →
    (win0_2.stage (cfg0.slots t 2)).view.read (Elt F) X4 = iblk m c 2 t →
    (win0_3.stage (cfg0.slots t 3)).view.read (Elt F) X5 = iblk m c 3 t →
    (win0_4.stage (cfg0.slots t 4)).view.read (Elt F) X6 = iblk m c 4 t →
    (win0_5.stage (cfg0.slots t 5)).view.read (Elt F) X7 = iblk m c 5 t →
    BodyOut Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) X2 X3 X4 X5 X6 X7 f8 f9 f10 f11 g8 →
    P t ((win0_6.stage (cfg0.slots t 6)).view.read (Elt F) g8)

theorem scratch_eq (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  exact congrArg (fun S => ((Memref.whole b).view.loc (c : Thread nD τ) ↦[S]{fullShare} f : sProp 𝕄)) (View.set_whole b).symm

def bodyPre (c : Dev nD) (P : OutPred F) (t : Fin cfg0.N) : sProp 𝕄 :=
  iprop((dats m c).Φ t.castSucc ∗ (dats m c).owesAt () t.castSucc
    ∗ (∃ d, owns (c : Thread nD τ) (win0_0.stage (cfg0.slots t 0)) fullShare ((dats m c).before 0 t d))
    ∗ (∃ d, owns (c : Thread nD τ) (win0_1.stage (cfg0.slots t 1)) fullShare ((dats m c).before 1 t d))
    ∗ (∃ d, owns (c : Thread nD τ) (win0_2.stage (cfg0.slots t 2)) fullShare ((dats m c).before 2 t d))
    ∗ (∃ d, owns (c : Thread nD τ) (win0_3.stage (cfg0.slots t 3)) fullShare ((dats m c).before 3 t d))
    ∗ (∃ d, owns (c : Thread nD τ) (win0_4.stage (cfg0.slots t 4)) fullShare ((dats m c).before 4 t d))
    ∗ (∃ d, owns (c : Thread nD τ) (win0_5.stage (cfg0.slots t 5)) fullShare ((dats m c).before 5 t d))
    ∗ (∃ Y, ⌜((dats m c).toRRel held (Rl P)).Finds 6 t Y⌝ ∗ owns (c : Thread nD τ) (win0_6.stage (cfg0.slots t 6)) fullShare Y))

def bodyPost (c : Dev nD) (P : OutPred F) (t : Fin cfg0.N) : sProp 𝕄 :=
  iprop((dats m c).Φ t.succ ∗ (dats m c).owesAt () t.succ
    ∗ owns (c : Thread nD τ) (win0_0.stage (cfg0.slots t 0)) fullShare ((dats m c).after 0 t)
    ∗ owns (c : Thread nD τ) (win0_1.stage (cfg0.slots t 1)) fullShare ((dats m c).after 1 t)
    ∗ owns (c : Thread nD τ) (win0_2.stage (cfg0.slots t 2)) fullShare ((dats m c).after 2 t)
    ∗ owns (c : Thread nD τ) (win0_3.stage (cfg0.slots t 3)) fullShare ((dats m c).after 3 t)
    ∗ owns (c : Thread nD τ) (win0_4.stage (cfg0.slots t 4)) fullShare ((dats m c).after 4 t)
    ∗ owns (c : Thread nD τ) (win0_5.stage (cfg0.slots t 5)) fullShare ((dats m c).after 5 t)
    ∗ (∃ X, ⌜P t X⌝ ∗ owns (c : Thread nD τ) (win0_6.stage (cfg0.slots t 6)) fullShare X))

theorem sound_body (c : Dev nD) (P : OutPred F) (hP : Leads m c P) (t : Fin cfg0.N) :
    bodyPre m c P t ⊢ wp frame (wpE (defs₀ (F := F)) Variants.none c none) Set.univ (bodyAt0 t) (fun _ => bodyPost m c P t) := by
  unfold bodyPre bodyPost bodyAt0
  simp only [before0_0, before0_1, before0_2, before0_3, before0_4, before0_5]
  rw [show (dats m c).Φ t.succ = Pipeline.ΦA spec0 c from rfl, show (dats m c).Φ t.castSucc = Pipeline.ΦA spec0 c from rfl,
    show (dats m c).owesAt () t.succ = (dats m c).owesAt () t.castSucc from rfl,
    after0_0, after0_1, after0_2, after0_3, after0_4, after0_5]
  unfold Pipeline.ΦA
  rw [scopedRest0_eq]
  simp only [scratch_eq]
  unfold owns
  iintro ⟨⟨⟨⟨%f9, H9⟩, ⟨%f10, H10⟩, ⟨%f11, H11⟩, ⟨%f12, H12⟩⟩, Hp⟩, Ho, ⟨%d0, %X2, %h2, H2⟩, ⟨%d1, %X3, %h3, H3⟩, ⟨%d2, %X4, %h4, H4⟩, ⟨%d3, %X5, %h5, H5⟩, ⟨%d4, %X6, %h6, H6⟩, ⟨%d5, %X7, %h7, H7⟩, ⟨%Y, %hY, %f8, %h8, H8⟩⟩
  iapply (wp_wand_r Idealize.ShloMosaic.frame (wpE (defs₀ (F := F)) Variants.none (c : Thread nD τ) none) Set.univ)
  isplitl [H2 H3 H4 H5 H6 H7 H8 H9 H10 H11 H12]
  · iapply (body_run Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) X2 X3 X4 X5 X6 X7 f8 f9 f10 f11 f12)
    unfold Bufs
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ ⟨%g8, %g12, ⟨H2, H3, H4, H5, H6, H7, H8, H9, H10, H11, H12⟩, %hout⟩
    isplitl [H9 H10 H11 H12 Hp]
    · isplitl [H9 H10 H11 H12]
      · isplitl [H9]; · iexists _; iexact H9
        isplitl [H10]; · iexists _; iexact H10
        isplitl [H11]; · iexists _; iexact H11
        iexists _; iexact H12
      iexact Hp
    isplitl [Ho]; · iexact Ho
    isplitl [H2]
    · iexists X2; isplitr
      · ipureintro; exact h2
      iexact H2
    isplitl [H3]
    · iexists X3; isplitr
      · ipureintro; exact h3
      iexact H3
    isplitl [H4]
    · iexists X4; isplitr
      · ipureintro; exact h4
      iexact H4
    isplitl [H5]
    · iexists X5; isplitr
      · ipureintro; exact h5
      iexact H5
    isplitl [H6]
    · iexists X6; isplitr
      · ipureintro; exact h6
      iexact H6
    isplitl [H7]
    · iexists X7; isplitr
      · ipureintro; exact h7
      iexact H7
    iexists (win0_6.stage (cfg0.slots t 6)).view.read (Elt F) g8
    isplitr
    · ipureintro; exact hP t X2 X3 X4 X5 X6 X7 f8 f9 f10 f11 g8 h2 h3 h4 h5 h6 h7 hout
    iexists g8; isplitr
    · ipureintro; rfl
    iexact H8

/-- The body table's row at a point's slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) (P : OutPred F) (hP : Leads m c P) :
    BodyObligationRel (dats (F := F) m c) (defs₀ (F := F)) Variants.none () Set.univ held (Rl P) := fun t => by
  rw [bigSep_W0, bigSep_W0, defs₀_row]
  exact sound_body m c P hP t

set_option backward.isDefEq.respectTransparency.types false in
/-- The run: the arguments as they were, the result assembled from blocks that meet the predicate, all counters at zero. -/
theorem run_rel (P : Dev nD → OutPred F) (hP : ∀ c, Leads m c (P c)) :
    θ_run defs (onTc (τ := τ) (main (F := F))) (s₀ m ρ) (fun r =>
      RDat.FramePost cfg0 (fun c => (dats m c).toRRel held (Rl (P c))) (V m) r ∧ r.2.sem = fun _ => 0) :=
  Pipeline.RDat.θ_run_frame (Q' := _) cfgs (0 : Fin 1) launch0 defs₀ Variants.none (fun c => (dats m c).toRRel held (Rl (P c))) m ρ main
    (hbody := fun c => (body_obligation m c (P c) (hP c)).toRRel) (hshare := fun c w => (dats m c).share_full (fun _ => rfl) w)
    (howed := fun _ _ => rfl) (V := V m) (hmain := hmain m Variants.none) (hA := A_eq m) (hΦ := fun _ _ => rfl)
    (hQ' := fun _ h => h)

/-- The frame: every argument array ends as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (A_eq m c 0),
    (h.1.arr_in c 1 rfl).trans (A_eq m c 1),
    (h.1.arr_in c 2 rfl).trans (A_eq m c 2),
    (h.1.arr_in c 3 rfl).trans (A_eq m c 3),
    (h.1.arr_in c 4 rfl).trans (A_eq m c 4),
    (h.1.arr_in c 5 rfl).trans (A_eq m c 5)⟩, h.2⟩)
    (run_rel m ρ (fun _ _ _ => True) fun _ _ _ _ _ _ _ _ _ _ _ _ _ _ _ _ _ _ _ _ => trivial)

end Cert.Row.Hand
-- ==== Proof.RowPrepEq.lean ====
module

public import proofs.«01_k».proof.Proof.Gen.RowIdeal
public import proofs.«01_k».proof.Proof.Gen.RowIdeal.Skeleton
public import proofs.«01_k».proof.Proof.Gen.RowIdeal.Loops

@[expose] public section

set_option maxRecDepth 65536
set_option maxHeartbeats 4000000

noncomputable section

/-! The stores of one trip of the preparing loop, one head of the keys and the values each. -/

namespace Cert.RowIdeal.Hand

open Cert.RowIdeal Cert.RowIdeal.Gen
open Idealize.ShloMosaic Idealize.ShloMosaic.TcCoe

variable {F : FTy → Type} [FloatOps F]

/-- Where the codes of the keys of chunk `c` are loaded. -/
def prepOff4 : Fin 16 → Fin k0_t1_loop.trips → Fin 5 → ℕ :=
  ![k0_off3, k0_off6, k0_off9, k0_off12, k0_off15, k0_off18, k0_off21, k0_off24, k0_off27, k0_off30, k0_off33, k0_off36, k0_off39, k0_off42, k0_off45, k0_off48]

/-- Where the scales of chunk `c` are loaded. -/
def prepOff5 : Fin 16 → Fin k0_t1_loop.trips → Fin 5 → ℕ :=
  ![k0_off4, k0_off7, k0_off10, k0_off13, k0_off16, k0_off19, k0_off22, k0_off25, k0_off28, k0_off31, k0_off34, k0_off37, k0_off40, k0_off43, k0_off46, k0_off49]

/-- Where the keys of chunk `c` are stored. -/
def prepOff9 : Fin 16 → Fin k0_t1_loop.trips → Fin 3 → ℕ :=
  ![k0_off5, k0_off8, k0_off11, k0_off14, k0_off17, k0_off20, k0_off23, k0_off26, k0_off29, k0_off32, k0_off35, k0_off38, k0_off41, k0_off44, k0_off47, k0_off50]

theorem prepOff4_eq : ∀ (k : Fin k0_t1_loop.trips) (c : Fin 16), prepOff4 c k = ![0, 0, 0, 32 * k.val, 256 * c.val] := by decide +kernel
theorem prepOff5_eq : ∀ (k : Fin k0_t1_loop.trips) (c : Fin 16), prepOff5 c k = ![0, 0, 0, k.val, 256 * c.val] := by decide +kernel
theorem prepOff9_eq : ∀ (k : Fin k0_t1_loop.trips) (c : Fin 16), prepOff9 c k = ![k.val, 256 * c.val, 0] := by decide +kernel
theorem prepOff4_inb : ∀ (k : Fin k0_t1_loop.trips) (c : Fin 16) (a : Fin 5), prepOff4 c k a + S1x1x1x32x256.size a ≤ S1x1x1x192x4096.size a := by decide +kernel
theorem prepOff5_inb : ∀ (k : Fin k0_t1_loop.trips) (c : Fin 16) (a : Fin 5), prepOff5 c k a + S1x1x1x1x256.size a ≤ S1x1x1x6x4096.size a := by decide +kernel
theorem prepOff9_inb : ∀ (k : Fin k0_t1_loop.trips) (c : Fin 16) (a : Fin 3), prepOff9 c k a + S1x256x128.size a ≤ S6x4096x128.size a := by decide +kernel

/-- The store of one chunk of keys: loaded at `o4` and `o5`, stored at `o9`. -/
def keyPiece (arg4 : Memref sig .tc .vmem S1x1x1x192x4096 .i8) (arg5 : Memref sig .tc .vmem S1x1x1x6x4096 .f32) (X4 : BufTy.Contents (Elt F) arg4.view.ty) (X5 : BufTy.Contents (Elt F) arg5.view.ty)
    (o4 o5 : Fin 5 → ℕ) (o9 : Fin 3 → ℕ) (h4 : ∀ a, o4 a + S1x1x1x32x256.size a ≤ S1x1x1x192x4096.size a) (h5 : ∀ a, o5 a + S1x1x1x1x256.size a ≤ S1x1x1x6x4096.size a)
    (h9 : ∀ a, o9 a + S1x256x128.size a ≤ S6x4096x128.size a) : View.Piece (Elt F) S6x4096x128 .bf16 :=
  ⟨Rect.unit (s := S6x4096x128) o9 S1x256x128.size h9,
    k0_pay48 k0_pay8 (View.readAt (Elt F) arg4.view (Rect.unit (s := S1x1x1x192x4096) o4 S1x1x1x32x256.size h4).toLoadRect X4)
      (View.readAt (Elt F) arg5.view (Rect.unit (s := S1x1x1x6x4096) o5 S1x1x1x1x256.size h5).toLoadRect X5)⟩

/-- The store of the scales of one chunk of values: loaded at `o5`, stored at `o9`. -/
def scalePiece (arg7 : Memref sig .tc .vmem S1x1x1x6x4096 .f32) (X7 : BufTy.Contents (Elt F) arg7.view.ty)
    (o5 : Fin 5 → ℕ) (o9 : Fin 3 → ℕ) (h5 : ∀ a, o5 a + S1x1x1x1x256.size a ≤ S1x1x1x6x4096.size a)
    (h9 : ∀ a, o9 a + S1x256x128.size a ≤ S6x4096x128.size a) : View.Piece (Elt F) S6x4096x128 .f32 :=
  ⟨Rect.unit (s := S6x4096x128) o9 S1x256x128.size h9,
    k0_pay49 (View.readAt (Elt F) arg7.view (Rect.unit (s := S1x1x1x6x4096) o5 S1x1x1x1x256.size h5).toLoadRect X7)⟩

theorem trip1_keys (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 X4 X5 X6 X7 k).1 =
      List.ofFn fun c : Fin 16 => keyPiece arg4 arg5 X4 X5 (prepOff4 c.rev k) (prepOff5 c.rev k) (prepOff9 c.rev k)
        (prepOff4_inb k c.rev) (prepOff5_inb k c.rev) (prepOff9_inb k c.rev) := by
  unfold trip_k0_t1
  rfl

theorem trip1_values (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 X4 X5 X6 X7 k).2.1 =
      [⟨Rect.unit (s := S6x32x4096) (k0_off2 k) S1x32x4096.size (k0_off2_inb k),
        k0_pay7 (View.readAt (Elt F) arg6.view (Rect.unit (s := S1x1x1x192x4096) (k0_off1 k) S1x1x1x32x4096.size (k0_off1_inb k)).toLoadRect X6)⟩] := by
  unfold trip_k0_t1
  rfl

theorem trip1_scales (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 X4 X5 X6 X7 k).2.2.1 =
      List.ofFn fun c : Fin 16 => scalePiece arg7 X7 (prepOff5 c.rev k) (prepOff9 c.rev k)
        (prepOff5_inb k c.rev) (prepOff9_inb k c.rev) := by
  unfold trip_k0_t1
  rfl

end Cert.RowIdeal.Hand
-- ==== Proof.RowFast.lean ====
module

public import proofs.«01_k».proof.Proof.Gen.RowIdeal
public import proofs.«01_k».proof.Proof.Gen.RowIdeal.Skeleton
public import proofs.«01_k».proof.Proof.Gen.RowIdeal.Loops

@[expose] public section

set_option maxRecDepth 8192
set_option maxHeartbeats 4000000

noncomputable section

namespace Cert.RowIdeal.Hand

open Cert.RowIdeal Cert.RowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The head of the queries of work item `j`. -/
abbrev itemQ (j : ℕ) : ℕ := (j - (j - 48)) / 8 - 6 * (j / 48) + (j - 48)
/-- The head of the keys of work item `j`. -/
abbrev itemK (j : ℕ) : ℕ := (j - (j - 48)) / 8 - 6 * (j / 48)
/-- The first query column of work item `j`. -/
abbrev itemL (j : ℕ) : ℕ := ((j - (j - 48)) % 8) * 512 + 4096 * (j / 48)

theorem off51_00 : ∀ k : Fin k0_t2_loop.trips, k0_off51 k 0#32 0#32 = ![0, 0, 32 * itemQ (2 * k.val), itemL (2 * k.val)] := by decide +kernel
theorem off51_01 : ∀ k : Fin k0_t2_loop.trips, k0_off51 k 0#32 256#32 = ![0, 0, 32 * itemQ (2 * k.val), itemL (2 * k.val) + 256] := by decide +kernel
theorem off51_10 : ∀ k : Fin k0_t2_loop.trips, k0_off51 k 1#32 0#32 = ![0, 0, 32 * itemQ (2 * k.val + 1), itemL (2 * k.val + 1)] := by decide +kernel
theorem off51_11 : ∀ k : Fin k0_t2_loop.trips, k0_off51 k 1#32 256#32 = ![0, 0, 32 * itemQ (2 * k.val + 1), itemL (2 * k.val + 1) + 256] := by decide +kernel

instance (k : Fin k0_t2_loop.trips) : ClosedOff (k0_off51 k 0#32 0#32) := ⟨_, off51_00 k⟩
instance (k : Fin k0_t2_loop.trips) : ClosedOff (k0_off51 k 0#32 256#32) := ⟨_, off51_01 k⟩
instance (k : Fin k0_t2_loop.trips) : ClosedOff (k0_off51 k 1#32 0#32) := ⟨_, off51_10 k⟩
instance (k : Fin k0_t2_loop.trips) : ClosedOff (k0_off51 k 1#32 256#32) := ⟨_, off51_11 k⟩

abbrev Trip2 (c : Dev nD) (arg3 : Memref sig .tc .vmem S1x1x192x4608 .bf16) (arg8 : Memref sig .tc .vmem S1x1x192x4608 .i8) (arg9 : Memref sig .tc .vmem S6x4096x128 .bf16) (arg10 : Memref sig .tc .vmem S6x32x4096 .bf16) (arg11 : Memref sig .tc .vmem S6x4096x128 .f32) (arg12 : Memref sig .tc .vmem S1x256 .f32)
    (X3 : BufTy.Contents (Elt F) arg3.view.ty) (X9 : BufTy.Contents (Elt F) arg9.view.ty) (X10 : BufTy.Contents (Elt F) arg10.view.ty) (X11 : BufTy.Contents (Elt F) arg11.view.ty) (f8 : BufTy.Contents (Elt F) arg8.view.ty) (f12 : BufTy.Contents (Elt F) arg12.view.ty) : sProp 𝕄G :=
  iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg8.view.loc (c : Thread nD τ) ↦[arg8.view.set]{fullShare} f8) ∗ (arg12.view.loc (c : Thread nD τ) ↦[arg12.view.set]{fullShare} f12))

@[irreducible] def trip2 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (k : Fin k0_t2_loop.trips) (f12 : BufTy.Contents (Elt F) arg12.view.ty) :
    Σ' (L8 : List (View.Piece (Elt F) S1x1x192x4608 .i8)), { L12 : List (View.Piece (Elt F) S1x256 .f32) // ∀ (E : Set ℕ) (f8 : BufTy.Contents (Elt F) arg8.view.ty),
      Trip2 (F := F) c arg3 arg8 arg9 arg10 arg11 arg12 X3 X9 X10 X11 f8 f12
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 v0 k PUnit.unit)
          (fun _ => Trip2 (F := F) c arg3 arg8 arg9 arg10 arg11 arg12 X3 X9 X10 X11 (arg8.view.writes (Elt F) f8 L8) (arg12.view.writes (Elt F) f12 L12)) } := by
  have hk : k.val < 27 := Nat.lt_of_lt_of_le k.isLt k0_t2_abs.2.1
  refine ⟨?_, ?_, fun E f8 => ?run⟩
  case run =>
    unfold k0_t2_body
    iintro ⟨HR3, HR9, HR10, HR11, HW8, HW12⟩
    sl_exec
    sl_step
    sl_close

/-- The contents of the codes' block and of the flag row before trip `k` of the fast pass. -/
def st2 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) : ℕ → BufTy.Contents (Elt F) arg8.view.ty × BufTy.Contents (Elt F) arg12.view.ty
  | 0 => (G8, G12)
  | k + 1 =>
    let p := st2 𝒱 c bd i arg2 harg2 arg3 harg3 arg4 harg4 arg5 harg5 arg6 harg6 arg7 harg7 arg8 harg8 arg9 harg9 arg10 harg10 arg11 harg11 arg12 harg12 v0 X3 X9 X10 X11 G8 G12 k
    if h : k < k0_t2_loop.trips then
      (arg8.view.writes (Elt F) p.1 (trip2 𝒱 c bd i arg2 harg2 arg3 harg3 arg4 harg4 arg5 harg5 arg6 harg6 arg7 harg7 arg8 harg8 arg9 harg9 arg10 harg10 arg11 harg11 arg12 harg12 v0 X3 X9 X10 X11 ⟨k, h⟩ p.2).1,
        arg12.view.writes (Elt F) p.2 (trip2 𝒱 c bd i arg2 harg2 arg3 harg3 arg4 harg4 arg5 harg5 arg6 harg6 arg7 harg7 arg8 harg8 arg9 harg9 arg10 harg10 arg11 harg11 arg12 harg12 v0 X3 X9 X10 X11 ⟨k, h⟩ p.2).2.1)
    else p

theorem st2_zero1 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) :
    (st2 𝒱 c bd i arg2 harg2 arg3 harg3 arg4 harg4 arg5 harg5 arg6 harg6 arg7 harg7 arg8 harg8 arg9 harg9 arg10 harg10 arg11 harg11 arg12 harg12 v0 X3 X9 X10 X11 G8 G12 0).1 = G8 := rfl

theorem st2_zero2 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) :
    (st2 𝒱 c bd i arg2 harg2 arg3 harg3 arg4 harg4 arg5 harg5 arg6 harg6 arg7 harg7 arg8 harg8 arg9 harg9 arg10 harg10 arg11 harg11 arg12 harg12 v0 X3 X9 X10 X11 G8 G12 0).2 = G12 := rfl

theorem st2_succ (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) (k : Fin k0_t2_loop.trips) :
    st2 𝒱 c bd i arg2 harg2 arg3 harg3 arg4 harg4 arg5 harg5 arg6 harg6 arg7 harg7 arg8 harg8 arg9 harg9 arg10 harg10 arg11 harg11 arg12 harg12 v0 X3 X9 X10 X11 G8 G12 (k.val + 1)
      = (arg8.view.writes (Elt F) (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).1 (trip2 𝒱 c bd i arg2 harg2 arg3 harg3 arg4 harg4 arg5 harg5 arg6 harg6 arg7 harg7 arg8 harg8 arg9 harg9 arg10 harg10 arg11 harg11 arg12 harg12 v0 X3 X9 X10 X11 k (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2).1,
        arg12.view.writes (Elt F) (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2 (trip2 𝒱 c bd i arg2 harg2 arg3 harg3 arg4 harg4 arg5 harg5 arg6 harg6 arg7 harg7 arg8 harg8 arg9 harg9 arg10 harg10 arg11 harg11 arg12 harg12 v0 X3 X9 X10 X11 k (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2).2.1) := by
  rw [st2]; exact dif_pos k.isLt

set_option warn.classDefReducibility false in
/-- The fast pass by its invariant: the buffers read keep their contents, and the two written hold `st2`. -/
@[sl_loop] def loopInv2 (𝒱 : Variants) (c : Dev nD) (bd : Option 𝒱.V) (E : Set ℕ) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (G12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v0 where
  inv k _ := iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg8.view.loc (c : Thread nD τ) ↦[arg8.view.set]{fullShare} f) ∗ ⌜f = (st2 𝒱 c bd i arg2 harg2 arg3 harg3 arg4 harg4 arg5 harg5 arg6 harg6 arg7 harg7 arg8 harg8 arg9 harg9 arg10 harg10 arg11 harg11 arg12 harg12 v0 X3 X9 X10 X11 G8 G12 k).1⌝)
    ∗ (∃ f, (arg12.view.loc (c : Thread nD τ) ↦[arg12.view.set]{fullShare} f) ∗ ⌜f = (st2 𝒱 c bd i arg2 harg2 arg3 harg3 arg4 harg4 arg5 harg5 arg6 harg6 arg7 harg7 arg8 harg8 arg9 harg9 arg10 harg10 arg11 harg11 arg12 harg12 v0 X3 X9 X10 X11 G8 G12 k).2⌝))
  step k acc := by
    iintro ⟨H3, H9, H10, H11, ⟨%f8, H8, %h8⟩, ⟨%f12, H12, %h12⟩⟩
    subst h8; subst h12
    iapply (wp_wand_r Idealize.ShloMosaic.frame (wpE (defs₀ (F := F)) 𝒱 (c : Thread nD τ) bd) E)
    isplitl [H3 H9 H10 H11 H8 H12]
    · iapply ((trip2 𝒱 c bd i arg2 harg2 arg3 harg3 arg4 harg4 arg5 harg5 arg6 harg6 arg7 harg7 arg8 harg8 arg9 harg9 arg10 harg10 arg11 harg11 arg12 harg12 v0 X3 X9 X10 X11 k (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).2).2.2 E (st2 𝒱 c bd i arg2 harg2 arg3 harg3 arg4 harg4 arg5 harg5 arg6 harg6 arg7 harg7 arg8 harg8 arg9 harg9 arg10 harg10 arg11 harg11 arg12 harg12 v0 X3 X9 X10 X11 G8 G12 k.val).1)
      isplitl [H3]; · iexact H3
      isplitl [H9]; · iexact H9
      isplitl [H10]; · iexact H10
      isplitl [H11]; · iexact H11
      isplitl [H8]; · iexact H8
      iexact H12
    · iintro %_ ⟨H3, H9, H10, H11, H8, H12⟩
      isplitl [H3]; · iexact H3
      isplitl [H9]; · iexact H9
      isplitl [H10]; · iexact H10
      isplitl [H11]; · iexact H11
      rw [st2_succ]
      isplitl [H8]
      · iexists _; isplitl [H8]; · iexact H8
        ipureintro; rfl
      iexists _; isplitl [H12]; · iexact H12
      ipureintro; rfl

end Cert.RowIdeal.Hand
-- ==== Proof.RowExact.lean ====
module

public import proofs.«01_k».proof.Proof.RowFast
public import proofs.«01_k».proof.Proof.Gen.RowIdeal.Skeleton
public import proofs.«01_k».proof.Proof.Gen.RowIdeal.Loops

@[expose] public section

set_option maxRecDepth 8192
set_option maxHeartbeats 4000000

noncomputable section

namespace Cert.RowIdeal.Hand

open Cert.RowIdeal Cert.RowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem off84 : ∀ k : Fin k0_t3_loop.trips, k0_off84 k = ![0, 0, 32 * itemQ (k.val / 2), itemL (k.val / 2) + 256 * (k.val % 2)] := by decide +kernel

instance (k : Fin k0_t3_loop.trips) : ClosedOff (k0_off84 k) := ⟨_, off84 k⟩

/-- The buffers a trip of the exact pass reads and writes. -/
abbrev Trip3 (c : Dev nD) (arg3 : Memref sig .tc .vmem S1x1x192x4608 .bf16) (arg8 : Memref sig .tc .vmem S1x1x192x4608 .i8) (arg9 : Memref sig .tc .vmem S6x4096x128 .bf16) (arg10 : Memref sig .tc .vmem S6x32x4096 .bf16) (arg11 : Memref sig .tc .vmem S6x4096x128 .f32)
    (X3 : BufTy.Contents (Elt F) arg3.view.ty) (X9 : BufTy.Contents (Elt F) arg9.view.ty) (X10 : BufTy.Contents (Elt F) arg10.view.ty) (X11 : BufTy.Contents (Elt F) arg11.view.ty) (f8 : BufTy.Contents (Elt F) arg8.view.ty) : sProp 𝕄G :=
  iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg8.view.loc (c : Thread nD τ) ↦[arg8.view.set]{fullShare} f8))

/-- One trip of the exact pass: one half of a work item. -/
@[irreducible] def trip3 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (k : Fin k0_t3_loop.trips) :
    { L8 : List (View.Piece (Elt F) S1x1x192x4608 .i8) // ∀ (E : Set ℕ) (f8 : BufTy.Contents (Elt F) arg8.view.ty),
      Trip3 (F := F) c arg3 arg8 arg9 arg10 arg11 X3 X9 X10 X11 f8
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 v0 k PUnit.unit)
          (fun _ => Trip3 (F := F) c arg3 arg8 arg9 arg10 arg11 X3 X9 X10 X11 (arg8.view.writes (Elt F) f8 L8)) } := by
  have hk : k.val < 108 := Nat.lt_of_lt_of_le k.isLt k0_t3_abs.2.1
  refine ⟨?_, fun E f8 => ?run⟩
  case run =>
    unfold k0_t3_body
    iintro ⟨HR3, HR9, HR10, HR11, HW8⟩
    sl_exec
    sl_step
    sl_close

/-- The contents of the codes' block before trip `k` of the exact pass. -/
def st3 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) : ℕ → BufTy.Contents (Elt F) arg8.view.ty
  | 0 => G8
  | k + 1 =>
    let p := st3 𝒱 c bd i arg2 harg2 arg3 harg3 arg4 harg4 arg5 harg5 arg6 harg6 arg7 harg7 arg8 harg8 arg9 harg9 arg10 harg10 arg11 harg11 arg12 harg12 v0 X3 X9 X10 X11 G8 k
    if h : k < k0_t3_loop.trips then
      arg8.view.writes (Elt F) p (trip3 𝒱 c bd i arg2 harg2 arg3 harg3 arg4 harg4 arg5 harg5 arg6 harg6 arg7 harg7 arg8 harg8 arg9 harg9 arg10 harg10 arg11 harg11 arg12 harg12 v0 X3 X9 X10 X11 ⟨k, h⟩).1
    else p

theorem st3_zero (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) :
    st3 𝒱 c bd i arg2 harg2 arg3 harg3 arg4 harg4 arg5 harg5 arg6 harg6 arg7 harg7 arg8 harg8 arg9 harg9 arg10 harg10 arg11 harg11 arg12 harg12 v0 X3 X9 X10 X11 G8 0 = G8 := rfl

theorem st3_succ (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) (k : Fin k0_t3_loop.trips) :
    st3 𝒱 c bd i arg2 harg2 arg3 harg3 arg4 harg4 arg5 harg5 arg6 harg6 arg7 harg7 arg8 harg8 arg9 harg9 arg10 harg10 arg11 harg11 arg12 harg12 v0 X3 X9 X10 X11 G8 (k.val + 1)
      = arg8.view.writes (Elt F) (st3 𝒱 c bd i arg2 harg2 arg3 harg3 arg4 harg4 arg5 harg5 arg6 harg6 arg7 harg7 arg8 harg8 arg9 harg9 arg10 harg10 arg11 harg11 arg12 harg12 v0 X3 X9 X10 X11 G8 k.val) (trip3 𝒱 c bd i arg2 harg2 arg3 harg3 arg4 harg4 arg5 harg5 arg6 harg6 arg7 harg7 arg8 harg8 arg9 harg9 arg10 harg10 arg11 harg11 arg12 harg12 v0 X3 X9 X10 X11 k).1 := by
  rw [st3]; exact dif_pos k.isLt

set_option warn.classDefReducibility false in
/-- The exact pass by its invariant. -/
@[sl_loop] def loopInv3 (𝒱 : Variants) (c : Dev nD) (bd : Option 𝒱.V) (E : Set ℕ) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (G8 : BufTy.Contents (Elt F) arg8.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v0 where
  inv k _ := iprop((arg3.view.loc (c : Thread nD τ) ↦[arg3.view.set]{fullShare} X3) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg8.view.loc (c : Thread nD τ) ↦[arg8.view.set]{fullShare} f) ∗ ⌜f = st3 𝒱 c bd i arg2 harg2 arg3 harg3 arg4 harg4 arg5 harg5 arg6 harg6 arg7 harg7 arg8 harg8 arg9 harg9 arg10 harg10 arg11 harg11 arg12 harg12 v0 X3 X9 X10 X11 G8 k⌝))
  step k acc := by
    iintro ⟨H3, H9, H10, H11, ⟨%f8, H8, %h8⟩⟩
    subst h8
    iapply (wp_wand_r Idealize.ShloMosaic.frame (wpE (defs₀ (F := F)) 𝒱 (c : Thread nD τ) bd) E)
    isplitl [H3 H9 H10 H11 H8]
    · iapply ((trip3 𝒱 c bd i arg2 harg2 arg3 harg3 arg4 harg4 arg5 harg5 arg6 harg6 arg7 harg7 arg8 harg8 arg9 harg9 arg10 harg10 arg11 harg11 arg12 harg12 v0 X3 X9 X10 X11 k).2 E (st3 𝒱 c bd i arg2 harg2 arg3 harg3 arg4 harg4 arg5 harg5 arg6 harg6 arg7 harg7 arg8 harg8 arg9 harg9 arg10 harg10 arg11 harg11 arg12 harg12 v0 X3 X9 X10 X11 G8 k.val))
      isplitl [H3]; · iexact H3
      isplitl [H9]; · iexact H9
      isplitl [H10]; · iexact H10
      isplitl [H11]; · iexact H11
      iexact H8
    · iintro %_ ⟨H3, H9, H10, H11, H8⟩
      isplitl [H3]; · iexact H3
      isplitl [H9]; · iexact H9
      isplitl [H10]; · iexact H10
      isplitl [H11]; · iexact H11
      rw [st3_succ]
      iexists _; isplitl [H8]; · iexact H8
      ipureintro; rfl

end Cert.RowIdeal.Hand
-- ==== Proof.RowBody.lean ====
module

public import proofs.«01_k».proof.Proof.RowExact
public import proofs.«01_k».proof.Proof.Gen.RowIdeal.Skeleton
public import proofs.«01_k».proof.Proof.Gen.RowIdeal.Loops

@[expose] public section

set_option maxRecDepth 8192
set_option maxHeartbeats 4000000

noncomputable section

namespace Cert.RowIdeal.Hand

open Cert.RowIdeal Cert.RowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The buffers a grid point's body reads and writes. -/
abbrev Bufs (c : Dev nD) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- The scale a grid point's body reads first. -/
abbrev scaleOf (arg2 : Memref sig .tc .smem S2x6 .f32) (X2 : BufTy.Contents (Elt F) arg2.view.ty) : Elt F .f32 :=
  View.readAt (Elt F) arg2.view (Rect.unit (s := S2x6) ![0, 3] S1x1.size inb_S2x6_S1x1_0_3).toLoadRect X2 (Shape.Idx.first (by decide))

/-- Scratch 9 after the preparing loop. -/
abbrev prep9 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (f9 : BufTy.Contents (Elt F) arg9.view.ty) : BufTy.Contents (Elt F) arg9.view.ty :=
  arg9.view.writes (Elt F) f9 (pb_k0_t1 𝒱 c bd i arg2 harg2 arg3 harg3 arg4 harg4 arg5 harg5 arg6 harg6 arg7 harg7 arg8 harg8 arg9 harg9 arg10 harg10 arg11 harg11 arg12 harg12 X4 X5 X6 X7 (Scf.trips (0#32) (Scalar.addi 0#32 6#32) 1#32)).1

/-- Scratch 10 after the preparing loop. -/
abbrev prep10 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) : BufTy.Contents (Elt F) arg10.view.ty :=
  arg10.view.writes (Elt F) f10 (pb_k0_t1 𝒱 c bd i arg2 harg2 arg3 harg3 arg4 harg4 arg5 harg5 arg6 harg6 arg7 harg7 arg8 harg8 arg9 harg9 arg10 harg10 arg11 harg11 arg12 harg12 X4 X5 X6 X7 (Scf.trips (0#32) (Scalar.addi 0#32 6#32) 1#32)).2.1

/-- Scratch 11 after the preparing loop. -/
abbrev prep11 (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt F) arg4.view.ty) (X5 : BufTy.Contents (Elt F) arg5.view.ty) (X6 : BufTy.Contents (Elt F) arg6.view.ty) (X7 : BufTy.Contents (Elt F) arg7.view.ty) (f11 : BufTy.Contents (Elt F) arg11.view.ty) : BufTy.Contents (Elt F) arg11.view.ty :=
  arg11.view.writes (Elt F) f11 (pb_k0_t1 𝒱 c bd i arg2 harg2 arg3 harg3 arg4 harg4 arg5 harg5 arg6 harg6 arg7 harg7 arg8 harg8 arg9 harg9 arg10 harg10 arg11 harg11 arg12 harg12 X4 X5 X6 X7 (Scf.trips (0#32) (Scalar.addi 0#32 6#32) 1#32)).2.2

/-- What the fast pass leaves of the results, `st2` after its last trip. -/
abbrev fastOf (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (f8 : BufTy.Contents (Elt F) arg8.view.ty) (G12 : BufTy.Contents (Elt F) arg12.view.ty) : BufTy.Contents (Elt F) arg8.view.ty :=
  (st2 𝒱 c bd i arg2 harg2 arg3 harg3 arg4 harg4 arg5 harg5 arg6 harg6 arg7 harg7 arg8 harg8 arg9 harg9 arg10 harg10 arg11 harg11 arg12 harg12 v0 X3 X9 X10 X11 f8 G12 (Scf.trips (0#32) (Scalar.addi 0#32 27#32) 1#32)).1

/-- What the body leaves of the results: what the fast pass leaves, or the exact pass over it. -/
def OutRel (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (f8 g8 : BufTy.Contents (Elt F) arg8.view.ty) : Prop :=
  ∃ G12, g8 = fastOf 𝒱 c bd i arg2 harg2 arg3 harg3 arg4 harg4 arg5 harg5 arg6 harg6 arg7 harg7 arg8 harg8 arg9 harg9 arg10 harg10 arg11 harg11 arg12 harg12 v0 X3 X9 X10 X11 f8 G12
    ∨ g8 = st3 𝒱 c bd i arg2 harg2 arg3 harg3 arg4 harg4 arg5 harg5 arg6 harg6 arg7 harg7 arg8 harg8 arg9 harg9 arg10 harg10 arg11 harg11 arg12 harg12 v0 X3 X9 X10 X11 (fastOf 𝒱 c bd i arg2 harg2 arg3 harg3 arg4 harg4 arg5 harg5 arg6 harg6 arg7 harg7 arg8 harg8 arg9 harg9 arg10 harg10 arg11 harg11 arg12 harg12 v0 X3 X9 X10 X11 f8 G12) (Scf.trips (0#32) (Scalar.addi 0#32 108#32) 1#32)

/-- What the body leaves of the results, from the blocks it reads and whatever the other buffers held. -/
def BodyOut (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (g8 : BufTy.Contents (Elt F) arg8.view.ty) : Prop :=
  OutRel 𝒱 c bd i arg2 harg2 arg3 harg3 arg4 harg4 arg5 harg5 arg6 harg6 arg7 harg7 arg8 harg8 arg9 harg9 arg10 harg10 arg11 harg11 arg12 harg12 (scaleOf arg2 X2) X3 (prep9 𝒱 c bd i arg2 harg2 arg3 harg3 arg4 harg4 arg5 harg5 arg6 harg6 arg7 harg7 arg8 harg8 arg9 harg9 arg10 harg10 arg11 harg11 arg12 harg12 X4 X5 X6 X7 f9) (prep10 𝒱 c bd i arg2 harg2 arg3 harg3 arg4 harg4 arg5 harg5 arg6 harg6 arg7 harg7 arg8 harg8 arg9 harg9 arg10 harg10 arg11 harg11 arg12 harg12 X4 X5 X6 X7 f10) (prep11 𝒱 c bd i arg2 harg2 arg3 harg3 arg4 harg4 arg5 harg5 arg6 harg6 arg7 harg7 arg8 harg8 arg9 harg9 arg10 harg10 arg11 harg11 arg12 harg12 X4 X5 X6 X7 f11) f8 g8

theorem forget12 (c : Dev nD) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X12 : BufTy.Contents (Elt F) arg12.view.ty) :
    ((arg12.view.loc (c : Thread nD τ) ↦[arg12.view.set]{fullShare} X12) : sProp 𝕄G) ⊢ iprop(∃ g, (arg12.view.loc (c : Thread nD τ) ↦[arg12.view.set]{fullShare} g)) := by
  iintro H; iexists _; iexact H

theorem body_run (𝒱 : Variants) (c : Dev nD) (bd : Option 𝒱.V) (E : Set ℕ) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    Bufs c i arg2 harg2 arg3 harg3 arg4 harg4 arg5 harg5 arg6 harg6 arg7 harg7 arg8 harg8 arg9 harg9 arg10 harg10 arg11 harg11 arg12 harg12 X2 X3 X4 X5 X6 X7 f8 f9 f10 f11 f12
      ⊢ wp frame (wpE (defs₀ (F := F)) 𝒱 (c : Thread nD τ) bd) E (cc0_row0 (F := F) i arg2 harg2 arg3 harg3 arg4 harg4 arg5 harg5 arg6 harg6 arg7 harg7 arg8 harg8 arg9 harg9 arg10 harg10 arg11 harg11 arg12 harg12)
        (fun _ => iprop(∃ g8 g12, Bufs c i arg2 harg2 arg3 harg3 arg4 harg4 arg5 harg5 arg6 harg6 arg7 harg7 arg8 harg8 arg9 harg9 arg10 harg10 arg11 harg11 arg12 harg12 X2 X3 X4 X5 X6 X7 g8 (prep9 𝒱 c bd i arg2 harg2 arg3 harg3 arg4 harg4 arg5 harg5 arg6 harg6 arg7 harg7 arg8 harg8 arg9 harg9 arg10 harg10 arg11 harg11 arg12 harg12 X4 X5 X6 X7 f9) (prep10 𝒱 c bd i arg2 harg2 arg3 harg3 arg4 harg4 arg5 harg5 arg6 harg6 arg7 harg7 arg8 harg8 arg9 harg9 arg10 harg10 arg11 harg11 arg12 harg12 X4 X5 X6 X7 f10) (prep11 𝒱 c bd i arg2 harg2 arg3 harg3 arg4 harg4 arg5 harg5 arg6 harg6 arg7 harg7 arg8 harg8 arg9 harg9 arg10 harg10 arg11 harg11 arg12 harg12 X4 X5 X6 X7 f11) g12
          ∗ ⌜BodyOut 𝒱 c bd i arg2 harg2 arg3 harg3 arg4 harg4 arg5 harg5 arg6 harg6 arg7 harg7 arg8 harg8 arg9 harg9 arg10 harg10 arg11 harg11 arg12 harg12 X2 X3 X4 X5 X6 X7 f8 f9 f10 f11 g8⌝)) := by
  rw [cc0_row0_eq_skeleton]; unfold cc0_row0_skel
  iintro ⟨H2, H3, H4, H5, H6, H7, H8, H9, H10, H11, H12⟩
  sl_exec
  ihave ⟨%G12, H12⟩ := (forget12 c i arg2 harg2 arg3 harg3 arg4 harg4 arg5 harg5 arg6 harg6 arg7 harg7 arg8 harg8 arg9 harg9 arg10 harg10 arg11 harg11 arg12 harg12 _) $$ H12
  iapply (Scf.wp_for_bind Idealize.ShloMosaic.frame (wpE (defs₀ (F := F)) 𝒱 (c : Thread nD τ) bd) E _ _ _ _ _ _
    (loopInv2 𝒱 c bd E i arg2 harg2 arg3 harg3 arg4 harg4 arg5 harg5 arg6 harg6 arg7 harg7 arg8 harg8 arg9 harg9 arg10 harg10 arg11 harg11 arg12 harg12 _ X3 _ _ _ f8 G12).inv (loopInv2 𝒱 c bd E i arg2 harg2 arg3 harg3 arg4 harg4 arg5 harg5 arg6 harg6 arg7 harg7 arg8 harg8 arg9 harg9 arg10 harg10 arg11 harg11 arg12 harg12 _ X3 _ _ _ f8 G12).step) $$ [H3 H8 H9 H10 H11 H12]
  · unfold loopInv2; dsimp only
    isplitl [H3]; · iexact H3
    isplitl [H9]; · iexact H9
    isplitl [H10]; · iexact H10
    isplitl [H11]; · iexact H11
    isplitl [H8]
    · iexists f8; isplitl [H8]; · iexact H8
      ipureintro; exact (st2_zero1 ..).symm
    iexists G12; isplitl [H12]; · iexact H12
    ipureintro; exact (st2_zero2 ..).symm
  unfold loopInv2; dsimp only
  iintro %acc ⟨H3, H9, H10, H11, ⟨%g8, H8, %h8⟩, ⟨%g12, H12, %h12⟩⟩
  sl_exec
  beta_reduce
  split
  · iapply (Scf.wp_for_bind Idealize.ShloMosaic.frame (wpE (defs₀ (F := F)) 𝒱 (c : Thread nD τ) bd) E _ _ _ _ _ _
      (loopInv3 𝒱 c bd E i arg2 harg2 arg3 harg3 arg4 harg4 arg5 harg5 arg6 harg6 arg7 harg7 arg8 harg8 arg9 harg9 arg10 harg10 arg11 harg11 arg12 harg12 _ X3 _ _ _ g8).inv (loopInv3 𝒱 c bd E i arg2 harg2 arg3 harg3 arg4 harg4 arg5 harg5 arg6 harg6 arg7 harg7 arg8 harg8 arg9 harg9 arg10 harg10 arg11 harg11 arg12 harg12 _ X3 _ _ _ g8).step) $$ [H3 H8 H9 H10 H11]
    · unfold loopInv3; dsimp only
      isplitl [H3]; · iexact H3
      isplitl [H9]; · iexact H9
      isplitl [H10]; · iexact H10
      isplitl [H11]; · iexact H11
      iexists g8; isplitl [H8]; · iexact H8
      ipureintro; exact (st3_zero ..).symm
    unfold loopInv3; dsimp only
    iintro %acc ⟨H3, H9, H10, H11, ⟨%g8', H8, %h8'⟩⟩
    sl_exec
    rw [wp_ret]; imodintro
    iexists g8', g12
    unfold Bufs
    isplitl [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · ipureintro
      exact ⟨G12, .inr (by rw [h8', h8]; rfl)⟩
  · sl_exec
    rw [wp_ret]; imodintro
    iexists g8, g12
    unfold Bufs
    isplitl [H2 H3 H4 H5 H6 H7 H8 H9 H10 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · ipureintro
      exact ⟨G12, .inl h8⟩

end Cert.RowIdeal.Hand
-- ==== Proof.RowChunk.lean ====
module

public import proofs.«01_k».proof.Proof.Gen.RowIdeal
public import proofs.«01_k».proof.Proof.Gen.RowIdeal.Skeleton

@[expose] public section

set_option maxRecDepth 16384

noncomputable section

/-!
What attention computes for 256 queries of one head, one chunk of 256 keys at a time, as vector
expressions. Both passes of the kernel are these functions; the modules on the passes show it.
-/

namespace Cert.RowIdeal.Hand

open Cert.RowIdeal Cert.RowIdeal.Gen
open Idealize.ShloMosaic Idealize.ShloMosaic.TcCoe

variable {F : FTy → Type} [FloatOps F]

/-- What is loaded of one chunk of keys: the keys, the scales of the values, the values. -/
structure Loads (F : FTy → Type) [FloatOps F] where
  ka : Vec F S1x256x128 .bf16
  vs : Vec F S1x256x128 .f32
  vt : Vec F S1x32x256 .bf16

/-- The queries three times over, and a fourth block `off` of the same height. -/
def augQ (q : Vec F S1x1x32x256 .bf16) (off : FVec F S32x256 .bf16) : FVec F S128x256 .bf16 :=
  concatenate S128x256 0
    [⟨S96x256, concatenate S96x256 0
        [⟨S32x256, shapeCast S32x256 q shapeCasts_S1x1x32x256_S32x256⟩,
         ⟨S32x256, shapeCast S32x256 q shapeCasts_S1x1x32x256_S32x256⟩,
         ⟨S32x256, shapeCast S32x256 q shapeCasts_S1x1x32x256_S32x256⟩]
        concatenates_S32x256_S32x256_S32x256_S96x256_d0⟩, ⟨S32x256, off⟩]
    concatenates_S96x256_S32x256_S128x256_d0

/-- The scores of one chunk of keys. -/
def scoreC (qa : FVec F S128x256 .bf16) (ka : Vec F S1x256x128 .bf16) : FVec F S256x256 .f32 :=
  matmul dot_S256x128_S128x256_S256x256_1_0_0_1_n_n none
    (shapeCast S256x128 ka shapeCasts_S1x256x128_S256x128) qa (constant S256x256 .f32 0x00000000#32)

/-- The sum of the exponentials of one chunk, in eight rows. -/
def denC (s : FVec F S256x256 .f32) : FVec F S8x256 .f32 :=
  multiReduction .add [0] S8x256 (shapeCast S32x8x256 (exp2 s) shapeCasts_S256x256_S32x8x256)
    0x00000000#32 reduces_S32x8x256_S8x256 (.inl rfl) rfl

/-- The weighted values of one chunk. -/
def pvC (s : FVec F S256x256 .f32) (vs : Vec F S1x256x128 .f32) (vt : Vec F S1x32x256 .bf16) :
    FVec F S32x256 .f32 :=
  matmul dot_S32x256_S256x256_S32x256_1_0_0_1_n_n none
    (shapeCast S32x256 vt shapeCasts_S1x32x256_S32x256)
    (truncf .bf16 (mulf (exp2 s) (concatenate S256x256 1
      [⟨S256x128, shapeCast S256x128 vs shapeCasts_S1x256x128_S256x128⟩,
       ⟨S256x128, shapeCast S256x128 vs shapeCasts_S1x256x128_S256x128⟩]
      concatenates_S256x128_S256x128_S256x256_d1)) bitsLt_bf16_f32)
    (constant S32x256 .f32 0x00000000#32)

/-- The sum of the exponentials over a first chunk and more. -/
def denOf (qa : FVec F S128x256 .bf16) (x : Loads F) (xs : List (Loads F)) : FVec F S8x256 .f32 :=
  xs.foldl (fun d y => addf d (denC (scoreC qa y.ka))) (denC (scoreC qa x.ka))

/-- The weighted values over a first chunk and more. -/
def pvOf (qa : FVec F S128x256 .bf16) (x : Loads F) (xs : List (Loads F)) : FVec F S32x256 .f32 :=
  xs.foldl (fun d y => addf d (pvC (scoreC qa y.ka) y.vs y.vt)) (pvC (scoreC qa x.ka) x.vs x.vt)

/-- The codes: the weighted values over the sum of the exponentials, quantised by `a3`. -/
def finishC (a3 : Elt F .f32) (d : FVec F S8x256 .f32) (o : FVec F S32x256 .f32) : IVec S1x1x32x256 8 :=
  shapeCast S1x1x32x256
    (fptosi 8 (minimumf (broadcast S32x256 (Scalar.ofBits .f32 0x42FE0000#32))
      (maximumf (broadcast S32x256 (Scalar.ofBits .f32 0xC2FE0000#32))
        (roundeven (divf (divf o (broadcastTo S32x256
          (shapeCast S1x256 (multiReduction .add [0] S256 d 0x00000000#32 reduces_S8x256_S256 (.inl rfl) rfl)
            shapeCasts_S256_S1x256) broadcasts_S1x256_S32x256)) (broadcast S32x256 a3))))))
    shapeCasts_S32x256_S1x1x32x256

/-- The codes of 256 queries against the chunks loaded. -/
def attC (a3 : Elt F .f32) (q : Vec F S1x1x32x256 .bf16) (off : FVec F S32x256 .bf16) (x : Loads F)
    (xs : List (Loads F)) : IVec S1x1x32x256 8 :=
  finishC a3 (denOf (augQ q off) x xs) (pvOf (augQ q off) x xs)

end Cert.RowIdeal.Hand
-- ==== Proof.RowFastEq.lean ====
module

public import proofs.«01_k».proof.Proof.RowFast
public import proofs.«01_k».proof.Proof.RowChunk

@[expose] public section

set_option maxRecDepth 65536
set_option maxHeartbeats 4000000

noncomputable section

/-! The four stores of one trip of the fast pass, by the chunks loaded. -/

namespace Cert.RowIdeal.Hand

open Cert.RowIdeal Cert.RowIdeal.Gen
open Idealize.ShloMosaic Idealize.ShloMosaic.TcCoe

variable {F : FTy → Type} [FloatOps F]

/-- One chunk of keys loaded: the keys and the scales of the values at `o9`, the values at `o10`. -/
def loadsAt (arg9 : Memref sig .tc .vmem S6x4096x128 .bf16) (arg10 : Memref sig .tc .vmem S6x32x4096 .bf16) (arg11 : Memref sig .tc .vmem S6x4096x128 .f32) (X9 : BufTy.Contents (Elt F) arg9.view.ty) (X10 : BufTy.Contents (Elt F) arg10.view.ty) (X11 : BufTy.Contents (Elt F) arg11.view.ty)
    (o9 o10 : Fin 3 → ℕ) (h9 : ∀ a, o9 a + S1x256x128.size a ≤ S6x4096x128.size a) (h10 : ∀ a, o10 a + S1x32x256.size a ≤ S6x32x4096.size a) : Loads F :=
  ⟨View.readAt (Elt F) arg9.view (Rect.unit (s := S6x4096x128) o9 S1x256x128.size h9).toLoadRect X9,
   View.readAt (Elt F) arg11.view (Rect.unit (s := S6x4096x128) o9 S1x256x128.size h9).toLoadRect X11,
   View.readAt (Elt F) arg10.view (Rect.unit (s := S6x32x4096) o10 S1x32x256.size h10).toLoadRect X10⟩

/-- 256 queries loaded. -/
def queryAt (arg3 : Memref sig .tc .vmem S1x1x192x4608 .bf16) (X3 : BufTy.Contents (Elt F) arg3.view.ty)
    (o : Fin 4 → ℕ) (h : ∀ a, o a + S1x1x32x256.size a ≤ S1x1x192x4608.size a) : Vec F S1x1x32x256 .bf16 :=
  View.readAt (Elt F) arg3.view (Rect.unit (s := S1x1x192x4608) o S1x1x32x256.size h).toLoadRect X3

/-- Where the fast pass loads the keys of chunk `c`. -/
def fastOff9 : Fin 16 → Fin k0_t2_loop.trips → BitVec 32 → Fin 3 → ℕ :=
  ![k0_off52, k0_off53, k0_off54, k0_off56, k0_off58, k0_off60, k0_off62, k0_off64, k0_off66, k0_off68, k0_off70, k0_off72, k0_off74, k0_off76, k0_off78, k0_off80]

/-- Where the fast pass loads the values of chunk `c`. -/
def fastOff10 : Fin 16 → Fin k0_t2_loop.trips → BitVec 32 → Fin 3 → ℕ :=
  ![k0_off55, k0_off57, k0_off59, k0_off61, k0_off63, k0_off65, k0_off67, k0_off69, k0_off71, k0_off73, k0_off75, k0_off77, k0_off79, k0_off81, k0_off82, k0_off83]

theorem fastOff9_eq : ∀ (k : Fin k0_t2_loop.trips) (r : Fin 2) (c : Fin 16),
    fastOff9 c k (BitVec.ofNat 32 r.val) = ![itemK (2 * k.val + r.val), 256 * c.val, 0] := by decide +kernel

theorem fastOff10_eq : ∀ (k : Fin k0_t2_loop.trips) (r : Fin 2) (c : Fin 16),
    fastOff10 c k (BitVec.ofNat 32 r.val) = ![itemK (2 * k.val + r.val), 0, 256 * c.val] := by decide +kernel

theorem fastOff9_inb : ∀ (k : Fin k0_t2_loop.trips) (r : Fin 2) (c : Fin 16) (a : Fin 3),
    fastOff9 c k (BitVec.ofNat 32 r.val) a + S1x256x128.size a ≤ S6x4096x128.size a := by decide +kernel

theorem fastOff10_inb : ∀ (k : Fin k0_t2_loop.trips) (r : Fin 2) (c : Fin 16) (a : Fin 3),
    fastOff10 c k (BitVec.ofNat 32 r.val) a + S1x32x256.size a ≤ S6x32x4096.size a := by decide +kernel

/-- Chunk `c` as work item `r` of trip `k` loads it. -/
def fastLoads (arg9 : Memref sig .tc .vmem S6x4096x128 .bf16) (arg10 : Memref sig .tc .vmem S6x32x4096 .bf16) (arg11 : Memref sig .tc .vmem S6x4096x128 .f32) (X9 : BufTy.Contents (Elt F) arg9.view.ty) (X10 : BufTy.Contents (Elt F) arg10.view.ty) (X11 : BufTy.Contents (Elt F) arg11.view.ty) (k : Fin k0_t2_loop.trips) (r : Fin 2) (c : Fin 16) : Loads F :=
  loadsAt arg9 arg10 arg11 X9 X10 X11 (fastOff9 c k (BitVec.ofNat 32 r.val)) (fastOff10 c k (BitVec.ofNat 32 r.val))
    (fastOff9_inb k r c) (fastOff10_inb k r c)

theorem trip2_pieces (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (k : Fin k0_t2_loop.trips) (f12 : BufTy.Contents (Elt F) arg12.view.ty) :
    (trip2 𝒱 c bd i arg2 harg2 arg3 harg3 arg4 harg4 arg5 harg5 arg6 harg6 arg7 harg7 arg8 harg8 arg9 harg9 arg10 harg10 arg11 harg11 arg12 harg12 v0 X3 X9 X10 X11 k f12).1 =
      [⟨Rect.unit (s := S1x1x192x4608) (k0_off51 k 1#32 256#32) S1x1x32x256.size (k0_off51_inb k 1 1), attC v0 (queryAt arg3 X3 (k0_off51 k 1#32 256#32) (k0_off51_inb k 1 1)) k0_pay2 (fastLoads arg9 arg10 arg11 X9 X10 X11 k 1 0) (List.ofFn fun c : Fin 15 => fastLoads arg9 arg10 arg11 X9 X10 X11 k 1 c.succ)⟩,
       ⟨Rect.unit (s := S1x1x192x4608) (k0_off51 k 1#32 0#32) S1x1x32x256.size (k0_off51_inb k 1 0), attC v0 (queryAt arg3 X3 (k0_off51 k 1#32 0#32) (k0_off51_inb k 1 0)) k0_pay2 (fastLoads arg9 arg10 arg11 X9 X10 X11 k 1 0) (List.ofFn fun c : Fin 15 => fastLoads arg9 arg10 arg11 X9 X10 X11 k 1 c.succ)⟩,
       ⟨Rect.unit (s := S1x1x192x4608) (k0_off51 k 0#32 256#32) S1x1x32x256.size (k0_off51_inb k 0 1), attC v0 (queryAt arg3 X3 (k0_off51 k 0#32 256#32) (k0_off51_inb k 0 1)) k0_pay2 (fastLoads arg9 arg10 arg11 X9 X10 X11 k 0 0) (List.ofFn fun c : Fin 15 => fastLoads arg9 arg10 arg11 X9 X10 X11 k 0 c.succ)⟩,
       ⟨Rect.unit (s := S1x1x192x4608) (k0_off51 k 0#32 0#32) S1x1x32x256.size (k0_off51_inb k 0 0), attC v0 (queryAt arg3 X3 (k0_off51 k 0#32 0#32) (k0_off51_inb k 0 0)) k0_pay2 (fastLoads arg9 arg10 arg11 X9 X10 X11 k 0 0) (List.ofFn fun c : Fin 15 => fastLoads arg9 arg10 arg11 X9 X10 X11 k 0 c.succ)⟩] := by
  unfold trip2
  rfl

end Cert.RowIdeal.Hand
-- ==== Proof.RowExactEq.lean ====
module

public import proofs.«01_k».proof.Proof.RowExact
public import proofs.«01_k».proof.Proof.RowFastEq

@[expose] public section

set_option maxRecDepth 65536
set_option maxHeartbeats 4000000

noncomputable section

/-! The store of one trip of the exact pass, by the chunks loaded: first the greatest score, then the
codes with the scores moved down by it. -/

namespace Cert.RowIdeal.Hand

open Cert.RowIdeal Cert.RowIdeal.Gen
open Idealize.ShloMosaic Idealize.ShloMosaic.TcCoe

variable {F : FTy → Type} [FloatOps F]

/-- The greatest score of every query after `j` chunks. -/
def exactMax (arg9 : Memref sig .tc .vmem S6x4096x128 .bf16) (X9 : BufTy.Contents (Elt F) arg9.view.ty)
    (q : Vec F S1x1x32x256 .bf16) (k : Fin k0_t3_loop.trips) : ℕ → FVec F S1x256 .f32
  | 0 => k0_pay350
  | j + 1 =>
    if h : j < k0_t4_loop.trips then
      k0_pay351 k0_pay2 q (exactMax arg9 X9 q k j)
        (View.readAt (Elt F) arg9.view (Rect.unit (s := S6x4096x128) (k0_off85 k ⟨j, h⟩) S1x256x128.size (k0_off85_inb k ⟨j, h⟩)).toLoadRect X9)
    else exactMax arg9 X9 q k j

/-- The block put below the queries: the offset's three parts in its first three rows. -/
def offRows (m : FVec F S1x256 .f32) : FVec F S32x256 .bf16 :=
  truncf .bf16 (select (cmpi .eq (iota .tc S32x256 32 [0] iota_S32x256_d0_w32) (broadcast S32x256 0#32))
    (broadcastTo S32x256 (shapeCast S1x256 (k0_pay353 m) shapeCasts_S1x256_S1x256) broadcasts_S1x256_S32x256)
    (select (cmpi .eq (iota .tc S32x256 32 [0] iota_S32x256_d0_w32) (broadcast S32x256 1#32))
      (broadcastTo S32x256 (shapeCast S1x256 (extf .f32 (truncf .bf16 (subf (k0_pay352 m) (k0_pay353 m)) bitsLt_bf16_f32) bitsLt_bf16_f32) shapeCasts_S1x256_S1x256) broadcasts_S1x256_S32x256)
      (select (cmpi .eq (iota .tc S32x256 32 [0] iota_S32x256_d0_w32) (broadcast S32x256 2#32))
        (broadcastTo S32x256 (shapeCast S1x256 (subf (subf (k0_pay352 m) (k0_pay353 m)) (extf .f32 (truncf .bf16 (subf (k0_pay352 m) (k0_pay353 m)) bitsLt_bf16_f32) bitsLt_bf16_f32)) shapeCasts_S1x256_S1x256) broadcasts_S1x256_S32x256)
        (broadcast S32x256 (Scalar.ofBits .f32 0x00000000#32))))) bitsLt_bf16_f32

/-- Chunk `c` as trip `k` of the exact pass loads it. -/
def exactLoads (arg9 : Memref sig .tc .vmem S6x4096x128 .bf16) (arg10 : Memref sig .tc .vmem S6x32x4096 .bf16) (arg11 : Memref sig .tc .vmem S6x4096x128 .f32) (X9 : BufTy.Contents (Elt F) arg9.view.ty) (X10 : BufTy.Contents (Elt F) arg10.view.ty) (X11 : BufTy.Contents (Elt F) arg11.view.ty) (k : Fin k0_t3_loop.trips) (c : Fin k0_t5_loop.trips) : Loads F :=
  loadsAt arg9 arg10 arg11 X9 X10 X11 (k0_off86 k c) (k0_off87 k c) (k0_off86_inb k c) (k0_off87_inb k c)

/-- The sum of the exponentials and the weighted values after `j` chunks. -/
def exactSums (arg9 : Memref sig .tc .vmem S6x4096x128 .bf16) (arg10 : Memref sig .tc .vmem S6x32x4096 .bf16) (arg11 : Memref sig .tc .vmem S6x4096x128 .f32) (X9 : BufTy.Contents (Elt F) arg9.view.ty) (X10 : BufTy.Contents (Elt F) arg10.view.ty) (X11 : BufTy.Contents (Elt F) arg11.view.ty) (qa : FVec F S128x256 .bf16) (k : Fin k0_t3_loop.trips) : ℕ → FVec F S8x256 .f32 × FVec F S32x256 .f32
  | 0 => (k0_pay354, k0_pay355)
  | j + 1 =>
    if h : j < k0_t5_loop.trips then
      (addf (exactSums arg9 arg10 arg11 X9 X10 X11 qa k j).1
          (denC (scoreC qa (exactLoads arg9 arg10 arg11 X9 X10 X11 k ⟨j, h⟩).ka)),
        addf (exactSums arg9 arg10 arg11 X9 X10 X11 qa k j).2
          (pvC (scoreC qa (exactLoads arg9 arg10 arg11 X9 X10 X11 k ⟨j, h⟩).ka)
            (exactLoads arg9 arg10 arg11 X9 X10 X11 k ⟨j, h⟩).vs (exactLoads arg9 arg10 arg11 X9 X10 X11 k ⟨j, h⟩).vt))
    else exactSums arg9 arg10 arg11 X9 X10 X11 qa k j

theorem exactMax_eq (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (k : Fin k0_t3_loop.trips)
    (arg13 : BitVec 32) (v33 : BitVec 32) (v34 : BitVec 1) (v52 : BitVec 32) (v54 : BitVec 32) (c8_i32_29 : BitVec 32) (v55 : BitVec 1) (c1_i32_31 : BitVec 32)
    (q : Vec F S1x1x32x256 .bf16) (X9 : BufTy.Contents (Elt F) arg9.view.ty) (j : ℕ) (hj : j ≤ k0_t4_loop.trips) :
    st_k0_t4 𝒱 c bd i arg2 harg2 arg3 harg3 arg4 harg4 arg5 harg5 arg6 harg6 arg7 harg7 arg8 harg8 arg9 harg9 arg10 harg10 arg11 harg11 arg12 harg12 k0_pay2 k arg13 v33 v34 v52 v54 c8_i32_29 v55 c1_i32_31 q X9 k0_pay350 j = exactMax arg9 X9 q k j := by
  induction j with
  | zero => exact st_k0_t4_zero ..
  | succ j ih =>
    have e := st_k0_t4_succ (F := F) 𝒱 c bd i arg2 harg2 arg3 harg3 arg4 harg4 arg5 harg5 arg6 harg6 arg7 harg7 arg8 harg8 arg9 harg9 arg10 harg10 arg11 harg11 arg12 harg12 k0_pay2 k arg13 v33 v34 v52 v54 c8_i32_29 v55 c1_i32_31 q X9 k0_pay350 ⟨j, hj⟩
    rw [exactMax, dif_pos (show j < k0_t4_loop.trips from hj), ← ih (Nat.le_of_succ_le hj)]
    refine Eq.trans e ?_
    unfold tripR_k0_t4 trip_k0_t4
    rfl

theorem exactSums_eq (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (k : Fin k0_t3_loop.trips)
    (v52 v68 v80 : BitVec 32) (q : Vec F S1x1x32x256 .bf16) (m : FVec F S1x256 .f32) (X9 : BufTy.Contents (Elt F) arg9.view.ty) (X10 : BufTy.Contents (Elt F) arg10.view.ty) (X11 : BufTy.Contents (Elt F) arg11.view.ty) (j : ℕ) (hj : j ≤ k0_t5_loop.trips) :
    st_k0_t5 𝒱 c bd i arg2 harg2 arg3 harg3 arg4 harg4 arg5 harg5 arg6 harg6 arg7 harg7 arg8 harg8 arg9 harg9 arg10 harg10 arg11 harg11 arg12 harg12 v0 k v52 v68 v80 (k0_pay349 q) (k0_pay352 m) (k0_pay353 m) X9 X10 X11 (k0_pay354, k0_pay355) j
      = exactSums arg9 arg10 arg11 X9 X10 X11 (augQ q (offRows m)) k j := by
  induction j with
  | zero => exact st_k0_t5_zero ..
  | succ j ih =>
    have e := st_k0_t5_succ (F := F) 𝒱 c bd i arg2 harg2 arg3 harg3 arg4 harg4 arg5 harg5 arg6 harg6 arg7 harg7 arg8 harg8 arg9 harg9 arg10 harg10 arg11 harg11 arg12 harg12 v0 k v52 v68 v80 (k0_pay349 q) (k0_pay352 m) (k0_pay353 m) X9 X10 X11 (k0_pay354, k0_pay355) ⟨j, hj⟩
    rw [exactSums, dif_pos (show j < k0_t5_loop.trips from hj), ← ih (Nat.le_of_succ_le hj)]
    refine Eq.trans e ?_
    unfold tripR_k0_t5 trip_k0_t5
    rfl

theorem trip3_pieces (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt F .f32) (X3 : BufTy.Contents (Elt F) arg3.view.ty) (X9 : BufTy.Contents (Elt F) arg9.view.ty) (X10 : BufTy.Contents (Elt F) arg10.view.ty) (X11 : BufTy.Contents (Elt F) arg11.view.ty) (k : Fin k0_t3_loop.trips) :
    (trip3 𝒱 c bd i arg2 harg2 arg3 harg3 arg4 harg4 arg5 harg5 arg6 harg6 arg7 harg7 arg8 harg8 arg9 harg9 arg10 harg10 arg11 harg11 arg12 harg12 v0 X3 X9 X10 X11 k).1 =
      [⟨Rect.unit (s := S1x1x192x4608) (k0_off84 k) S1x1x32x256.size (k0_off84_inb k),
        finishC v0
          (exactSums arg9 arg10 arg11 X9 X10 X11 (augQ (queryAt arg3 X3 (k0_off84 k) (k0_off84_inb k)) (offRows (exactMax arg9 X9 (queryAt arg3 X3 (k0_off84 k) (k0_off84_inb k)) k k0_t4_loop.trips))) k k0_t5_loop.trips).1
          (exactSums arg9 arg10 arg11 X9 X10 X11 (augQ (queryAt arg3 X3 (k0_off84 k) (k0_off84_inb k)) (offRows (exactMax arg9 X9 (queryAt arg3 X3 (k0_off84 k) (k0_off84_inb k)) k k0_t4_loop.trips))) k k0_t5_loop.trips).2⟩] := by
  rw [← exactSums_eq 𝒱 c bd i arg2 harg2 arg3 harg3 arg4 harg4 arg5 harg5 arg6 harg6 arg7 harg7 arg8 harg8 arg9 harg9 arg10 harg10 arg11 harg11 arg12 harg12 v0 k (trip3.sl.v52 k) (trip3.sl.v67 k) (trip3.sl.v80 k) _ _ X9 X10 X11 _ le_rfl,
    ← exactMax_eq 𝒱 c bd i arg2 harg2 arg3 harg3 arg4 harg4 arg5 harg5 arg6 harg6 arg7 harg7 arg8 harg8 arg9 harg9 arg10 harg10 arg11 harg11 arg12 harg12 k _ _ _ _ _ _ _ _ _ X9 _ le_rfl]
  unfold trip3
  rfl

end Cert.RowIdeal.Hand
-- ==== Proof.RowMath.lean ====
module

public import Idealize.ShloMosaic.Lib.Pointwise
public import Idealize.ShloMosaic.Lib.IdealHost

@[expose] public section

set_option maxRecDepth 16384

noncomputable section

/-!
The code of one query against 4096 keys over the extended reals, and that moving all scores by one
finite number leaves it as it is.
-/

namespace Cert.Attention

open Idealize.ShloMosaic

/-- The code that the quotient `x` has at the scale `a`: rounded, clipped to ±127, as a byte. -/
def codeOf (a x : EReal) : BitVec 8 :=
  FloatOps.fptosi (F := Ideal) (φ := .f32) 8 (min (Ideal.ofBits .f32 1123942400#32)
    (max (Ideal.ofBits .f32 3271426048#32) (Ideal.liftRound Ideal.roundHalfEven (Ideal.div x a))))

/-- The code of one query: `s` its scores, `w` the scales and `v` the codes of the values. -/
def soft {n : ℕ} (a : EReal) (s w v : Fin n → EReal) : BitVec 8 :=
  codeOf a (Ideal.div (∑ t, v t * (Ideal.exp2 (s t) * w t)) (∑ t, Ideal.exp2 (s t)))

theorem coe_mul_sum {ι : Type*} (c : ℝ) (hc : 0 ≤ c) (f : ι → EReal) (s : Finset ι) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

theorem coe_sum {ι : Type*} (f : ι → ℝ) (s : Finset ι) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_add (a b : ℝ) : Ideal.exp2 ((a : EReal) + (b : EReal)) = (Real.rpow 2 b : EReal) * Ideal.exp2 (a : EReal) := by
  rw [← EReal.coe_add, Ideal.exp2_coe, Ideal.exp2_coe, ← EReal.coe_mul]
  congr 1
  rw [mul_comm]
  exact Real.rpow_add (by norm_num) a b

theorem div_mul_mul (c b : ℝ) (hc : 0 < c) (hb : 0 < b) (A : EReal) :
    Ideal.div ((c : EReal) * A) ((c : EReal) * (b : EReal)) = Ideal.div A (b : EReal) := by
  have h1 : ((c : EReal) * (b : EReal)) ≠ 0 := by
    rw [← EReal.coe_mul]; exact EReal.coe_ne_zero.2 (mul_pos hc hb).ne'
  have h2 : (b : EReal) ≠ 0 := EReal.coe_ne_zero.2 hb.ne'
  have h3 : (c : EReal) * ((c⁻¹ : ℝ) : EReal) = 1 := by
    rw [← EReal.coe_mul, mul_inv_cancel₀ hc.ne']; rfl
  rw [Ideal.div, if_neg h1, Ideal.div, if_neg h2, ← EReal.coe_mul, ← EReal.coe_inv, ← EReal.coe_inv, mul_inv,
    EReal.coe_mul, mul_mul_mul_comm, h3, one_mul]

/-- Moving all scores by one finite number changes nothing. -/
theorem soft_shift {n : ℕ} (hn : 0 < n) (a : EReal) (s w v : Fin n → EReal) (m : EReal)
    (hs : ∀ t, ∃ r : ℝ, s t = (r : EReal)) (hm : ∃ r : ℝ, m = (r : EReal)) :
    soft a (fun t => s t + m) w v = soft a s w v := by
  obtain ⟨r, hr⟩ := Classical.axiomOfChoice hs
  obtain ⟨b, rfl⟩ := hm
  obtain rfl : s = fun t => (r t : EReal) := funext hr
  have hpos : 0 < Real.rpow 2 b := Real.rpow_pos_of_pos (by norm_num) b
  have hden : (∑ t, Ideal.exp2 ((r t : EReal))) = ((∑ t, Real.rpow 2 (r t) : ℝ) : EReal) := by
    rw [coe_sum]; rfl
  have hdpos : 0 < ∑ t, Real.rpow 2 (r t) := by
    haveI : Nonempty (Fin n) := ⟨⟨0, hn⟩⟩
    exact Finset.sum_pos (fun t _ => Real.rpow_pos_of_pos (by norm_num) _) Finset.univ_nonempty
  unfold soft
  congr 1
  have e1 : (∑ t, v t * (Ideal.exp2 ((r t : EReal) + (b : EReal)) * w t))
      = (Real.rpow 2 b : EReal) * ∑ t, v t * (Ideal.exp2 ((r t : EReal)) * w t) := by
    rw [coe_mul_sum _ hpos.le]
    refine Finset.sum_congr rfl fun t _ => ?_
    rw [exp2_add, mul_assoc, mul_left_comm]
  have e2 : (∑ t, Ideal.exp2 ((r t : EReal) + (b : EReal)))
      = (Real.rpow 2 b : EReal) * ∑ t, Ideal.exp2 ((r t : EReal)) := by
    rw [coe_mul_sum _ hpos.le]
    exact Finset.sum_congr rfl fun t _ => exp2_add _ _
  rw [e1, e2, hden]
  exact div_mul_mul _ _ hpos hdpos _

/-- A sum over 4096 keys, by chunks of 256. -/
theorem sum_chunks {M : Type*} [AddCommMonoid M] (f : Fin 4096 → M) :
    ∑ t, f t = ∑ c : Fin 16, ∑ t : Fin 256, f ⟨256 * c.val + t.val, by omega⟩ := by
  rw [← Finset.sum_product', Finset.univ_product_univ]
  refine (Fintype.sum_equiv (finProdFinEquiv (m := 16) (n := 256)) _ _ fun x => ?_).symm
  refine congrArg f (Fin.ext ?_)
  show 256 * x.1.val + x.2.val = x.2.val + 256 * x.1.val
  omega

/-- A sum over 256 keys, by 32 groups of 8. -/
theorem sum_groups {M : Type*} [AddCommMonoid M] (f : Fin 256 → M) :
    ∑ r : Fin 8, ∑ g : Fin 32, f ⟨g.val * 8 + r.val, by omega⟩ = ∑ t, f t := by
  rw [Finset.sum_comm, ← Finset.sum_product', Finset.univ_product_univ]
  refine Fintype.sum_equiv (finProdFinEquiv (m := 32) (n := 8)) _ _ fun x => ?_
  refine congrArg f (Fin.ext ?_)
  show x.1.val * 8 + x.2.val = x.2.val + 8 * x.1.val
  omega

/-- A finite value. -/
def IsFin (x : EReal) : Prop := ∃ r : ℝ, x = (r : EReal)

namespace IsFin

theorem zero : IsFin 0 := ⟨0, rfl⟩
theorem one : IsFin 1 := ⟨1, rfl⟩
theorem add {x y : EReal} : IsFin x → IsFin y → IsFin (x + y) := by
  rintro ⟨a, rfl⟩ ⟨b, rfl⟩; exact ⟨a + b, by simp⟩
theorem sub {x y : EReal} : IsFin x → IsFin y → IsFin (x - y) := by
  rintro ⟨a, rfl⟩ ⟨b, rfl⟩; exact ⟨a - b, by simp⟩
theorem mul {x y : EReal} : IsFin x → IsFin y → IsFin (x * y) := by
  rintro ⟨a, rfl⟩ ⟨b, rfl⟩; exact ⟨a * b, by simp⟩
theorem max {x y : EReal} : IsFin x → IsFin y → IsFin (max x y) := by
  rintro ⟨a, rfl⟩ ⟨b, rfl⟩; exact ⟨Max.max a b, (EReal.coe_strictMono.monotone.map_max ..).symm⟩
theorem sub_self {x : EReal} : IsFin x → x - x = 0 := by
  rintro ⟨a, rfl⟩; rw [← EReal.coe_sub, _root_.sub_self]; rfl
theorem liftRound {x : EReal} (f : ℝ → ℤ) : IsFin x → IsFin (Ideal.liftRound f x) := by
  rintro ⟨a, rfl⟩; exact ⟨((f a : ℤ) : ℝ), rfl⟩
theorem sum {ι : Type*} (f : ι → EReal) (s : Finset ι) (h : ∀ i, IsFin (f i)) : IsFin (∑ i ∈ s, f i) := by
  classical
  induction s using Finset.induction_on with
  | empty => exact zero
  | insert a s ha ih => rw [Finset.sum_insert ha]; exact (h a).add ih
theorem fold_max {ι : Type*} (f : ι → EReal) (s : Finset ι) (h : ∀ i, IsFin (f i)) :
    s = ∅ ∨ IsFin (s.fold Max.max ⊥ f) := by
  classical
  induction s using Finset.induction_on with
  | empty => exact .inl rfl
  | insert a s ha ih =>
    refine .inr ?_
    rw [Finset.fold_insert ha]
    rcases ih with rfl | ih
    · simpa using h a
    · exact (h a).max ih

end IsFin

/-! The constants of both programs as extended reals. -/

theorem bits_neg_inf : Ideal.ofBits .f32 4286578688#32 = ⊥ := by simp [Ideal.ofBits, Ideal.ieee]
theorem bits_inf : Ideal.ofBits .f32 2139095040#32 = ⊤ := by simp [Ideal.ofBits, Ideal.ieee]
theorem bits_two : Ideal.ofBits .f32 1073741824#32 = ((2 : ℝ) : EReal) := by
  simp [Ideal.ofBits, Ideal.ieee, -EReal.coe_mul]; norm_num
theorem bits_127 : Ideal.ofBits .f32 1123942400#32 = ((127 : ℝ) : EReal) := by
  simp [Ideal.ofBits, Ideal.ieee, -EReal.coe_mul]; norm_num
theorem bits_neg_127 : Ideal.ofBits .f32 3271426048#32 = ((-127 : ℝ) : EReal) := by
  simp [Ideal.ofBits, Ideal.ieee, -EReal.coe_mul, -EReal.coe_neg]; norm_num
theorem bits_192 : Ideal.ofBits .f32 1128267776#32 = ((192 : ℝ) : EReal) := by
  simp [Ideal.ofBits, Ideal.ieee, -EReal.coe_mul]; norm_num
theorem bits_eps : ∃ e : ℝ, Ideal.ofBits .f32 925353388#32 = (e : EReal) ∧ 0 < e := by
  refine ⟨10995116 * 2 ^ (-40 : ℤ), ?_, by positivity⟩
  simp [Ideal.ofBits, Ideal.ieee, -EReal.coe_mul]
theorem scale_isFin : IsFin (Ideal.ofBits .f32 1048744942#32) := by
  simp only [Ideal.ofBits, Ideal.ieee]
  exact ⟨_, rfl⟩
theorem word_isFin {w : ℕ} {φ : FTy} (b : BitVec w) : IsFin (FloatOps.sitofp (F := Ideal) φ b) := ⟨_, rfl⟩

/-- Rounding a clipped value to a word of 32 bits and cutting that to 8 is rounding it to 8 bits. -/
theorem byte_of_word (x : EReal) :
    BitVec.setWidth 8 (Ideal.fptosi 32 (min (Ideal.ofBits .f32 1123942400#32) (max (Ideal.ofBits .f32 3271426048#32) x)))
      = Ideal.fptosi 8 (min (Ideal.ofBits .f32 1123942400#32) (max (Ideal.ofBits .f32 3271426048#32) x)) := by
  rw [bits_127, bits_neg_127]
  obtain ⟨r, hr, h1, h2⟩ : ∃ r : ℝ, min ((127 : ℝ) : EReal) (max ((-127 : ℝ) : EReal) x) = (r : EReal) ∧ -127 ≤ r ∧ r ≤ 127 := by
    induction x with
    | bot => exact ⟨-127, by rw [max_eq_left bot_le]; exact min_eq_right (EReal.coe_le_coe_iff.mpr (by norm_num)), by norm_num, by norm_num⟩
    | top => exact ⟨127, by rw [max_eq_right le_top]; exact min_eq_left le_top, by norm_num, by norm_num⟩
    | coe a =>
      refine ⟨min 127 (max (-127) a), ?_, le_min (by norm_num) (le_max_left _ _), min_le_left _ _⟩
      rw [EReal.coe_strictMono.monotone.map_min, EReal.coe_strictMono.monotone.map_max]
  rw [hr]
  unfold Ideal.fptosi
  rw [Ideal.toIntClamped_coe, Ideal.toIntClamped_coe]
  have hz : -127 ≤ (if 0 ≤ r then ⌊r⌋ else ⌈r⌉) ∧ (if 0 ≤ r then ⌊r⌋ else ⌈r⌉) ≤ 127 := by
    split_ifs
    · exact ⟨Int.le_floor.mpr (by exact_mod_cast h1), Int.floor_le_iff.mpr (by push_cast; linarith)⟩
    · exact ⟨Int.le_ceil_iff.mpr (by push_cast; linarith), Int.ceil_le.mpr (by exact_mod_cast h2)⟩
  generalize (if 0 ≤ r then ⌊r⌋ else ⌈r⌉) = z at hz
  rw [show max (-((2 ^ (32 - 1) : ℕ) : ℤ)) (min (((2 ^ (32 - 1) : ℕ) : ℤ) - 1) z) = z by norm_num; omega,
    show max (-((2 ^ (8 - 1) : ℕ) : ℤ)) (min (((2 ^ (8 - 1) : ℕ) : ℤ) - 1) z) = z by norm_num; omega]
  rw [← BitVec.truncate_eq_setWidth]
  apply BitVec.eq_of_toNat_eq
  simp [BitVec.toNat_ofInt]
  omega

end Cert.Attention
-- ==== Proof.RowScore.lean ====
module

public import proofs.«01_k».proof.Proof.RowExactEq
public import proofs.«01_k».proof.Proof.RowMath
public import Idealize.ShloMosaic.Lib.Pointwise
public import Idealize.ShloMosaic.Lib.IdealHost

@[expose] public section

set_option maxRecDepth 16384

noncomputable section

/-!
The vector expressions of one chunk of keys, by index over the extended reals: the prepared keys
against the prepared queries are plain scores, moved by the offset.
-/

namespace Cert.RowIdeal.Hand

open Cert.RowIdeal Cert.RowIdeal.Gen Cert.Attention
open Idealize.ShloMosaic Idealize.ShloMosaic.TcCoe
open Idealize.ShloMosaic (ix2 ix3 ix4 ix5)

/-- A prepared key: the key, what its rounding drops twice over, three ones, and zeros. -/
def keyRow (K : Fin 32 → EReal) (j : Fin 128) : EReal :=
  if h1 : j.val < 32 then K ⟨j.val, h1⟩
  else if h2 : j.val - 32 < 32 then K ⟨j.val - 32, h2⟩ - K ⟨j.val - 32, h2⟩
  else if h3 : j.val - 32 - 32 < 32 then
    K ⟨j.val - 32 - 32, h3⟩ - K ⟨j.val - 32 - 32, h3⟩ - (K ⟨j.val - 32 - 32, h3⟩ - K ⟨j.val - 32 - 32, h3⟩)
  else Scalar.select (IntOp.cmpi .slt (BitVec.ofNat 32 (j.val - 32 - 32 - 32)) 3#32) (1 : EReal) 0

/-- A prepared query: the query three times, then the offset's rows. -/
def queryRow (q : Fin 32 → EReal) (off : Fin 32 → EReal) (j : Fin 128) : EReal :=
  if h0 : j.val < 96 then
    (if h1 : j.val < 32 then q ⟨j.val, h1⟩
    else if h2 : j.val - 32 < 32 then q ⟨j.val - 32, h2⟩
    else q ⟨j.val - 32 - 32, by omega⟩)
  else off ⟨j.val - 96, by omega⟩

theorem keyRow_isFin (K : Fin 32 → EReal) (hK : ∀ e, IsFin (K e)) (j : Fin 128) : IsFin (keyRow K j) := by
  unfold keyRow
  split_ifs with h1 h2 h3
  · exact hK _
  · exact (hK _).sub (hK _)
  · exact ((hK _).sub (hK _)).sub ((hK _).sub (hK _))
  · unfold Scalar.select
    split_ifs
    · exact .one
    · exact .zero

theorem queryRow_isFin (q off : Fin 32 → EReal) (hq : ∀ e, IsFin (q e)) (ho : ∀ e, IsFin (off e)) (j : Fin 128) :
    IsFin (queryRow q off j) := by
  unfold queryRow
  split_ifs with h1 h2 h3
  · exact hq _
  · exact hq _
  · exact hq _
  · exact ho _

theorem ones_row : ∀ i : Fin 32, IntOp.cmpi .slt (BitVec.ofNat 32 i.val) 3#32 = if i.val < 3 then 1#1 else 0#1 := by
  decide +kernel

/-- A prepared key against a prepared query is the score moved by the offset's first three rows. -/
theorem dot_rows (K q off : Fin 32 → EReal) (hK : ∀ e, IsFin (K e)) :
    ∑ j : Fin 128, keyRow K j * queryRow q off j = (∑ e, K e * q e) + (off 0 + off 1 + off 2) := by
  rw [show (∑ j : Fin 128, keyRow K j * queryRow q off j)
    = ∑ j : Fin (32 + (32 + (32 + (3 + 29)))), keyRow K j * queryRow q off j from rfl]
  rw [Fin.sum_univ_add, Fin.sum_univ_add, Fin.sum_univ_add, Fin.sum_univ_add]
  have e1 : (∑ i : Fin 32, keyRow K (Fin.castAdd (32 + (32 + (3 + 29))) i) * queryRow q off (Fin.castAdd (32 + (32 + (3 + 29))) i))
      = ∑ e, K e * q e := by
    refine Finset.sum_congr rfl fun e _ => ?_
    have h : e.val < 32 := e.isLt
    have h' : e.val < 96 := by omega
    simp [keyRow, queryRow, h']
  have e2 : (∑ i : Fin 32, keyRow K (Fin.natAdd 32 (Fin.castAdd (32 + (3 + 29)) i)) * queryRow q off (Fin.natAdd 32 (Fin.castAdd (32 + (3 + 29)) i))) = 0 := by
    refine Finset.sum_eq_zero fun e _ => ?_
    simp [keyRow, (hK _).sub_self]
  have e3 : (∑ i : Fin 32, keyRow K (Fin.natAdd 32 (Fin.natAdd 32 (Fin.castAdd (3 + 29) i))) * queryRow q off (Fin.natAdd 32 (Fin.natAdd 32 (Fin.castAdd (3 + 29) i)))) = 0 := by
    refine Finset.sum_eq_zero fun e _ => ?_
    have h : ¬ 32 + (32 + e.val) < 32 := by omega
    have h2 : ¬ 32 + (32 + e.val) - 32 < 32 := by omega
    have h3 : 32 + (32 + e.val) - 32 - 32 < 32 := by omega
    simp [keyRow, (hK _).sub_self]
  have e4 : (∑ i : Fin 3, keyRow K (Fin.natAdd 32 (Fin.natAdd 32 (Fin.natAdd 32 (Fin.castAdd 29 i)))) * queryRow q off (Fin.natAdd 32 (Fin.natAdd 32 (Fin.natAdd 32 (Fin.castAdd 29 i)))))
      = off 0 + off 1 + off 2 := by
    have one : ∀ i : Fin 3, keyRow K (Fin.natAdd 32 (Fin.natAdd 32 (Fin.natAdd 32 (Fin.castAdd 29 i)))) = 1 := by
      intro i
      have h : (32 + (32 + (32 + i.val)) - 32 - 32 - 32) = i.val := by omega
      have h' := ones_row ⟨i.val, by omega⟩
      simp only [i.isLt, if_true] at h'
      simp [keyRow, Scalar.select, h']
    rw [Fin.sum_univ_three, one, one, one, one_mul, one_mul, one_mul]
    rfl
  have e5 : (∑ i : Fin 29, keyRow K (Fin.natAdd 32 (Fin.natAdd 32 (Fin.natAdd 32 (Fin.natAdd 3 i)))) * queryRow q off (Fin.natAdd 32 (Fin.natAdd 32 (Fin.natAdd 32 (Fin.natAdd 3 i))))) = 0 := by
    refine Finset.sum_eq_zero fun i _ => ?_
    have h' := ones_row ⟨3 + i.val, by omega⟩
    have h3 : ¬ (3 + i.val < 3) := by omega
    simp only [h3, if_false] at h'
    have : keyRow K (Fin.natAdd 32 (Fin.natAdd 32 (Fin.natAdd 32 (Fin.natAdd 3 i)))) = 0 := by
      simp [keyRow, Scalar.select, h']
    rw [this, zero_mul]
  rw [e1, e2, e3, e4, e5, zero_add, zero_add, add_zero]

theorem augQ_apply (q : Vec Ideal S1x1x32x256 .bf16) (off : FVec Ideal S32x256 .bf16) (j : Fin 128) (l : Fin 256) :
    augQ (F := Ideal) q off (ix2 j l) = queryRow (fun e => q (ix4 0 0 e l)) (fun e => off (ix2 e l)) j := by
  pointwise [augQ]
  rfl

theorem scoreC_apply (qa : FVec Ideal S128x256 .bf16) (ka : Vec Ideal S1x256x128 .bf16) (t l : Fin 256) :
    scoreC (F := Ideal) qa ka (ix2 t l) = ∑ x : Fin 128, ka (ix3 0 t x) * qa (ix2 x l) := by
  pointwise [scoreC]

theorem denC_apply (s : FVec Ideal S256x256 .f32) (r : Fin 8) (l : Fin 256) :
    denC (F := Ideal) s (ix2 r l) = ∑ x : Fin 32, Ideal.exp2 (s (ix2 ⟨x.val * 8 + r.val, by omega⟩ l)) := by
  pointwise [denC]
  rfl

/-- The scales of the values are stored alike in every lane. -/
theorem pvC_apply (s : FVec Ideal S256x256 .f32) (vs : Vec Ideal S1x256x128 .f32) (vt : Vec Ideal S1x32x256 .bf16)
    (w : Fin 256 → EReal) (hw : ∀ x j, vs (ix3 0 x j) = w x) (d : Fin 32) (l : Fin 256) :
    pvC (F := Ideal) s vs vt (ix2 d l) = ∑ x : Fin 256, vt (ix3 0 d x) * (Ideal.exp2 (s (ix2 x l)) * w x) := by
  pointwise [pvC]
  refine Finset.sum_congr rfl fun x _ => ?_
  split_ifs <;> rw [hw] <;> rfl

theorem finishC_apply (a3 : EReal) (d : FVec Ideal S8x256 .f32) (o : FVec Ideal S32x256 .f32) (e : Fin 32) (l : Fin 256) :
    finishC (F := Ideal) a3 d o (ix4 0 0 e l) = codeOf a3 (Ideal.div (o (ix2 e l)) (∑ x : Fin 8, d (ix2 x l))) := by
  pointwise [finishC]
  rfl

theorem zeroRows_apply (i : Fin 32) (l : Fin 256) : k0_pay2 (F := Ideal) (ix2 i l) = (0 : EReal) := by
  pointwise [k0_pay2]

/-- The offset's rows: over the extended reals its first part is all of it. -/
theorem offRows_apply (m : FVec Ideal S1x256 .f32) (l : Fin 256) (hm : IsFin (m (ix2 0 l))) (i : Fin 32) :
    offRows (F := Ideal) m (ix2 i l) = if i.val = 0 then 0 - Ideal.liftRound Int.ceil (m (ix2 0 l)) else 0 := by
  have hf : IsFin (0 - Ideal.liftRound Int.ceil (m (ix2 0 l))) := IsFin.zero.sub (hm.liftRound _)
  have h0 : ∀ i : Fin 32, IntOp.cmpi .eq (BitVec.ofNat 32 i.val) 0#32 = if i.val = 0 then 1#1 else 0#1 := by decide +kernel
  pointwise [offRows, k0_pay353, k0_pay352]
  rw [hf.sub_self, h0]
  by_cases h : i.val = 0
  · simp [Scalar.select, h]
  · have : (0 : EReal) - 0 = 0 := by simp
    simp [Scalar.select, h]

/-- What one chunk adds to a running maximum is finite. -/
theorem exactStep_isFin (q : Vec Ideal S1x1x32x256 .bf16) (m : FVec Ideal S1x256 .f32) (ka : Vec Ideal S1x256x128 .bf16)
    (l : Fin 256) (hq : ∀ e, IsFin (q (ix4 0 0 e l))) (hk : ∀ t j, IsFin (ka (ix3 0 t j)))
    (hm : m (ix2 0 l) = ⊥ ∨ IsFin (m (ix2 0 l))) :
    IsFin (k0_pay351 (F := Ideal) k0_pay2 q m ka (ix2 0 l)) := by
  have hb : Ideal.ofBits FTy.f32 4286578688#32 = ⊥ := bits_neg_inf
  have hq' : ∀ j : Fin 96, IsFin (k0_pay349 (F := Ideal) q (ix2 j l)) := by
    intro j
    pointwise [k0_pay349]
    split_ifs <;> exact hq _
  pointwise [k0_pay351]
  rw [hb]
  rcases IsFin.fold_max (fun x : Fin 256 => ∑ x_1 : Fin 96, ka (ix3 0 x ⟨x_1.val, by omega⟩) * k0_pay349 (F := Ideal) q (ix2 x_1 l)
      + ∑ x_1 : Fin 32, ka (ix3 0 x ⟨96 + x_1.val, by omega⟩) * k0_pay2 (F := Ideal) (ix2 x_1 l)) Finset.univ (fun x =>
        (IsFin.sum _ _ fun j => (hk _ _).mul (hq' _)).add
          (IsFin.sum _ _ fun j => (hk _ _).mul (by rw [zeroRows_apply]; exact .zero))) with h | h
  · exact absurd h (Finset.univ_nonempty).ne_empty
  · rcases hm with hm | hm
    · rw [hm]
      refine Eq.mpr (congrArg IsFin (max_eq_right bot_le)) h
    · exact hm.max h

end Cert.RowIdeal.Hand
-- ==== Proof.RowPrep.lean ====
module

public import proofs.«01_k».proof.Proof.RowPrepEq
public import proofs.«01_k».proof.Proof.RowBody
public import proofs.«01_k».proof.Proof.RowScore
public import Idealize.ShloMosaic.Lib.Writes

@[expose] public section

set_option maxRecDepth 16384

noncomputable section

/-!
What the three scratch arrays hold once the preparing loop has run: the prepared keys, the values
and the values' scales, by head, position and lane.
-/

namespace Cert.RowIdeal.Hand

open Cert.RowIdeal Cert.RowIdeal.Gen Cert.Attention
open Idealize.ShloMosaic Idealize.ShloMosaic.TcCoe
open Idealize.ShloMosaic (ix2 ix3 ix4 ix5)

/-- The key of head `n` at position `t`: its code times its scale, which the logits' scale is part of. -/
def keyOf (kc : Vec Ideal S1x1x1x192x4096 .i8) (ks : Vec Ideal S1x1x1x6x4096 .f32) (n : Fin 6) (t : Fin 4096) (e : Fin 32) : EReal :=
  FloatOps.sitofp (F := Ideal) .bf16 (kc (ix5 0 0 0 ⟨32 * n.val + e.val, by omega⟩ t))
    * (ks (ix5 0 0 0 n t) * Ideal.ofBits .f32 1048744942#32)

/-- The value of head `n` at position `t`: its code. -/
def valOf (vc : Vec Ideal S1x1x1x192x4096 .i8) (n : Fin 6) (e : Fin 32) (t : Fin 4096) : EReal :=
  FloatOps.sitofp (F := Ideal) .bf16 (vc (ix5 0 0 0 ⟨32 * n.val + e.val, by omega⟩ t))

/-- What a load through a rectangle of unit strides reads, place by place. -/
theorem readAt_unit {κ : Kind} {sp : Space} {s : Shape} {e : EltTy} (v : View sig κ sp s e) (X : BufTy.Contents (Elt Ideal) v.ty)
    (o sz : Fin s.rank → ℕ) (h : ∀ a, o a + sz a ≤ s.size a) (j : (⟨s.rank, sz⟩ : Shape).Idx) (y : s.Idx)
    (hy : ∀ a, (y a).val = o a + (j a).val) :
    View.readAt (Elt Ideal) v (Rect.unit (s := s) o sz h).toLoadRect X j = View.read (Elt Ideal) v X y := by
  rw [View.readAt_apply]
  refine congrArg _ (funext fun a => Fin.ext ?_)
  rw [hy a]
  show o a + 1 * (j a).val = o a + (j a).val
  rw [Nat.one_mul]

theorem keyPay_apply (u : Vec Ideal S1x1x1x32x256 .i8) (s : Vec Ideal S1x1x1x1x256 .f32) (t : Fin 256) (j : Fin 128) :
    k0_pay48 (F := Ideal) k0_pay8 u s (ix3 0 t j)
      = keyRow (fun e => FloatOps.sitofp (F := Ideal) .bf16 (u (ix5 0 0 0 e t)) * (s (ix5 0 0 0 0 t) * Ideal.ofBits .f32 1048744942#32)) j := by
  pointwise [k0_pay48, k0_pay8]
  rfl

theorem valPay_apply (u : Vec Ideal S1x1x1x32x4096 .i8) (e : Fin 32) (t : Fin 4096) :
    k0_pay7 (F := Ideal) u (ix3 0 e t) = FloatOps.sitofp (F := Ideal) .bf16 (u (ix5 0 0 0 e t)) := by
  pointwise [k0_pay7]
  rfl

theorem scalePay_apply (s : Vec Ideal S1x1x1x1x256 .f32) (t : Fin 256) (j : Fin 128) :
    k0_pay49 (F := Ideal) s (ix3 0 t j) = s (ix5 0 0 0 0 t) := by
  pointwise [k0_pay49]

/-- The prepared keys as one function of the place. -/
def keysAt (kc : Vec Ideal S1x1x1x192x4096 .i8) (ks : Vec Ideal S1x1x1x6x4096 .f32) : Vec Ideal S6x4096x128 .bf16 :=
  fun y => keyRow (keyOf kc ks (y 0) (y 1)) (y 2)

/-- The values as one function of the place. -/
def valuesAt (vc : Vec Ideal S1x1x1x192x4096 .i8) : Vec Ideal S6x32x4096 .bf16 :=
  fun y => valOf vc (y 0) (y 1) (y 2)

/-- The scales of the values as one function of the place. -/
def scalesAt (vs : Vec Ideal S1x1x1x6x4096 .f32) : Vec Ideal S6x4096x128 .f32 :=
  fun y => vs (ix5 0 0 0 (y 0) (y 1))

theorem trips1 : k0_t1_loop.trips = 6 := by decide +kernel

theorem keyPiece_apply (arg4 : Memref sig .tc .vmem S1x1x1x192x4096 .i8) (arg5 : Memref sig .tc .vmem S1x1x1x6x4096 .f32) (X4 : BufTy.Contents (Elt Ideal) arg4.view.ty) (X5 : BufTy.Contents (Elt Ideal) arg5.view.ty)
    (o4 o5 : Fin 5 → ℕ) (o9 : Fin 3 → ℕ) (h4) (h5) (h9) (n : Fin 6) (c : Fin 16) (e4 : o4 = ![0, 0, 0, 32 * n.val, 256 * c.val]) (e5 : o5 = ![0, 0, 0, n.val, 256 * c.val])
    (e9 : o9 = ![n.val, 256 * c.val, 0]) (x : S1x256x128.Idx) :
    (keyPiece (F := Ideal) arg4 arg5 X4 X5 o4 o5 o9 h4 h5 h9).2 x
      = keysAt (arg4.view.read (Elt Ideal) X4) (arg5.view.read (Elt Ideal) X5) ((keyPiece (F := Ideal) arg4 arg5 X4 X5 o4 o5 o9 h4 h5 h9).1.emb x) := by
  subst e4 e5 e9
  obtain ⟨a, t, j, rfl⟩ : ∃ (a : Fin 1) (t : Fin 256) (j : Fin 128), x = ix3 a t j := ⟨x 0, x 1, x 2, by funext i; fin_cases i <;> rfl⟩
  obtain rfl : a = 0 := Subsingleton.elim _ _
  have hemb : (keyPiece (F := Ideal) arg4 arg5 X4 X5 _ _ _ h4 h5 h9).1.emb (ix3 0 t j) = ix3 n ⟨256 * c.val + t.val, by omega⟩ j := by
    refine Rect.emb_eq_of_coords _ _ _ fun i => ?_
    fin_cases i
    · show n.val = n.val + 1 * 0
      omega
    · show 256 * c.val + t.val = 256 * c.val + 1 * t.val
      omega
    · show j.val = 0 + 1 * j.val
      omega
  rw [hemb]
  refine (keyPay_apply _ _ t j).trans ?_
  refine congrArg (fun K => keyRow K j) (funext fun e => ?_)
  refine congr (congrArg _ (congrArg _ ?_)) (congrArg (· * _) ?_)
  · refine readAt_unit _ _ _ _ _ _ _ fun i => ?_
    fin_cases i <;> first | rfl | exact (Nat.zero_add _).symm
  · refine readAt_unit _ _ _ _ _ _ _ fun i => ?_
    fin_cases i <;> first | rfl | exact (Nat.zero_add _).symm

theorem scalePiece_apply (arg7 : Memref sig .tc .vmem S1x1x1x6x4096 .f32) (X7 : BufTy.Contents (Elt Ideal) arg7.view.ty)
    (o5 : Fin 5 → ℕ) (o9 : Fin 3 → ℕ) (h5) (h9) (n : Fin 6) (c : Fin 16) (e5 : o5 = ![0, 0, 0, n.val, 256 * c.val])
    (e9 : o9 = ![n.val, 256 * c.val, 0]) (x : S1x256x128.Idx) :
    (scalePiece (F := Ideal) arg7 X7 o5 o9 h5 h9).2 x
      = scalesAt (arg7.view.read (Elt Ideal) X7) ((scalePiece (F := Ideal) arg7 X7 o5 o9 h5 h9).1.emb x) := by
  subst e5 e9
  obtain ⟨a, t, j, rfl⟩ : ∃ (a : Fin 1) (t : Fin 256) (j : Fin 128), x = ix3 a t j := ⟨x 0, x 1, x 2, by funext i; fin_cases i <;> rfl⟩
  obtain rfl : a = 0 := Subsingleton.elim _ _
  have hemb : (scalePiece (F := Ideal) arg7 X7 _ _ h5 h9).1.emb (ix3 0 t j) = ix3 n ⟨256 * c.val + t.val, by omega⟩ j := by
    refine Rect.emb_eq_of_coords _ _ _ fun i => ?_
    fin_cases i
    · show n.val = n.val + 1 * 0
      omega
    · show 256 * c.val + t.val = 256 * c.val + 1 * t.val
      omega
    · show j.val = 0 + 1 * j.val
      omega
  rw [hemb]
  refine (scalePay_apply (View.readAt (Elt Ideal) arg7.view (Rect.unit (s := S1x1x1x6x4096) ![0, 0, 0, n.val, 256 * c.val] S1x1x1x1x256.size h5).toLoadRect X7) t j).trans ?_
  refine readAt_unit _ _ _ _ _ _ _ fun i => ?_
  fin_cases i <;> first | rfl | exact (Nat.zero_add _).symm

/-- A place of a rectangle of whole lanes at head `n` and chunk `c`. -/
theorem mem_chunk (o9 : Fin 3 → ℕ) (h9 : ∀ a, o9 a + S1x256x128.size a ≤ S6x4096x128.size a) (y : S6x4096x128.Idx)
    (n : ℕ) (c : ℕ) (e9 : o9 = ![n, 256 * c, 0]) (hn : n = (y 0).val) (hc : c = (y 1).val / 256) :
    y ∈ (Rect.unit (s := S6x4096x128) o9 S1x256x128.size h9).set := by
  subst e9
  refine (Rect.unit (s := S6x4096x128) ![(n : ℕ), 256 * c, 0] S1x256x128.size h9).mem_set.mpr fun a => ?_
  fin_cases a
  · exact ⟨0, by norm_num [Rect.unit, S1x256x128], by subst hn; show (y 0).val = (y 0).val + 1 * 0; omega⟩
  · refine ⟨(y 1).val % 256, Nat.mod_lt _ (by norm_num), ?_⟩
    show (y 1).val = 256 * c + 1 * ((y 1).val % 256)
    omega
  · refine ⟨(y 2).val, (y 2).isLt, ?_⟩
    show (y 2).val = 0 + 1 * (y 2).val
    omega

section

variable (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)

/-- The pieces of the preparing loop are those of its trips. -/
theorem prep_mem (n : ℕ) (hn : n ≤ k0_t1_loop.trips) :
    (∀ p, p ∈ (pb_k0_t1 𝒱 c bd i arg2 harg2 arg3 harg3 arg4 harg4 arg5 harg5 arg6 harg6 arg7 harg7 arg8 harg8 arg9 harg9 arg10 harg10 arg11 harg11 arg12 harg12 X4 X5 X6 X7 n).1 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 k).1)
    ∧ (∀ p, p ∈ (pb_k0_t1 𝒱 c bd i arg2 harg2 arg3 harg3 arg4 harg4 arg5 harg5 arg6 harg6 arg7 harg7 arg8 harg8 arg9 harg9 arg10 harg10 arg11 harg11 arg12 harg12 X4 X5 X6 X7 n).2.1 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 k).2.1)
    ∧ ∀ p, p ∈ (pb_k0_t1 𝒱 c bd i arg2 harg2 arg3 harg3 arg4 harg4 arg5 harg5 arg6 harg6 arg7 harg7 arg8 harg8 arg9 harg9 arg10 harg10 arg11 harg11 arg12 harg12 X4 X5 X6 X7 n).2.2 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 k).2.2.1 := by
  induction n with
  | zero =>
    rw [pb_k0_t1.eq_1]
    exact ⟨fun p => by simp, fun p => by simp, fun p => by simp⟩
  | succ n ih =>
    obtain ⟨i1, i2, i3⟩ := ih (Nat.le_of_succ_le hn)
    have e := pb_k0_t1_succ (F := Ideal) 𝒱 c bd i arg2 harg2 arg3 harg3 arg4 harg4 arg5 harg5 arg6 harg6 arg7 harg7 arg8 harg8 arg9 harg9 arg10 harg10 arg11 harg11 arg12 harg12 X4 X5 X6 X7 ⟨n, hn⟩
    have split (Q : Fin k0_t1_loop.trips → Prop) :
        (Q ⟨n, hn⟩ ∨ ∃ k, k.val < n ∧ Q k) ↔ ∃ k, k.val < n + 1 ∧ Q k := by
      constructor
      · rintro (h | ⟨k, hk, h⟩)
        · exact ⟨_, Nat.lt_succ_self n, h⟩
        · exact ⟨k, Nat.lt_succ_of_lt hk, h⟩
      · rintro ⟨k, hk, h⟩
        rcases Nat.lt_succ_iff_lt_or_eq.mp hk with hk | hk
        · exact .inr ⟨k, hk, h⟩
        · obtain rfl : k = ⟨n, hn⟩ := Fin.ext hk
          exact .inl h
    refine ⟨fun p => ?_, fun p => ?_, fun p => ?_⟩
    · rw [congrArg (fun q => q.1) e, List.mem_append, i1]
      exact split fun k => p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 k).1
    · rw [congrArg (fun q => q.2.1) e, List.mem_append, i2]
      exact split fun k => p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 k).2.1
    · rw [congrArg (fun q => q.2.2) e, List.mem_append, i3]
      exact split fun k => p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 k).2.2.1

theorem trips1' : Scf.trips (0#32) (Scalar.addi 0#32 6#32) 1#32 = k0_t1_loop.trips := by decide +kernel

theorem prep9_read (f9 : BufTy.Contents (Elt Ideal) arg9.view.ty) (y : S6x4096x128.Idx) :
    arg9.view.read (Elt Ideal) (prep9 𝒱 c bd i arg2 harg2 arg3 harg3 arg4 harg4 arg5 harg5 arg6 harg6 arg7 harg7 arg8 harg8 arg9 harg9 arg10 harg10 arg11 harg11 arg12 harg12 X4 X5 X6 X7 f9) y
      = keysAt (arg4.view.read (Elt Ideal) X4) (arg5.view.read (Elt Ideal) X5) y := by
  have hm := (prep_mem 𝒱 c bd i arg2 harg2 arg3 harg3 arg4 harg4 arg5 harg5 arg6 harg6 arg7 harg7 arg8 harg8 arg9 harg9 arg10 harg10 arg11 harg11 arg12 harg12 X4 X5 X6 X7 _ le_rfl).1
  unfold prep9
  rw [trips1']
  refine View.read_writes_apply_of_pieces _ _ _ _ (fun p hp x => ?_) y ?_
  · obtain ⟨k, _, hp⟩ := (hm p).mp hp
    rw [trip1_keys, List.mem_ofFn] at hp
    obtain ⟨ch, rfl⟩ := hp
    exact keyPiece_apply _ _ _ _ _ _ _ _ _ _ ⟨k.val, trips1 ▸ k.isLt⟩ ch.rev (prepOff4_eq k _) (prepOff5_eq k _) (prepOff9_eq k _) x
  · have hk : (y 0).val < k0_t1_loop.trips := trips1 ▸ (y 0).isLt
    have hy : (y 1).val < 4096 := (y 1).isLt
    obtain ⟨p, hp, hyp⟩ : ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 ⟨(y 0).val, hk⟩).1, y ∈ p.1.set := by
      rw [trip1_keys]
      exact ⟨_, List.mem_ofFn.mpr ⟨(⟨(y 1).val / 256, by omega⟩ : Fin 16).rev, rfl⟩,
        mem_chunk _ (prepOff9_inb _ _) y (y 0).val ((y 1).val / 256) (by rw [Fin.rev_rev]; exact prepOff9_eq _ _) rfl rfl⟩
    exact ⟨p, (hm p).mpr ⟨_, hk, hp⟩, hyp⟩

theorem prep11_read (f11 : BufTy.Contents (Elt Ideal) arg11.view.ty) (y : S6x4096x128.Idx) :
    arg11.view.read (Elt Ideal) (prep11 𝒱 c bd i arg2 harg2 arg3 harg3 arg4 harg4 arg5 harg5 arg6 harg6 arg7 harg7 arg8 harg8 arg9 harg9 arg10 harg10 arg11 harg11 arg12 harg12 X4 X5 X6 X7 f11) y = scalesAt (arg7.view.read (Elt Ideal) X7) y := by
  have hm := (prep_mem 𝒱 c bd i arg2 harg2 arg3 harg3 arg4 harg4 arg5 harg5 arg6 harg6 arg7 harg7 arg8 harg8 arg9 harg9 arg10 harg10 arg11 harg11 arg12 harg12 X4 X5 X6 X7 _ le_rfl).2.2
  unfold prep11
  rw [trips1']
  refine View.read_writes_apply_of_pieces _ _ _ _ (fun p hp x => ?_) y ?_
  · obtain ⟨k, _, hp⟩ := (hm p).mp hp
    rw [trip1_scales, List.mem_ofFn] at hp
    obtain ⟨ch, rfl⟩ := hp
    exact scalePiece_apply _ _ _ _ _ _ ⟨k.val, trips1 ▸ k.isLt⟩ ch.rev (prepOff5_eq k _) (prepOff9_eq k _) x
  · have hk : (y 0).val < k0_t1_loop.trips := trips1 ▸ (y 0).isLt
    have hy : (y 1).val < 4096 := (y 1).isLt
    obtain ⟨p, hp, hyp⟩ : ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 ⟨(y 0).val, hk⟩).2.2.1, y ∈ p.1.set := by
      rw [trip1_scales]
      exact ⟨_, List.mem_ofFn.mpr ⟨(⟨(y 1).val / 256, by omega⟩ : Fin 16).rev, rfl⟩,
        mem_chunk _ (prepOff9_inb _ _) y (y 0).val ((y 1).val / 256) (by rw [Fin.rev_rev]; exact prepOff9_eq _ _) rfl rfl⟩
    exact ⟨p, (hm p).mpr ⟨_, hk, hp⟩, hyp⟩

theorem valuePiece_apply (o1 : Fin 5 → ℕ) (o2 : Fin 3 → ℕ) (h1 : ∀ a, o1 a + S1x1x1x32x4096.size a ≤ S1x1x1x192x4096.size a) (h2 : ∀ a, o2 a + S1x32x4096.size a ≤ S6x32x4096.size a)
    (n : Fin 6) (e1 : o1 = ![0, 0, 0, 32 * n.val, 0]) (e2 : o2 = ![n.val, 0, 0]) (x : S1x32x4096.Idx) :
    k0_pay7 (F := Ideal) (View.readAt (Elt Ideal) arg6.view (Rect.unit (s := S1x1x1x192x4096) o1 S1x1x1x32x4096.size h1).toLoadRect X6) x
      = valuesAt (arg6.view.read (Elt Ideal) X6) ((Rect.unit (s := S6x32x4096) o2 S1x32x4096.size h2).emb x) := by
  subst e1 e2
  obtain ⟨a, e, t, rfl⟩ : ∃ (a : Fin 1) (e : Fin 32) (t : Fin 4096), x = ix3 a e t := ⟨x 0, x 1, x 2, by funext i; fin_cases i <;> rfl⟩
  obtain rfl : a = 0 := Subsingleton.elim _ _
  have hemb : (Rect.unit (s := S6x32x4096) ![n.val, 0, 0] S1x32x4096.size h2).emb (ix3 0 e t) = ix3 n e t := by
    refine Rect.emb_eq_of_coords _ _ _ fun i => ?_
    fin_cases i
    · show n.val = n.val + 1 * 0
      omega
    · show e.val = 0 + 1 * e.val
      omega
    · show t.val = 0 + 1 * t.val
      omega
  rw [hemb]
  refine (valPay_apply _ e t).trans ?_
  refine congrArg _ (readAt_unit _ _ _ _ _ _ _ fun i => ?_)
  fin_cases i <;> first | rfl | exact (Nat.zero_add _).symm

theorem prep10_read (f10 : BufTy.Contents (Elt Ideal) arg10.view.ty) (y : S6x32x4096.Idx) :
    arg10.view.read (Elt Ideal) (prep10 𝒱 c bd i arg2 harg2 arg3 harg3 arg4 harg4 arg5 harg5 arg6 harg6 arg7 harg7 arg8 harg8 arg9 harg9 arg10 harg10 arg11 harg11 arg12 harg12 X4 X5 X6 X7 f10) y = valuesAt (arg6.view.read (Elt Ideal) X6) y := by
  have hm := (prep_mem 𝒱 c bd i arg2 harg2 arg3 harg3 arg4 harg4 arg5 harg5 arg6 harg6 arg7 harg7 arg8 harg8 arg9 harg9 arg10 harg10 arg11 harg11 arg12 harg12 X4 X5 X6 X7 _ le_rfl).2.1
  unfold prep10
  rw [trips1']
  refine View.read_writes_apply_of_pieces _ _ _ _ (fun p hp x => ?_) y ?_
  · obtain ⟨k, _, hp⟩ := (hm p).mp hp
    rw [trip1_values, List.mem_singleton] at hp
    subst hp
    exact valuePiece_apply _ _ _ _ (k0_off1_inb k) (k0_off2_inb k) ⟨k.val, trips1 ▸ k.isLt⟩ (k0_off1_eq k) (k0_off2_eq k) x
  · have hk : (y 0).val < k0_t1_loop.trips := trips1 ▸ (y 0).isLt
    obtain ⟨p, hp, hyp⟩ : ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 X4 X5 X6 X7 ⟨(y 0).val, hk⟩).2.1, y ∈ p.1.set := by
      rw [trip1_values]
      refine ⟨_, List.mem_singleton_self _, (Rect.unit (s := S6x32x4096) (k0_off2 ⟨(y 0).val, hk⟩) S1x32x4096.size (k0_off2_inb _)).mem_set.mpr fun a => ?_⟩
      have e2 := k0_off2_eq ⟨(y 0).val, hk⟩
      fin_cases a
      · exact ⟨0, by norm_num [Rect.unit, S1x32x4096], by show (y 0).val = k0_off2 _ 0 + 1 * 0; rw [e2]; rfl⟩
      · refine ⟨(y 1).val, (y 1).isLt, ?_⟩
        show (y 1).val = k0_off2 ⟨(y 0).val, hk⟩ 1 + 1 * (y 1).val
        rw [e2]
        show (y 1).val = 0 + 1 * (y 1).val
        omega
      · refine ⟨(y 2).val, (y 2).isLt, ?_⟩
        show (y 2).val = k0_off2 ⟨(y 0).val, hk⟩ 2 + 1 * (y 2).val
        rw [e2]
        show (y 2).val = 0 + 1 * (y 2).val
        omega
    exact ⟨p, (hm p).mpr ⟨_, hk, hp⟩, hyp⟩

end

end Cert.RowIdeal.Hand
-- ==== Proof.RowAtt.lean ====
module

public import proofs.«01_k».proof.Proof.RowScore
public import Idealize.ShloMosaic.Lib.Writes

@[expose] public section

set_option maxRecDepth 16384

noncomputable section

/-!
Both passes of the kernel give the code of plain attention: the sums over the chunks are sums over
the keys, and the offset of the exact pass leaves the code as it is.
-/

namespace Cert.RowIdeal.Hand

open Cert.RowIdeal Cert.RowIdeal.Gen Cert.Attention
open Idealize.ShloMosaic Idealize.ShloMosaic.TcCoe
open Idealize.ShloMosaic (ix2 ix3 ix4 ix5)

/-- `x` is chunk `c` of the keys `K`, of the scales `w` and of the values `v`. -/
structure Chunk (K : Fin 4096 → Fin 32 → EReal) (w : Fin 4096 → EReal) (v : Fin 32 → Fin 4096 → EReal)
    (c : Fin 16) (x : Loads Ideal) : Prop where
  ka : ∀ (t : Fin 256) (j : Fin 128), x.ka (ix3 0 t j) = keyRow (K ⟨256 * c.val + t.val, by omega⟩) j
  vs : ∀ (t : Fin 256) (j : Fin 128), x.vs (ix3 0 t j) = w ⟨256 * c.val + t.val, by omega⟩
  vt : ∀ (e : Fin 32) (t : Fin 256), x.vt (ix3 0 e t) = v e ⟨256 * c.val + t.val, by omega⟩

/-- The score of one query against one key. -/
def score (K : Fin 4096 → Fin 32 → EReal) (q : Fin 32 → EReal) (t : Fin 4096) : EReal := ∑ e, K t e * q e

theorem score_isFin (K : Fin 4096 → Fin 32 → EReal) (q : Fin 32 → EReal) (hK : ∀ t e, IsFin (K t e))
    (hq : ∀ e, IsFin (q e)) (t : Fin 4096) : IsFin (score K q t) :=
  IsFin.sum _ _ fun e => (hK t e).mul (hq e)

/-- Sums of all chunks give the code of plain attention, whatever finite offset the queries carry. -/
theorem finish_soft (a3 : EReal) (qa : FVec Ideal S128x256 .bf16) (d : FVec Ideal S8x256 .f32) (o : FVec Ideal S32x256 .f32)
    (X : Fin 16 → Loads Ideal) (K : Fin 4096 → Fin 32 → EReal) (w : Fin 4096 → EReal) (v : Fin 32 → Fin 4096 → EReal)
    (q off : Fin 32 → EReal) (l : Fin 256) (e : Fin 32)
    (hK : ∀ t e, IsFin (K t e)) (hq : ∀ e, IsFin (q e)) (hoff : ∀ e, IsFin (off e))
    (hX : ∀ c, Chunk K w v c (X c)) (hqa : ∀ j, qa (ix2 j l) = queryRow q off j)
    (hd : ∀ r : Fin 8, d (ix2 r l) = ∑ c, denC (scoreC qa (X c).ka) (ix2 r l))
    (ho : o (ix2 e l) = ∑ c, pvC (scoreC qa (X c).ka) (X c).vs (X c).vt (ix2 e l)) :
    finishC (F := Ideal) a3 d o (ix4 0 0 e l) = soft a3 (score K q) w (v e) := by
  have hs : ∀ (c : Fin 16) (t : Fin 256), scoreC (F := Ideal) qa (X c).ka (ix2 t l)
      = score K q ⟨256 * c.val + t.val, by omega⟩ + (off 0 + off 1 + off 2) := by
    intro c t
    rw [scoreC_apply]
    refine Eq.trans ?_ (dot_rows (K ⟨256 * c.val + t.val, by omega⟩) q off (hK _))
    exact Finset.sum_congr rfl fun j _ => by rw [(hX c).ka, hqa]
  rw [finishC_apply, ← soft_shift (by norm_num) a3 _ w (v e) (off 0 + off 1 + off 2) (score_isFin K q hK hq)
    (((hoff 0).add (hoff 1)).add (hoff 2))]
  have e1 : o (ix2 e l) = ∑ t, v e t * (Ideal.exp2 (score K q t + (off 0 + off 1 + off 2)) * w t) := by
    rw [ho, sum_chunks]
    refine Finset.sum_congr rfl fun c _ => ?_
    rw [pvC_apply _ _ _ _ (fun t j => (hX c).vs t j)]
    exact Finset.sum_congr rfl fun t _ => by rw [(hX c).vt, hs]
  have e2 : (∑ r : Fin 8, d (ix2 r l)) = ∑ t, Ideal.exp2 (score K q t + (off 0 + off 1 + off 2)) := by
    rw [sum_chunks, Finset.sum_congr rfl fun r _ => hd r, Finset.sum_comm]
    refine Finset.sum_congr rfl fun c _ => ?_
    rw [← sum_groups]
    refine Finset.sum_congr rfl fun r _ => ?_
    rw [denC_apply]
    exact Finset.sum_congr rfl fun t _ => by rw [hs]
  rw [e1, e2]
  rfl

theorem foldl_addf {s : Shape} {α : Type} (g : α → FVec Ideal s .f32) (j : s.Idx) :
    ∀ (n : ℕ) (f : Fin n → α) (d : FVec Ideal s .f32),
      (List.ofFn f).foldl (fun d y => addf d (g y)) d j = d j + ∑ c, g (f c) j := by
  intro n
  induction n with
  | zero => intro f d; simp
  | succ n ih =>
    intro f d
    rw [List.ofFn_succ, List.foldl_cons, ih, Fin.sum_univ_succ, ← add_assoc]
    rfl

/-- One half item of the fast pass. -/
theorem attC_soft (a3 : EReal) (qv : Vec Ideal S1x1x32x256 .bf16) (X : Fin 16 → Loads Ideal)
    (K : Fin 4096 → Fin 32 → EReal) (w : Fin 4096 → EReal) (v : Fin 32 → Fin 4096 → EReal) (l : Fin 256) (e : Fin 32)
    (hK : ∀ t e, IsFin (K t e)) (hq : ∀ e, IsFin (qv (ix4 0 0 e l))) (hX : ∀ c, Chunk K w v c (X c)) :
    attC (F := Ideal) a3 qv k0_pay2 (X 0) (List.ofFn fun c : Fin 15 => X c.succ) (ix4 0 0 e l)
      = soft a3 (score K fun e => qv (ix4 0 0 e l)) w (v e) := by
  refine finish_soft a3 (augQ qv k0_pay2) _ _ X K w v _ (fun _ => 0) l e hK hq (fun _ => .zero) hX (fun j => ?_)
    (fun r => ?_) ?_
  · rw [augQ_apply]
    exact congrArg (fun o => queryRow _ o j) (funext fun i => zeroRows_apply i l)
  · rw [denOf, foldl_addf (fun y : Loads Ideal => denC (scoreC (augQ qv k0_pay2) y.ka))]
    exact (Fin.sum_univ_succ fun c => denC (scoreC (augQ qv k0_pay2) (X c).ka) (ix2 r l)).symm
  · rw [pvOf, foldl_addf (fun y : Loads Ideal => pvC (scoreC (augQ qv k0_pay2) y.ka) y.vs y.vt)]
    exact (Fin.sum_univ_succ fun c => pvC (scoreC (augQ qv k0_pay2) (X c).ka) (X c).vs (X c).vt (ix2 e l)).symm

section Exact

variable (arg9 : Memref sig .tc .vmem S6x4096x128 .bf16) (arg10 : Memref sig .tc .vmem S6x32x4096 .bf16)
  (arg11 : Memref sig .tc .vmem S6x4096x128 .f32) (X9 : BufTy.Contents (Elt Ideal) arg9.view.ty)
  (X10 : BufTy.Contents (Elt Ideal) arg10.view.ty) (X11 : BufTy.Contents (Elt Ideal) arg11.view.ty)

theorem trips4 : k0_t4_loop.trips = 16 := by decide +kernel
theorem trips5 : k0_t5_loop.trips = 16 := by decide +kernel

/-- Chunk `c` as the exact pass loads it. -/
def exactChunk (k : Fin k0_t3_loop.trips) (c : Fin 16) : Loads Ideal :=
  exactLoads arg9 arg10 arg11 X9 X10 X11 k ⟨c.val, by rw [trips5]; exact c.isLt⟩

theorem exactSums_apply (qa : FVec Ideal S128x256 .bf16) (k : Fin k0_t3_loop.trips) :
    (∀ i, (exactSums arg9 arg10 arg11 X9 X10 X11 qa k k0_t5_loop.trips).1 i
        = ∑ c, denC (scoreC qa (exactChunk arg9 arg10 arg11 X9 X10 X11 k c).ka) i)
    ∧ ∀ i, (exactSums arg9 arg10 arg11 X9 X10 X11 qa k k0_t5_loop.trips).2 i
        = ∑ c, pvC (scoreC qa (exactChunk arg9 arg10 arg11 X9 X10 X11 k c).ka)
            (exactChunk arg9 arg10 arg11 X9 X10 X11 k c).vs (exactChunk arg9 arg10 arg11 X9 X10 X11 k c).vt i := by
  have key : ∀ j ≤ k0_t5_loop.trips,
      (∀ i, (exactSums arg9 arg10 arg11 X9 X10 X11 qa k j).1 i
        = ∑ c ∈ Finset.range j, if h : c < k0_t5_loop.trips then
            denC (scoreC qa (exactLoads arg9 arg10 arg11 X9 X10 X11 k ⟨c, h⟩).ka) i else 0)
      ∧ ∀ i, (exactSums arg9 arg10 arg11 X9 X10 X11 qa k j).2 i
        = ∑ c ∈ Finset.range j, if h : c < k0_t5_loop.trips then
            pvC (scoreC qa (exactLoads arg9 arg10 arg11 X9 X10 X11 k ⟨c, h⟩).ka)
              (exactLoads arg9 arg10 arg11 X9 X10 X11 k ⟨c, h⟩).vs (exactLoads arg9 arg10 arg11 X9 X10 X11 k ⟨c, h⟩).vt i else 0 := by
    intro j
    induction j with
    | zero =>
      intro _
      constructor
      · intro i
        rw [Finset.range_zero, Finset.sum_empty, exactSums]
        exact Ideal.ofBits_zero_f32
      · intro i
        rw [Finset.range_zero, Finset.sum_empty, exactSums]
        exact Ideal.ofBits_zero_f32
    | succ j ih =>
      intro hj
      obtain ⟨ih1, ih2⟩ := ih (Nat.le_of_succ_le hj)
      have hj' : j < k0_t5_loop.trips := hj
      rw [exactSums, dif_pos hj']
      constructor
      · intro i
        rw [Finset.sum_range_succ, dif_pos hj', ← ih1 i]
        rfl
      · intro i
        rw [Finset.sum_range_succ, dif_pos hj', ← ih2 i]
        rfl
  obtain ⟨h1, h2⟩ := key _ le_rfl
  constructor
  · intro i
    rw [h1 i, Finset.sum_range]
    exact Fintype.sum_equiv (finCongr trips5) _ _ fun c => dif_pos c.isLt
  · intro i
    rw [h2 i, Finset.sum_range]
    exact Fintype.sum_equiv (finCongr trips5) _ _ fun c => dif_pos c.isLt

/-- The running maximum of the exact pass is finite once a chunk is in it. -/
theorem exactMax_isFin (q : Vec Ideal S1x1x32x256 .bf16) (k : Fin k0_t3_loop.trips) (l : Fin 256)
    (hq : ∀ e, IsFin (q (ix4 0 0 e l)))
    (hk : ∀ (c : Fin k0_t4_loop.trips) (t : Fin 256) (j : Fin 128), IsFin (View.readAt (Elt Ideal) arg9.view
      (Rect.unit (s := S6x4096x128) (k0_off85 k c) S1x256x128.size (k0_off85_inb k c)).toLoadRect X9 (ix3 0 t j))) :
    IsFin (exactMax arg9 X9 q k k0_t4_loop.trips (ix2 0 l)) := by
  have h0 : k0_pay350 (F := Ideal) (ix2 0 l) = (⊥ : EReal) := by
    pointwise [k0_pay350]
    exact bits_neg_inf
  have key : ∀ j ≤ k0_t4_loop.trips, (exactMax arg9 X9 q k j (ix2 0 l) = ⊥ ∧ j = 0) ∨ IsFin (exactMax arg9 X9 q k j (ix2 0 l)) := by
    intro j
    induction j with
    | zero => intro _; exact .inl ⟨h0, rfl⟩
    | succ j ih =>
      intro hj
      refine .inr ?_
      rw [exactMax, dif_pos (show j < k0_t4_loop.trips from hj)]
      exact exactStep_isFin q _ _ l hq (hk ⟨j, hj⟩) ((ih (Nat.le_of_succ_le hj)).imp_left And.left)
  rcases key _ le_rfl with ⟨_, h⟩ | h
  · exact absurd (trips4.symm.trans h) (by norm_num)
  · exact h

/-- One trip of the exact pass. -/
theorem exact_soft (a3 : EReal) (qv : Vec Ideal S1x1x32x256 .bf16) (k : Fin k0_t3_loop.trips) (m : FVec Ideal S1x256 .f32)
    (K : Fin 4096 → Fin 32 → EReal) (w : Fin 4096 → EReal) (v : Fin 32 → Fin 4096 → EReal) (l : Fin 256) (e : Fin 32)
    (hK : ∀ t e, IsFin (K t e)) (hq : ∀ e, IsFin (qv (ix4 0 0 e l))) (hm : IsFin (m (ix2 0 l)))
    (hX : ∀ c, Chunk K w v c (exactChunk arg9 arg10 arg11 X9 X10 X11 k c)) :
    finishC (F := Ideal) a3 (exactSums arg9 arg10 arg11 X9 X10 X11 (augQ qv (offRows m)) k k0_t5_loop.trips).1
        (exactSums arg9 arg10 arg11 X9 X10 X11 (augQ qv (offRows m)) k k0_t5_loop.trips).2 (ix4 0 0 e l)
      = soft a3 (score K fun e => qv (ix4 0 0 e l)) w (v e) := by
  refine finish_soft a3 (augQ qv (offRows m)) _ _ (exactChunk arg9 arg10 arg11 X9 X10 X11 k) K w v _ (fun i => offRows m (ix2 i l)) l e hK hq
    (fun i => ?_) hX (fun j => augQ_apply _ _ _ _)
    (fun r => (exactSums_apply arg9 arg10 arg11 X9 X10 X11 _ k).1 _)
    ((exactSums_apply arg9 arg10 arg11 X9 X10 X11 _ k).2 _)
  rw [offRows_apply m l hm]
  split_ifs
  · exact IsFin.zero.sub (hm.liftRound _)
  · exact .zero

end Exact

end Cert.RowIdeal.Hand
-- ==== Proof.RowOut.lean ====
module

public import proofs.«01_k».proof.Proof.RowPrep
public import proofs.«01_k».proof.Proof.RowAtt

@[expose] public section

set_option maxRecDepth 16384

noncomputable section

/-!
The block of codes after the two passes: the code of plain attention at every place. The fast pass
fills the block item by item, and the exact pass, if it runs, writes the same codes again.
-/

namespace Cert.RowIdeal.Hand

open Cert.RowIdeal Cert.RowIdeal.Gen Cert.Attention
open Idealize.ShloMosaic Idealize.ShloMosaic.TcCoe
open Idealize.ShloMosaic (ix2 ix3 ix4 ix5)

/-- The head of the keys that a query of head `h` at lane `l` sees. -/
def headOf (h : Fin 6) (l : Fin 4608) : Fin 6 := if l.val < 4096 then h else 0

/-- The code at dimension `e` of the query of head `h` at lane `l`. -/
def codeAt (a3 : EReal) (q : Vec Ideal S1x1x192x4608 .bf16) (kc : Vec Ideal S1x1x1x192x4096 .i8) (ks : Vec Ideal S1x1x1x6x4096 .f32)
    (vc : Vec Ideal S1x1x1x192x4096 .i8) (vs : Vec Ideal S1x1x1x6x4096 .f32) (h : Fin 6) (e : Fin 32) (l : Fin 4608) : BitVec 8 :=
  soft a3 (score (keyOf kc ks (headOf h l)) fun d => q (ix4 0 0 ⟨32 * h.val + d.val, by omega⟩ l))
    (fun t => vs (ix5 0 0 0 (headOf h l) t)) (valOf vc (headOf h l) e)

/-- The block of codes as one function of the place. -/
def codesAt (a3 : EReal) (q : Vec Ideal S1x1x192x4608 .bf16) (kc : Vec Ideal S1x1x1x192x4096 .i8) (ks : Vec Ideal S1x1x1x6x4096 .f32)
    (vc : Vec Ideal S1x1x1x192x4096 .i8) (vs : Vec Ideal S1x1x1x6x4096 .f32) (y : S1x1x192x4608.Idx) : BitVec 8 :=
  codeAt a3 q kc ks vc vs ⟨(y 2).val / 32, by have : (y 2).val < 192 := (y 2).isLt; omega⟩ ⟨(y 2).val % 32, by omega⟩ (y 3)

theorem item_bounds : ∀ j : Fin 54, itemQ j.val < 6 ∧ itemK j.val < 6 ∧ itemL j.val + 512 ≤ 4608
    ∧ (itemL j.val + 512 ≤ 4096 ∧ itemK j.val = itemQ j.val ∨ 4096 ≤ itemL j.val ∧ itemK j.val = 0) := by decide +kernel

/-- The work item that fills a place. -/
def itemOf (y : S1x1x192x4608.Idx) : ℕ :=
  if (y 3).val < 4096 then 8 * ((y 2).val / 32) + (y 3).val / 512 else 48 + (y 2).val / 32

theorem itemOf_spec (y : S1x1x192x4608.Idx) : itemOf y < 54 ∧ itemQ (itemOf y) = (y 2).val / 32
    ∧ itemL (itemOf y) ≤ (y 3).val ∧ (y 3).val < itemL (itemOf y) + 512 := by
  have h2 : (y 2).val < 192 := (y 2).isLt
  have h3 : (y 3).val < 4608 := (y 3).isLt
  unfold itemOf itemQ itemL
  split_ifs <;> omega

/-- A place lies in the half of its item that its lane tells. -/
theorem mem_half (o : Fin 4 → ℕ) (h : ∀ a, o a + S1x1x32x256.size a ≤ S1x1x192x4608.size a) (y : S1x1x192x4608.Idx)
    (eo : o = ![0, 0, 32 * itemQ (itemOf y), itemL (itemOf y) + 256 * (((y 3).val - itemL (itemOf y)) / 256)]) :
    y ∈ (Rect.unit (s := S1x1x192x4608) o S1x1x32x256.size h).set := by
  subst eo
  obtain ⟨_, hq, hl, hl'⟩ := itemOf_spec y
  refine (Rect.unit (s := S1x1x192x4608) _ S1x1x32x256.size h).mem_set.mpr fun a => ?_
  have y0 : (y 0).val = 0 := by have : (y 0).val < 1 := (y 0).isLt; omega
  have y1 : (y 1).val = 0 := by have : (y 1).val < 1 := (y 1).isLt; omega
  fin_cases a
  · refine ⟨0, by norm_num [Rect.unit, S1x1x32x256], ?_⟩
    show (y 0).val = 0 + 1 * 0
    omega
  · refine ⟨0, by norm_num [Rect.unit, S1x1x32x256], ?_⟩
    show (y 1).val = 0 + 1 * 0
    omega
  · refine ⟨(y 2).val % 32, Nat.mod_lt _ (by norm_num), ?_⟩
    show (y 2).val = 32 * itemQ (itemOf y) + 1 * ((y 2).val % 32)
    rw [hq]
    omega
  · refine ⟨((y 3).val - itemL (itemOf y)) % 256, Nat.mod_lt _ (by norm_num), ?_⟩
    show (y 3).val = itemL (itemOf y) + 256 * (((y 3).val - itemL (itemOf y)) / 256) + 1 * (((y 3).val - itemL (itemOf y)) % 256)
    generalize itemL (itemOf y) = L at *
    omega

section

variable (a3 : EReal) (q : Vec Ideal S1x1x192x4608 .bf16) (kc : Vec Ideal S1x1x1x192x4096 .i8) (ks : Vec Ideal S1x1x1x6x4096 .f32)
  (vc : Vec Ideal S1x1x1x192x4096 .i8) (vs : Vec Ideal S1x1x1x6x4096 .f32)

/-- A vector of codes of half an item is the block of codes there. -/
theorem half_apply (arg3 : Memref sig .tc .vmem S1x1x192x4608 .bf16) (X3 : BufTy.Contents (Elt Ideal) arg3.view.ty)
    (hq : ∀ y, arg3.view.read (Elt Ideal) X3 y = q y) (o : Fin 4 → ℕ)
    (h : ∀ a, o a + S1x1x32x256.size a ≤ S1x1x192x4608.size a) (j : Fin 54) (b : ℕ) (hb : b < 2)
    (eo : o = ![0, 0, 32 * itemQ j.val, itemL j.val + 256 * b]) (n : Fin 6) (hn : n.val = itemK j.val) (V : IVec S1x1x32x256 8)
    (hV : ∀ (e : Fin 32) (l : Fin 256), V (ix4 0 0 e l) = soft a3
      (score (keyOf kc ks n) fun d => queryAt arg3 X3 o h (ix4 0 0 d l)) (fun t => vs (ix5 0 0 0 n t)) (valOf vc n e))
    (x : S1x1x32x256.Idx) : V x = codesAt a3 q kc ks vc vs ((Rect.unit (s := S1x1x192x4608) o S1x1x32x256.size h).emb x) := by
  subst eo
  obtain ⟨bq, bk, bl, bc⟩ := item_bounds j
  obtain ⟨u, w, e, l, rfl⟩ : ∃ (u w : Fin 1) (e : Fin 32) (l : Fin 256), x = ix4 u w e l :=
    ⟨x 0, x 1, x 2, x 3, by funext i; fin_cases i <;> rfl⟩
  obtain rfl : u = 0 := Subsingleton.elim _ _
  obtain rfl : w = 0 := Subsingleton.elim _ _
  generalize itemQ j.val = Q at *
  generalize itemL j.val = L at *
  have hemb : (Rect.unit (s := S1x1x192x4608) ![0, 0, 32 * Q, L + 256 * b] S1x1x32x256.size h).emb (ix4 0 0 e l)
      = ix4 0 0 ⟨32 * Q + e.val, by omega⟩ ⟨L + 256 * b + l.val, by omega⟩ := by
    refine Rect.emb_eq_of_coords _ _ _ fun i => ?_
    fin_cases i
    · rfl
    · rfl
    · show 32 * Q + e.val = 32 * Q + 1 * e.val
      omega
    · show L + 256 * b + l.val = L + 256 * b + 1 * l.val
      omega
  rw [hemb, hV]
  have hn' : headOf ⟨Q, bq⟩ ⟨L + 256 * b + l.val, by omega⟩ = n := by
    refine Fin.ext ?_
    unfold headOf
    rw [hn]
    rcases bc with ⟨h1, h2⟩ | ⟨h1, h2⟩
    · rw [if_pos (by show L + 256 * b + l.val < 4096; omega), h2]
    · rw [if_neg (by show ¬ L + 256 * b + l.val < 4096; omega), h2]
      rfl
  have hQ : (⟨(32 * Q + e.val) / 32, by omega⟩ : Fin 6) = ⟨Q, bq⟩ := Fin.ext (by show (32 * Q + e.val) / 32 = Q; omega)
  have hE : (⟨(32 * Q + e.val) % 32, by omega⟩ : Fin 32) = e := Fin.ext (by show (32 * Q + e.val) % 32 = e.val; omega)
  show _ = codeAt a3 q kc ks vc vs ⟨(32 * Q + e.val) / 32, _⟩ ⟨(32 * Q + e.val) % 32, _⟩ ⟨L + 256 * b + l.val, _⟩
  rw [hQ, hE, codeAt, hn']
  refine congrArg (fun z => soft a3 (score (keyOf kc ks n) z) (fun t => vs (ix5 0 0 0 n t)) (valOf vc n e)) (funext fun d => ?_)
  rw [← hq]
  refine readAt_unit _ _ _ _ _ _ _ fun i => ?_
  fin_cases i <;> first | rfl | exact (Nat.zero_add _).symm

variable (arg9 : Memref sig .tc .vmem S6x4096x128 .bf16) (arg10 : Memref sig .tc .vmem S6x32x4096 .bf16)
  (arg11 : Memref sig .tc .vmem S6x4096x128 .f32) (X9 : BufTy.Contents (Elt Ideal) arg9.view.ty)
  (X10 : BufTy.Contents (Elt Ideal) arg10.view.ty) (X11 : BufTy.Contents (Elt Ideal) arg11.view.ty)
  (r9 : ∀ y, arg9.view.read (Elt Ideal) X9 y = keysAt kc ks y) (r10 : ∀ y, arg10.view.read (Elt Ideal) X10 y = valuesAt vc y)
  (r11 : ∀ y, arg11.view.read (Elt Ideal) X11 y = scalesAt vs y)

include r9 in
theorem key_load (o9 : Fin 3 → ℕ) (h9 : ∀ a, o9 a + S1x256x128.size a ≤ S6x4096x128.size a) (n : Fin 6) (c : Fin 16)
    (e9 : o9 = ![n.val, 256 * c.val, 0]) (t : Fin 256) (j : Fin 128) :
    View.readAt (Elt Ideal) arg9.view (Rect.unit (s := S6x4096x128) o9 S1x256x128.size h9).toLoadRect X9 (ix3 0 t j)
      = keyRow (keyOf kc ks n ⟨256 * c.val + t.val, by omega⟩) j := by
  subst e9
  refine (readAt_unit _ _ _ _ _ _ (ix3 n ⟨256 * c.val + t.val, by omega⟩ j) fun i => ?_).trans (r9 _)
  fin_cases i <;> first | rfl | exact (Nat.zero_add _).symm

include r9 r10 r11 in
theorem loads_chunk (o9 o10 : Fin 3 → ℕ) (h9 : ∀ a, o9 a + S1x256x128.size a ≤ S6x4096x128.size a)
    (h10 : ∀ a, o10 a + S1x32x256.size a ≤ S6x32x4096.size a) (n : Fin 6) (c : Fin 16)
    (e9 : o9 = ![n.val, 256 * c.val, 0]) (e10 : o10 = ![n.val, 0, 256 * c.val]) :
    Chunk (keyOf kc ks n) (fun t => vs (ix5 0 0 0 n t)) (valOf vc n) c (loadsAt arg9 arg10 arg11 X9 X10 X11 o9 o10 h9 h10) where
  ka t j := key_load kc ks arg9 X9 r9 o9 h9 n c e9 t j
  vs t j := by
    subst e9 e10
    refine (readAt_unit _ _ _ _ _ _ (ix3 n ⟨256 * c.val + t.val, by omega⟩ j) fun i => ?_).trans (r11 _)
    fin_cases i <;> first | rfl | exact (Nat.zero_add _).symm
  vt e t := by
    subst e9 e10
    refine (readAt_unit _ _ _ _ _ _ (ix3 n e ⟨256 * c.val + t.val, by omega⟩) fun i => ?_).trans (r10 _)
    fin_cases i <;> first | rfl | exact (Nat.zero_add _).symm

variable (hK : ∀ n t e, IsFin (keyOf kc ks n t e)) (hQ : ∀ y, IsFin (q y))
  (arg3 : Memref sig .tc .vmem S1x1x192x4608 .bf16) (X3 : BufTy.Contents (Elt Ideal) arg3.view.ty)
  (r3 : ∀ y, arg3.view.read (Elt Ideal) X3 y = q y)

include hQ r3 in
theorem query_isFin (o : Fin 4 → ℕ) (h : ∀ a, o a + S1x1x32x256.size a ≤ S1x1x192x4608.size a) (x : S1x1x32x256.Idx) :
    IsFin (queryAt (F := Ideal) arg3 X3 o h x) := by
  show IsFin (View.read (Elt Ideal) arg3.view X3 _)
  rw [r3]
  exact hQ _

theorem trips2 : k0_t2_loop.trips = 27 := by decide +kernel
theorem trips3 : k0_t3_loop.trips = 108 := by decide +kernel

include r9 r10 r11 hK hQ r3 in
/-- One store of the fast pass. -/
theorem fastPiece_apply (k : Fin k0_t2_loop.trips) (r : Fin 2) (b : ℕ) (hb : b < 2) (o : Fin 4 → ℕ)
    (h : ∀ a, o a + S1x1x32x256.size a ≤ S1x1x192x4608.size a)
    (eo : o = ![0, 0, 32 * itemQ (2 * k.val + r.val), itemL (2 * k.val + r.val) + 256 * b]) (x : S1x1x32x256.Idx) :
    attC (F := Ideal) a3 (queryAt arg3 X3 o h) k0_pay2 (fastLoads arg9 arg10 arg11 X9 X10 X11 k r 0)
        (List.ofFn fun c : Fin 15 => fastLoads arg9 arg10 arg11 X9 X10 X11 k r c.succ) x
      = codesAt a3 q kc ks vc vs ((Rect.unit (s := S1x1x192x4608) o S1x1x32x256.size h).emb x) := by
  have hk : k.val < 27 := trips2 ▸ k.isLt
  let j : Fin 54 := ⟨2 * k.val + r.val, by omega⟩
  let n : Fin 6 := ⟨itemK j.val, (item_bounds j).2.1⟩
  refine half_apply a3 q kc ks vc vs arg3 X3 r3 o h j b hb eo n rfl _ (fun e l => ?_) x
  exact attC_soft a3 _ (fastLoads arg9 arg10 arg11 X9 X10 X11 k r) (keyOf kc ks n) _ (valOf vc n) l e (hK n)
    (fun d => query_isFin q hQ arg3 X3 r3 o h _)
    fun c => loads_chunk kc ks vc vs arg9 arg10 arg11 X9 X10 X11 r9 r10 r11 _ _ _ _ n c (fastOff9_eq k r c) (fastOff10_eq k r c)

theorem off85 : ∀ (k : Fin k0_t3_loop.trips) (c : Fin k0_t4_loop.trips), k0_off85 k c = ![itemK (k.val / 2), 256 * c.val, 0] := by decide +kernel
theorem off86 : ∀ (k : Fin k0_t3_loop.trips) (c : Fin k0_t5_loop.trips), k0_off86 k c = ![itemK (k.val / 2), 256 * c.val, 0] := by decide +kernel
theorem off87 : ∀ (k : Fin k0_t3_loop.trips) (c : Fin k0_t5_loop.trips), k0_off87 k c = ![itemK (k.val / 2), 0, 256 * c.val] := by decide +kernel

include r9 r10 r11 hK hQ r3 in
/-- The store of one trip of the exact pass. -/
theorem exactPiece_apply (k : Fin k0_t3_loop.trips) (x : S1x1x32x256.Idx) :
    finishC (F := Ideal) a3
        (exactSums arg9 arg10 arg11 X9 X10 X11 (augQ (queryAt arg3 X3 (k0_off84 k) (k0_off84_inb k)) (offRows (exactMax arg9 X9 (queryAt arg3 X3 (k0_off84 k) (k0_off84_inb k)) k k0_t4_loop.trips))) k k0_t5_loop.trips).1
        (exactSums arg9 arg10 arg11 X9 X10 X11 (augQ (queryAt arg3 X3 (k0_off84 k) (k0_off84_inb k)) (offRows (exactMax arg9 X9 (queryAt arg3 X3 (k0_off84 k) (k0_off84_inb k)) k k0_t4_loop.trips))) k k0_t5_loop.trips).2 x
      = codesAt a3 q kc ks vc vs ((Rect.unit (s := S1x1x192x4608) (k0_off84 k) S1x1x32x256.size (k0_off84_inb k)).emb x) := by
  have hk : k.val < 108 := trips3 ▸ k.isLt
  let j : Fin 54 := ⟨k.val / 2, by omega⟩
  let n : Fin 6 := ⟨itemK j.val, (item_bounds j).2.1⟩
  refine half_apply a3 q kc ks vc vs arg3 X3 r3 _ _ j (k.val % 2) (by omega) (off84 k) n rfl _ (fun e l => ?_) x
  refine exact_soft arg9 arg10 arg11 X9 X10 X11 a3 _ k _ (keyOf kc ks n) _ (valOf vc n) l e (hK n)
    (fun d => query_isFin q hQ arg3 X3 r3 _ _ _) ?_
    fun c => loads_chunk kc ks vc vs arg9 arg10 arg11 X9 X10 X11 r9 r10 r11 _ _ _ _ n c (off86 k _) (off87 k _)
  refine exactMax_isFin arg9 X9 _ k l (fun d => query_isFin q hQ arg3 X3 r3 _ _ _) fun c t d => ?_
  rw [key_load kc ks arg9 X9 r9 _ _ n ⟨c.val, trips4 ▸ c.isLt⟩ (off85 k c)]
  exact keyRow_isFin _ (hK n _) d

end

theorem half00 : ∀ k : Fin k0_t2_loop.trips, k0_off51 k 0#32 0#32 = ![0, 0, 32 * itemQ (2 * k.val + (0 : Fin 2).val), itemL (2 * k.val + (0 : Fin 2).val) + 256 * 0] := by decide +kernel
theorem half01 : ∀ k : Fin k0_t2_loop.trips, k0_off51 k 0#32 256#32 = ![0, 0, 32 * itemQ (2 * k.val + (0 : Fin 2).val), itemL (2 * k.val + (0 : Fin 2).val) + 256 * 1] := by decide +kernel
theorem half10 : ∀ k : Fin k0_t2_loop.trips, k0_off51 k 1#32 0#32 = ![0, 0, 32 * itemQ (2 * k.val + (1 : Fin 2).val), itemL (2 * k.val + (1 : Fin 2).val) + 256 * 0] := by decide +kernel
theorem half11 : ∀ k : Fin k0_t2_loop.trips, k0_off51 k 1#32 256#32 = ![0, 0, 32 * itemQ (2 * k.val + (1 : Fin 2).val), itemL (2 * k.val + (1 : Fin 2).val) + 256 * 1] := by decide +kernel

section

variable (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (v0 : Elt Ideal .f32) (X3 : BufTy.Contents (Elt Ideal) arg3.view.ty)
  (X9 : BufTy.Contents (Elt Ideal) arg9.view.ty) (X10 : BufTy.Contents (Elt Ideal) arg10.view.ty) (X11 : BufTy.Contents (Elt Ideal) arg11.view.ty)
  (q : Vec Ideal S1x1x192x4608 .bf16) (kc : Vec Ideal S1x1x1x192x4096 .i8) (ks : Vec Ideal S1x1x1x6x4096 .f32)
  (vc : Vec Ideal S1x1x1x192x4096 .i8) (vs : Vec Ideal S1x1x1x6x4096 .f32)
  (r9 : ∀ y, arg9.view.read (Elt Ideal) X9 y = keysAt kc ks y) (r10 : ∀ y, arg10.view.read (Elt Ideal) X10 y = valuesAt vc y)
  (r11 : ∀ y, arg11.view.read (Elt Ideal) X11 y = scalesAt vs y)
  (hK : ∀ n t e, IsFin (keyOf kc ks n t e)) (hQ : ∀ y, IsFin (q y)) (r3 : ∀ y, arg3.view.read (Elt Ideal) X3 y = q y)

include r9 r10 r11 hK hQ r3 in
theorem fast_pieces (k : Fin k0_t2_loop.trips) (f12 : BufTy.Contents (Elt Ideal) arg12.view.ty) :
    (∀ p ∈ (trip2 𝒱 c bd i arg2 harg2 arg3 harg3 arg4 harg4 arg5 harg5 arg6 harg6 arg7 harg7 arg8 harg8 arg9 harg9 arg10 harg10 arg11 harg11 arg12 harg12 v0 X3 X9 X10 X11 k f12).1, ∀ x, p.2 x = codesAt v0 q kc ks vc vs (p.1.emb x))
    ∧ ∀ y, itemOf y = 2 * k.val ∨ itemOf y = 2 * k.val + 1 → ∃ p ∈ (trip2 𝒱 c bd i arg2 harg2 arg3 harg3 arg4 harg4 arg5 harg5 arg6 harg6 arg7 harg7 arg8 harg8 arg9 harg9 arg10 harg10 arg11 harg11 arg12 harg12 v0 X3 X9 X10 X11 k f12).1, y ∈ p.1.set := by
  rw [trip2_pieces]
  have ap := fastPiece_apply v0 q kc ks vc vs arg9 arg10 arg11 X9 X10 X11 r9 r10 r11 hK hQ arg3 X3 r3 k
  constructor
  · intro p hp
    simp only [List.mem_cons, List.not_mem_nil, or_false] at hp
    rcases hp with rfl | rfl | rfl | rfl
    · intro x
      exact ap 1 1 (by norm_num) (k0_off51 k 1#32 256#32) (k0_off51_inb k 1 1) (half11 k) x
    · intro x
      exact ap 1 0 (by norm_num) (k0_off51 k 1#32 0#32) (k0_off51_inb k 1 0) (half10 k) x
    · intro x
      exact ap 0 1 (by norm_num) (k0_off51 k 0#32 256#32) (k0_off51_inb k 0 1) (half01 k) x
    · intro x
      exact ap 0 0 (by norm_num) (k0_off51 k 0#32 0#32) (k0_off51_inb k 0 0) (half00 k) x
  · intro y hy
    obtain ⟨_, _, hl, hl'⟩ := itemOf_spec y
    have hb : ((y 3).val - itemL (itemOf y)) / 256 = 0 ∨ ((y 3).val - itemL (itemOf y)) / 256 = 1 := by
      generalize itemL (itemOf y) = L at *
      omega
    rcases hy with hy | hy <;> rcases hb with hb | hb
    · exact ⟨_, .tail _ (.tail _ (.tail _ (.head _))), mem_half _ (k0_off51_inb k 0 0) y (by rw [hb, hy]; exact half00 k)⟩
    · exact ⟨_, .tail _ (.tail _ (.head _)), mem_half _ (k0_off51_inb k 0 1) y (by rw [hb, hy]; exact half01 k)⟩
    · exact ⟨_, .tail _ (.head _), mem_half _ (k0_off51_inb k 1 0) y (by rw [hb, hy]; exact half10 k)⟩
    · exact ⟨_, .head _, mem_half _ (k0_off51_inb k 1 1) y (by rw [hb, hy]; exact half11 k)⟩

include r9 r10 r11 hK hQ r3 in
/-- The fast pass fills the items in order. -/
theorem fast_read (f8 : BufTy.Contents (Elt Ideal) arg8.view.ty) (G12 : BufTy.Contents (Elt Ideal) arg12.view.ty) (n : ℕ)
    (hn : n ≤ k0_t2_loop.trips) (y : S1x1x192x4608.Idx) (hy : itemOf y < 2 * n) :
    arg8.view.read (Elt Ideal) (st2 𝒱 c bd i arg2 harg2 arg3 harg3 arg4 harg4 arg5 harg5 arg6 harg6 arg7 harg7 arg8 harg8 arg9 harg9 arg10 harg10 arg11 harg11 arg12 harg12 v0 X3 X9 X10 X11 f8 G12 n).1 y = codesAt v0 q kc ks vc vs y := by
  induction n with
  | zero => omega
  | succ n ih =>
    have e := st2_succ (F := Ideal) 𝒱 c bd i arg2 harg2 arg3 harg3 arg4 harg4 arg5 harg5 arg6 harg6 arg7 harg7 arg8 harg8 arg9 harg9 arg10 harg10 arg11 harg11 arg12 harg12 v0 X3 X9 X10 X11 f8 G12 ⟨n, hn⟩
    obtain ⟨hp, hc⟩ := fast_pieces 𝒱 c bd i arg2 harg2 arg3 harg3 arg4 harg4 arg5 harg5 arg6 harg6 arg7 harg7 arg8 harg8 arg9 harg9 arg10 harg10 arg11 harg11 arg12 harg12 v0 X3 X9 X10 X11 q kc ks vc vs r9 r10 r11 hK hQ r3 ⟨n, hn⟩
      (st2 𝒱 c bd i arg2 harg2 arg3 harg3 arg4 harg4 arg5 harg5 arg6 harg6 arg7 harg7 arg8 harg8 arg9 harg9 arg10 harg10 arg11 harg11 arg12 harg12 v0 X3 X9 X10 X11 f8 G12 n).2
    rw [congrArg Prod.fst e]
    by_cases hm : ∃ p ∈ (trip2 𝒱 c bd i arg2 harg2 arg3 harg3 arg4 harg4 arg5 harg5 arg6 harg6 arg7 harg7 arg8 harg8 arg9 harg9 arg10 harg10 arg11 harg11 arg12 harg12 v0 X3 X9 X10 X11 ⟨n, hn⟩ (st2 𝒱 c bd i arg2 harg2 arg3 harg3 arg4 harg4 arg5 harg5 arg6 harg6 arg7 harg7 arg8 harg8 arg9 harg9 arg10 harg10 arg11 harg11 arg12 harg12 v0 X3 X9 X10 X11 f8 G12 n).2).1, y ∈ p.1.set
    · exact View.read_writes_apply_of_pieces _ _ _ _ hp y hm
    · refine (View.read_writes_apply_of_forall_not_mem _ _ y _ fun p hp hy => hm ⟨p, hp, hy⟩).trans
        (ih (Nat.le_of_succ_le hn) ?_)
      by_contra hlt
      refine hm (hc y ?_)
      show itemOf y = 2 * n ∨ itemOf y = 2 * n + 1
      omega

include r9 r10 r11 hK hQ r3 in
/-- The exact pass leaves the block as the fast pass left it. -/
theorem exact_read (g8 : BufTy.Contents (Elt Ideal) arg8.view.ty) (hg : ∀ y, arg8.view.read (Elt Ideal) g8 y = codesAt v0 q kc ks vc vs y)
    (n : ℕ) (hn : n ≤ k0_t3_loop.trips) (y : S1x1x192x4608.Idx) :
    arg8.view.read (Elt Ideal) (st3 𝒱 c bd i arg2 harg2 arg3 harg3 arg4 harg4 arg5 harg5 arg6 harg6 arg7 harg7 arg8 harg8 arg9 harg9 arg10 harg10 arg11 harg11 arg12 harg12 v0 X3 X9 X10 X11 g8 n) y = codesAt v0 q kc ks vc vs y := by
  induction n with
  | zero => exact hg y
  | succ n ih =>
    have e := st3_succ (F := Ideal) 𝒱 c bd i arg2 harg2 arg3 harg3 arg4 harg4 arg5 harg5 arg6 harg6 arg7 harg7 arg8 harg8 arg9 harg9 arg10 harg10 arg11 harg11 arg12 harg12 v0 X3 X9 X10 X11 g8 ⟨n, hn⟩
    rw [e]
    by_cases hm : ∃ p ∈ (trip3 𝒱 c bd i arg2 harg2 arg3 harg3 arg4 harg4 arg5 harg5 arg6 harg6 arg7 harg7 arg8 harg8 arg9 harg9 arg10 harg10 arg11 harg11 arg12 harg12 v0 X3 X9 X10 X11 ⟨n, hn⟩).1, y ∈ p.1.set
    · refine View.read_writes_apply_of_pieces _ _ _ _ (fun p hp => ?_) y hm
      rw [trip3_pieces, List.mem_singleton] at hp
      subst hp
      exact exactPiece_apply v0 q kc ks vc vs arg9 arg10 arg11 X9 X10 X11 r9 r10 r11 hK hQ arg3 X3 r3 ⟨n, hn⟩
    · exact (View.read_writes_apply_of_forall_not_mem _ _ y _ fun p hp hy => hm ⟨p, hp, hy⟩).trans (ih (Nat.le_of_succ_le hn))

end

theorem trips2' : Scf.trips (0#32) (Scalar.addi 0#32 27#32) 1#32 = k0_t2_loop.trips := by decide +kernel
theorem trips3' : Scf.trips (0#32) (Scalar.addi 0#32 108#32) 1#32 = k0_t3_loop.trips := by decide +kernel

/-- What the body leaves in the block of codes. -/
theorem body_out (𝒱 : Variants) (c : Dev nD) (bd : Option 𝒱.V) (i : grid0.Coords) (arg2 : Memref sig .tc .smem S2x6 .f32) (harg2 : arg2.IsWhole) (arg3 : Memref sig .tc .vmem S1x1x192x4608 .bf16) (harg3 : arg3.IsWhole) (arg4 : Memref sig .tc .vmem S1x1x1x192x4096 .i8) (harg4 : arg4.IsWhole) (arg5 : Memref sig .tc .vmem S1x1x1x6x4096 .f32) (harg5 : arg5.IsWhole) (arg6 : Memref sig .tc .vmem S1x1x1x192x4096 .i8) (harg6 : arg6.IsWhole) (arg7 : Memref sig .tc .vmem S1x1x1x6x4096 .f32) (harg7 : arg7.IsWhole) (arg8 : Memref sig .tc .vmem S1x1x192x4608 .i8) (harg8 : arg8.IsWhole) (arg9 : Memref sig .tc .vmem S6x4096x128 .bf16) (harg9 : arg9.IsWhole) (arg10 : Memref sig .tc .vmem S6x32x4096 .bf16) (harg10 : arg10.IsWhole) (arg11 : Memref sig .tc .vmem S6x4096x128 .f32) (harg11 : arg11.IsWhole) (arg12 : Memref sig .tc .vmem S1x256 .f32) (harg12 : arg12.IsWhole) (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    (f8 : BufTy.Contents (Elt Ideal) arg8.view.ty) (f9 : BufTy.Contents (Elt Ideal) arg9.view.ty) (f10 : BufTy.Contents (Elt Ideal) arg10.view.ty) (f11 : BufTy.Contents (Elt Ideal) arg11.view.ty)
    (g8 : BufTy.Contents (Elt Ideal) arg8.view.ty)
    (hK : ∀ n t e, IsFin (keyOf (arg4.view.read (Elt Ideal) X4) (arg5.view.read (Elt Ideal) X5) n t e)) (hQ : ∀ y, IsFin (arg3.view.read (Elt Ideal) X3 y))
    (hg : BodyOut 𝒱 c bd i arg2 harg2 arg3 harg3 arg4 harg4 arg5 harg5 arg6 harg6 arg7 harg7 arg8 harg8 arg9 harg9 arg10 harg10 arg11 harg11 arg12 harg12 X2 X3 X4 X5 X6 X7 f8 f9 f10 f11 g8) (y : S1x1x192x4608.Idx) :
    arg8.view.read (Elt Ideal) g8 y = codesAt (scaleOf arg2 X2) (arg3.view.read (Elt Ideal) X3) (arg4.view.read (Elt Ideal) X4) (arg5.view.read (Elt Ideal) X5)
      (arg6.view.read (Elt Ideal) X6) (arg7.view.read (Elt Ideal) X7) y := by
  have r9 := prep9_read 𝒱 c bd i arg2 harg2 arg3 harg3 arg4 harg4 arg5 harg5 arg6 harg6 arg7 harg7 arg8 harg8 arg9 harg9 arg10 harg10 arg11 harg11 arg12 harg12 X4 X5 X6 X7 f9
  have r10 := prep10_read 𝒱 c bd i arg2 harg2 arg3 harg3 arg4 harg4 arg5 harg5 arg6 harg6 arg7 harg7 arg8 harg8 arg9 harg9 arg10 harg10 arg11 harg11 arg12 harg12 X4 X5 X6 X7 f10
  have r11 := prep11_read 𝒱 c bd i arg2 harg2 arg3 harg3 arg4 harg4 arg5 harg5 arg6 harg6 arg7 harg7 arg8 harg8 arg9 harg9 arg10 harg10 arg11 harg11 arg12 harg12 X4 X5 X6 X7 f11
  have hfast : ∀ G12 y, arg8.view.read (Elt Ideal) (fastOf 𝒱 c bd i arg2 harg2 arg3 harg3 arg4 harg4 arg5 harg5 arg6 harg6 arg7 harg7 arg8 harg8 arg9 harg9 arg10 harg10 arg11 harg11 arg12 harg12 (scaleOf arg2 X2) X3 (prep9 𝒱 c bd i arg2 harg2 arg3 harg3 arg4 harg4 arg5 harg5 arg6 harg6 arg7 harg7 arg8 harg8 arg9 harg9 arg10 harg10 arg11 harg11 arg12 harg12 X4 X5 X6 X7 f9) (prep10 𝒱 c bd i arg2 harg2 arg3 harg3 arg4 harg4 arg5 harg5 arg6 harg6 arg7 harg7 arg8 harg8 arg9 harg9 arg10 harg10 arg11 harg11 arg12 harg12 X4 X5 X6 X7 f10) (prep11 𝒱 c bd i arg2 harg2 arg3 harg3 arg4 harg4 arg5 harg5 arg6 harg6 arg7 harg7 arg8 harg8 arg9 harg9 arg10 harg10 arg11 harg11 arg12 harg12 X4 X5 X6 X7 f11) f8 G12) y
      = codesAt (scaleOf arg2 X2) (arg3.view.read (Elt Ideal) X3) (arg4.view.read (Elt Ideal) X4) (arg5.view.read (Elt Ideal) X5)
      (arg6.view.read (Elt Ideal) X6) (arg7.view.read (Elt Ideal) X7) y := by
    intro G12 y
    unfold fastOf
    rw [trips2']
    exact fast_read 𝒱 c bd i arg2 harg2 arg3 harg3 arg4 harg4 arg5 harg5 arg6 harg6 arg7 harg7 arg8 harg8 arg9 harg9 arg10 harg10 arg11 harg11 arg12 harg12 _ X3 _ _ _ _ _ _ _ _ r9 r10 r11 hK hQ (fun _ => rfl) f8 G12 _ le_rfl y (by rw [trips2]; exact (itemOf_spec y).1)
  obtain ⟨G12, rfl | rfl⟩ := hg
  · exact hfast G12 y
  · rw [trips3']
    exact exact_read 𝒱 c bd i arg2 harg2 arg3 harg3 arg4 harg4 arg5 harg5 arg6 harg6 arg7 harg7 arg8 harg8 arg9 harg9 arg10 harg10 arg11 harg11 arg12 harg12 _ X3 _ _ _ _ _ _ _ _ r9 r10 r11 hK hQ (fun _ => rfl) _ (hfast G12) _ le_rfl y

end Cert.RowIdeal.Hand
-- ==== Proof.RowRun.lean ====
module

public import proofs.«01_k».proof.Proof.RowBody
public import proofs.«01_k».proof.Proof.Gen.RowIdeal.Frame
public import Idealize.ShloMosaic.Lib.Pipeline.DatRel
public import Idealize.ShloMosaic.Lib.Claim

/-!
The row kernel's whole run. Of the result the proof data say that what a grid point leaves meets a predicate `P`
that follows from the body's relation `BodyOut`; every argument array keeps its contents and every semaphore
counter ends at zero.
-/

@[expose] public section

set_option maxRecDepth 16384

noncomputable section

namespace Cert.RowIdeal.Hand

open Cert.RowIdeal Cert.RowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: inputs at their blocks; of the result's window nothing is named. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ _ := Pipeline.ΦA spec0 c
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem before0_0 (c : Dev nD) (t : Fin cfg0.N) (d) : (dats m c).before 0 t d = iblk m c 0 t :=
  before0_0_of m (dats m c) (A_eq m c 0) (fun t => after0_0 m c t) t d
theorem after0_1 (c : Dev nD) (t : Fin cfg0.N) : (dats m c).after 1 t = iblk m c 1 t := by dsimp only [dats]
theorem before0_1 (c : Dev nD) (t : Fin cfg0.N) (d) : (dats m c).before 1 t d = iblk m c 1 t :=
  before0_1_of m (dats m c) (A_eq m c 1) (fun t => after0_1 m c t) t d
theorem after0_2 (c : Dev nD) (t : Fin cfg0.N) : (dats m c).after 2 t = iblk m c 2 t := by dsimp only [dats]
theorem before0_2 (c : Dev nD) (t : Fin cfg0.N) (d) : (dats m c).before 2 t d = iblk m c 2 t :=
  before0_2_of m (dats m c) (A_eq m c 2) (fun t => after0_2 m c t) t d
theorem after0_3 (c : Dev nD) (t : Fin cfg0.N) : (dats m c).after 3 t = iblk m c 3 t := by dsimp only [dats]
theorem before0_3 (c : Dev nD) (t : Fin cfg0.N) (d) : (dats m c).before 3 t d = iblk m c 3 t :=
  before0_3_of m (dats m c) (A_eq m c 3) (fun t => after0_3 m c t) t d
theorem after0_4 (c : Dev nD) (t : Fin cfg0.N) : (dats m c).after 4 t = iblk m c 4 t := by dsimp only [dats]
theorem before0_4 (c : Dev nD) (t : Fin cfg0.N) (d) : (dats m c).before 4 t d = iblk m c 4 t :=
  before0_4_of m (dats m c) (A_eq m c 4) (fun t => after0_4 m c t) t d
theorem after0_5 (c : Dev nD) (t : Fin cfg0.N) : (dats m c).after 5 t = iblk m c 5 t := by dsimp only [dats]
theorem before0_5 (c : Dev nD) (t : Fin cfg0.N) (d) : (dats m c).before 5 t d = iblk m c 5 t :=
  before0_5_of m (dats m c) (A_eq m c 5) (fun t => after0_5 m c t) t d

/-- The windows held to a predicate: the result's alone. -/
def held : Fin cfg0.W → Bool := ![false, false, false, false, false, false, true]

/-- A predicate on what the body leaves in the result's window at a point. -/
abbrev OutPred (F : FTy → Type) [FloatOps F] : Type := Fin cfg0.N → ((cfg0.win 6).block.Idx → Elt F (cfg0.win 6).elt) → Prop

/-- The predicate window by window. -/
def Rl (P : OutPred F) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun t X => P t X

/-- The predicate holds of whatever the body may leave. -/
def Leads (c : Dev nD) (P : OutPred F) : Prop :=
  ∀ (t : Fin cfg0.N) X2 X3 X4 X5 X6 X7 f8 f9 f10 f11 g8,
    (win0_0.stage (cfg0.slots t 0)).view.read (Elt F) X2 = iblk m c 0 t →
    (win0_1.stage (cfg0.slots t 1)).view.read (Elt F) X3 = iblk m c 1 t →
    (win0_2.stage (cfg0.slots t 2)).view.read (Elt F) X4 = iblk m c 2 t →
    (win0_3.stage (cfg0.slots t 3)).view.read (Elt F) X5 = iblk m c 3 t →
    (win0_4.stage (cfg0.slots t 4)).view.read (Elt F) X6 = iblk m c 4 t →
    (win0_5.stage (cfg0.slots t 5)).view.read (Elt F) X7 = iblk m c 5 t →
    BodyOut Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) X2 X3 X4 X5 X6 X7 f8 f9 f10 f11 g8 →
    P t ((win0_6.stage (cfg0.slots t 6)).view.read (Elt F) g8)

theorem scratch_eq (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  exact congrArg (fun S => ((Memref.whole b).view.loc (c : Thread nD τ) ↦[S]{fullShare} f : sProp 𝕄)) (View.set_whole b).symm

def bodyPre (c : Dev nD) (P : OutPred F) (t : Fin cfg0.N) : sProp 𝕄 :=
  iprop((dats m c).Φ t.castSucc ∗ (dats m c).owesAt () t.castSucc
    ∗ (∃ d, owns (c : Thread nD τ) (win0_0.stage (cfg0.slots t 0)) fullShare ((dats m c).before 0 t d))
    ∗ (∃ d, owns (c : Thread nD τ) (win0_1.stage (cfg0.slots t 1)) fullShare ((dats m c).before 1 t d))
    ∗ (∃ d, owns (c : Thread nD τ) (win0_2.stage (cfg0.slots t 2)) fullShare ((dats m c).before 2 t d))
    ∗ (∃ d, owns (c : Thread nD τ) (win0_3.stage (cfg0.slots t 3)) fullShare ((dats m c).before 3 t d))
    ∗ (∃ d, owns (c : Thread nD τ) (win0_4.stage (cfg0.slots t 4)) fullShare ((dats m c).before 4 t d))
    ∗ (∃ d, owns (c : Thread nD τ) (win0_5.stage (cfg0.slots t 5)) fullShare ((dats m c).before 5 t d))
    ∗ (∃ Y, ⌜((dats m c).toRRel held (Rl P)).Finds 6 t Y⌝ ∗ owns (c : Thread nD τ) (win0_6.stage (cfg0.slots t 6)) fullShare Y))

def bodyPost (c : Dev nD) (P : OutPred F) (t : Fin cfg0.N) : sProp 𝕄 :=
  iprop((dats m c).Φ t.succ ∗ (dats m c).owesAt () t.succ
    ∗ owns (c : Thread nD τ) (win0_0.stage (cfg0.slots t 0)) fullShare ((dats m c).after 0 t)
    ∗ owns (c : Thread nD τ) (win0_1.stage (cfg0.slots t 1)) fullShare ((dats m c).after 1 t)
    ∗ owns (c : Thread nD τ) (win0_2.stage (cfg0.slots t 2)) fullShare ((dats m c).after 2 t)
    ∗ owns (c : Thread nD τ) (win0_3.stage (cfg0.slots t 3)) fullShare ((dats m c).after 3 t)
    ∗ owns (c : Thread nD τ) (win0_4.stage (cfg0.slots t 4)) fullShare ((dats m c).after 4 t)
    ∗ owns (c : Thread nD τ) (win0_5.stage (cfg0.slots t 5)) fullShare ((dats m c).after 5 t)
    ∗ (∃ X, ⌜P t X⌝ ∗ owns (c : Thread nD τ) (win0_6.stage (cfg0.slots t 6)) fullShare X))

theorem sound_body (c : Dev nD) (P : OutPred F) (hP : Leads m c P) (t : Fin cfg0.N) :
    bodyPre m c P t ⊢ wp frame (wpE (defs₀ (F := F)) Variants.none c none) Set.univ (bodyAt0 t) (fun _ => bodyPost m c P t) := by
  unfold bodyPre bodyPost bodyAt0
  simp only [before0_0, before0_1, before0_2, before0_3, before0_4, before0_5]
  rw [show (dats m c).Φ t.succ = Pipeline.ΦA spec0 c from rfl, show (dats m c).Φ t.castSucc = Pipeline.ΦA spec0 c from rfl,
    show (dats m c).owesAt () t.succ = (dats m c).owesAt () t.castSucc from rfl,
    after0_0, after0_1, after0_2, after0_3, after0_4, after0_5]
  unfold Pipeline.ΦA
  rw [scopedRest0_eq]
  simp only [scratch_eq]
  unfold owns
  iintro ⟨⟨⟨⟨%f9, H9⟩, ⟨%f10, H10⟩, ⟨%f11, H11⟩, ⟨%f12, H12⟩⟩, Hp⟩, Ho, ⟨%d0, %X2, %h2, H2⟩, ⟨%d1, %X3, %h3, H3⟩, ⟨%d2, %X4, %h4, H4⟩, ⟨%d3, %X5, %h5, H5⟩, ⟨%d4, %X6, %h6, H6⟩, ⟨%d5, %X7, %h7, H7⟩, ⟨%Y, %hY, %f8, %h8, H8⟩⟩
  iapply (wp_wand_r Idealize.ShloMosaic.frame (wpE (defs₀ (F := F)) Variants.none (c : Thread nD τ) none) Set.univ)
  isplitl [H2 H3 H4 H5 H6 H7 H8 H9 H10 H11 H12]
  · iapply (body_run Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) X2 X3 X4 X5 X6 X7 f8 f9 f10 f11 f12)
    unfold Bufs
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ ⟨%g8, %g12, ⟨H2, H3, H4, H5, H6, H7, H8, H9, H10, H11, H12⟩, %hout⟩
    isplitl [H9 H10 H11 H12 Hp]
    · isplitl [H9 H10 H11 H12]
      · isplitl [H9]; · iexists _; iexact H9
        isplitl [H10]; · iexists _; iexact H10
        isplitl [H11]; · iexists _; iexact H11
        iexists _; iexact H12
      iexact Hp
    isplitl [Ho]; · iexact Ho
    isplitl [H2]
    · iexists X2; isplitr
      · ipureintro; exact h2
      iexact H2
    isplitl [H3]
    · iexists X3; isplitr
      · ipureintro; exact h3
      iexact H3
    isplitl [H4]
    · iexists X4; isplitr
      · ipureintro; exact h4
      iexact H4
    isplitl [H5]
    · iexists X5; isplitr
      · ipureintro; exact h5
      iexact H5
    isplitl [H6]
    · iexists X6; isplitr
      · ipureintro; exact h6
      iexact H6
    isplitl [H7]
    · iexists X7; isplitr
      · ipureintro; exact h7
      iexact H7
    iexists (win0_6.stage (cfg0.slots t 6)).view.read (Elt F) g8
    isplitr
    · ipureintro; exact hP t X2 X3 X4 X5 X6 X7 f8 f9 f10 f11 g8 h2 h3 h4 h5 h6 h7 hout
    iexists g8; isplitr
    · ipureintro; rfl
    iexact H8

/-- The body table's row at a point's slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) (P : OutPred F) (hP : Leads m c P) :
    BodyObligationRel (dats (F := F) m c) (defs₀ (F := F)) Variants.none () Set.univ held (Rl P) := fun t => by
  rw [bigSep_W0, bigSep_W0, defs₀_row]
  exact sound_body m c P hP t

set_option backward.isDefEq.respectTransparency.types false in
/-- The run: the arguments as they were, the result assembled from blocks that meet the predicate, all counters at zero. -/
theorem run_rel (P : Dev nD → OutPred F) (hP : ∀ c, Leads m c (P c)) :
    θ_run defs (onTc (τ := τ) (main (F := F))) (s₀ m ρ) (fun r =>
      RDat.FramePost cfg0 (fun c => (dats m c).toRRel held (Rl (P c))) (V m) r ∧ r.2.sem = fun _ => 0) :=
  Pipeline.RDat.θ_run_frame (Q' := _) cfgs (0 : Fin 1) launch0 defs₀ Variants.none (fun c => (dats m c).toRRel held (Rl (P c))) m ρ main
    (hbody := fun c => (body_obligation m c (P c) (hP c)).toRRel) (hshare := fun c w => (dats m c).share_full (fun _ => rfl) w)
    (howed := fun _ _ => rfl) (V := V m) (hmain := hmain m Variants.none) (hA := A_eq m) (hΦ := fun _ _ => rfl)
    (hQ' := fun _ h => h)

/-- The frame: every argument array ends as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (A_eq m c 0),
    (h.1.arr_in c 1 rfl).trans (A_eq m c 1),
    (h.1.arr_in c 2 rfl).trans (A_eq m c 2),
    (h.1.arr_in c 3 rfl).trans (A_eq m c 3),
    (h.1.arr_in c 4 rfl).trans (A_eq m c 4),
    (h.1.arr_in c 5 rfl).trans (A_eq m c 5)⟩, h.2⟩)
    (run_rel m ρ (fun _ _ _ => True) fun _ _ _ _ _ _ _ _ _ _ _ _ _ _ _ _ _ _ _ _ => trivial)

end Cert.RowIdeal.Hand
-- ==== Proof.RowArray.lean ====
module

public import proofs.«01_k».proof.Proof.RowOut
public import proofs.«01_k».proof.Proof.RowRun
public import Idealize.ShloMosaic.Lib.Pipeline.ArrRel
public import Idealize.ShloMosaic.Lib.Pipeline.ValueKit

@[expose] public section

set_option maxRecDepth 16384

noncomputable section

/-!
The result array after the whole run: at every place the code of plain attention of the argument arrays.
-/

namespace Cert.RowIdeal.Hand

open Cert.RowIdeal Cert.RowIdeal.Gen Cert.Attention
open Idealize.ShloMosaic Idealize.ShloMosaic.TcCoe Idealize.ShloMosaic.Tactic
open Idealize.SL Idealize.SL.Sem
open Idealize.ShloMosaic (ix2 ix3 ix4 ix5)
open Idealize.ShloMosaic.Pipeline (Dat RDat Cfg Window)

variable (m : (ℓ : Loc nD τ sig) → Buf (Elt Ideal) ℓ) (ρ : Dev nD → PrngReg)

/-- The array of codes as one function of the argument arrays. -/
def codes (a : Vec Ideal S2x6 .f32) (q : Vec Ideal S3x9x192x4608 .bf16) (kc : Vec Ideal S2x3x9x192x4096 .i8) (ks : Vec Ideal S2x3x9x6x4096 .f32)
    (vc : Vec Ideal S2x3x9x192x4096 .i8) (vs : Vec Ideal S2x3x9x6x4096 .f32) (i : S3x9x192x4608.Idx) : BitVec 8 :=
  codesAt (a (ix2 0 3)) (fun y => q (ix4 (i 0) (i 1) (y 2) (y 3)))
    (fun y => kc (ix5 0 (i 0) (i 1) (y 3) (y 4))) (fun y => ks (ix5 0 (i 0) (i 1) (y 3) (y 4)))
    (fun y => vc (ix5 0 (i 0) (i 1) (y 3) (y 4))) (fun y => vs (ix5 0 (i 0) (i 1) (y 3) (y 4))) (ix4 0 0 (i 2) (i 3))

/-- The codes of device `c`'s argument arrays. -/
def codesM (c : Dev nD) : S3x9x192x4608.Idx → BitVec 8 :=
  codes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index maps over the grid. -/
theorem idx_facts : ∀ t : Fin grid0.N, win0_0.index t = ![0, 0]
    ∧ win0_1.index t = ![(grid0.coords t 0).val, (grid0.coords t 1).val, 0, 0]
    ∧ win0_2.index t = ![0, (grid0.coords t 0).val, (grid0.coords t 1).val, 0, 0]
    ∧ win0_3.index t = ![0, (grid0.coords t 0).val, (grid0.coords t 1).val, 0, 0]
    ∧ win0_4.index t = ![0, (grid0.coords t 0).val, (grid0.coords t 1).val, 0, 0]
    ∧ win0_5.index t = ![0, (grid0.coords t 0).val, (grid0.coords t 1).val, 0, 0]
    ∧ win0_6.index t = ![(grid0.coords t 0).val, (grid0.coords t 1).val, 0, 0] := by decide +kernel

abbrev gb (t : Fin cfg0.N) : Fin 3 := grid0.coords t 0
abbrev gf (t : Fin cfg0.N) : Fin 9 := grid0.coords t 1

theorem iblk0_apply (c : Dev nD) (t : Fin cfg0.N) (y : S2x6.Idx) :
    iblk m c 0 t y = m ((c : Thread nD τ).loc main_arg0) y := by
  blk_ext [iblk, V, idx_facts t]

theorem iblk1_apply (c : Dev nD) (t : Fin cfg0.N) (y : S1x1x192x4608.Idx) :
    iblk m c 1 t y = m ((c : Thread nD τ).loc main_arg1) (ix4 (gb t) (gf t) (y 2) (y 3)) := by
  blk_ext [iblk, V, idx_facts t]

theorem iblk2_apply (c : Dev nD) (t : Fin cfg0.N) (y : S1x1x1x192x4096.Idx) :
    iblk m c 2 t y = m ((c : Thread nD τ).loc main_arg2) (ix5 0 (gb t) (gf t) (y 3) (y 4)) := by
  blk_ext [iblk, V, idx_facts t]

theorem iblk3_apply (c : Dev nD) (t : Fin cfg0.N) (y : S1x1x1x6x4096.Idx) :
    iblk m c 3 t y = m ((c : Thread nD τ).loc main_arg3) (ix5 0 (gb t) (gf t) (y 3) (y 4)) := by
  blk_ext [iblk, V, idx_facts t]

theorem iblk4_apply (c : Dev nD) (t : Fin cfg0.N) (y : S1x1x1x192x4096.Idx) :
    iblk m c 4 t y = m ((c : Thread nD τ).loc main_arg4) (ix5 0 (gb t) (gf t) (y 3) (y 4)) := by
  blk_ext [iblk, V, idx_facts t]

theorem iblk5_apply (c : Dev nD) (t : Fin cfg0.N) (y : S1x1x1x6x4096.Idx) :
    iblk m c 5 t y = m ((c : Thread nD τ).loc main_arg5) (ix5 0 (gb t) (gf t) (y 3) (y 4)) := by
  blk_ext [iblk, V, idx_facts t]

/-- The arguments for which the run is described: finite queries and finite key scales of the first layer. -/
def Finite (c : Dev nD) : Prop :=
  (∀ i, IsFin (m ((c : Thread nD τ).loc main_arg1) i)) ∧
    ∀ b f n t, IsFin (m ((c : Thread nD τ).loc main_arg3) (ix5 0 b f n t))

/-- What a point leaves in its block of the result. -/
def Good (c : Dev nD) : OutPred Ideal := fun t X =>
  ∀ y : S1x1x192x4608.Idx, X y = codesM m c (ix4 (gb t) (gf t) (y 2) (y 3))

theorem leads (c : Dev nD) (hfin : Finite m c) : Leads m c (Good m c) := by
  intro t X2 X3 X4 X5 X6 X7 f8 f9 f10 f11 g8 h2 h3 h4 h5 h6 h7 hg y
  have hs : scaleOf (win0_0.stage (cfg0.slots t 0)) X2 = m ((c : Thread nD τ).loc main_arg0) (ix2 0 3) := by
    rw [← iblk0_apply m c t, ← h2]
    refine congrArg ((win0_0.stage (cfg0.slots t 0)).view.read (Elt Ideal) X2) ?_
    funext a; fin_cases a <;> rfl
  rw [body_out (hg := hg) (y := y), hs, h3, h4, h5, h6, h7]
  · unfold codesM codes
    have e1 := funext (iblk1_apply m c t)
    have e2 := funext (iblk2_apply m c t)
    have e3 := funext (iblk3_apply m c t)
    have e4 := funext (iblk4_apply m c t)
    have e5 := funext (iblk5_apply m c t)
    rw [e1, e2, e3, e4, e5]
    rfl
  · intro n k e
    rw [h4, h5]
    unfold keyOf
    rw [iblk3_apply]
    exact (word_isFin _).mul ((hfin.2 _ _ _ _).mul scale_isFin)
  · intro z
    rw [h3, iblk1_apply]
    exact hfin.1 _

theorem result_eq (c : Dev nD) (after : (w' : Fin cfg0.W) → Fin cfg0.N → (cfg0.win w').block.Idx → Elt Ideal (cfg0.win w').elt)
    (rd : RDat τ (Elt Ideal) Unit ℕ (UR sig nD τ) ℕ cfg0 c)
    (h : ∀ t, Good m c t (after 6 t)) : (rd.withAfter after).arrAt 6 cfg0.N = codesM m c := by
  refine (rd.withAfter after).arrAt_eq_of_covers 6 _ (by decide +kernel) fun t hf y => ?_
  refine (h t y).trans ?_
  blk_ext [idx_facts t]

/-- The run: the result array holds the codes, the arguments are unchanged. -/
theorem run_value (hfin : ∀ c, Finite m c) : θ_run defs (onTc (τ := τ) (main (F := Ideal))) ⟨m, fun _ => 0, ρ⟩ fun r => ∀ c : Dev nD,
      r.2.mem ((c : Thread nD τ).loc main_v0) = codesM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
      refine ⟨?_, (h.1.arr_in c 0 rfl).trans (A_eq m c 0), (h.1.arr_in c 1 rfl).trans (A_eq m c 1), (h.1.arr_in c 2 rfl).trans (A_eq m c 2),
        (h.1.arr_in c 3 rfl).trans (A_eq m c 3), (h.1.arr_in c 4 rfl).trans (A_eq m c 4), (h.1.arr_in c 5 rfl).trans (A_eq m c 5)⟩
      obtain ⟨after, hL, hA⟩ := h.1.exists_exact c
      refine (hA 6).trans (result_eq m c after _ fun t => ?_)
      exact Dat.toRRel_leaves (dat := dats m c) (fgt := held) (w := 6) rfl (hL 6 t (flush0_6 t)))
    (run_rel m ρ (fun c => Good m c) fun c => leads m c (hfin c))

end Cert.RowIdeal.Hand

end
-- ==== Proof.RefSteps.lean ====
module

public import proofs.«01_k».proof.Proof.RowMath
public import proofs.«01_k».proof.Proof.Gen.RowRefIdeal.Run

@[expose] public section

set_option maxRecDepth 16384

noncomputable section

/-!
The reference's operations in a few named steps.
-/

namespace Cert.RowRefIdeal.Hand

open Cert.RowRefIdeal Cert.RowRefIdeal.Gen Cert.Attention
open Idealize.ShloMosaic Idealize.ShloMosaic.TcCoe
open Idealize.ShloMosaic (ix2 ix3 ix4 ix5 ix6)

/-- The first layer's codes, by position, feature and head. -/
def codesR (z : Vec Ideal S2x3x9x192x4096 .i8) : Vec Ideal S3x4096x9x6x32 .i8 :=
  (shapeCast _ (transpose S3x4096x9x192 [0, 3, 1, 2] (shapeCast _ (extractStridedSlice S1x3x9x192x4096 ![0, 0, 0, 0, 0] z slices_S2x3x9x192x4096_S1x3x9x192x4096_0_0_0_0_0) shapeCasts_S1x3x9x192x4096_S3x9x192x4096) transposes_S3x9x192x4096_S3x4096x9x192_0_3_1_2) shapeCasts_S3x4096x9x192_S3x4096x9x6x32)

/-- The first layer's scales, by position, feature and head. -/
def scalesR (z : Vec Ideal S2x3x9x6x4096 .f32) : FVec Ideal S3x4096x9x6 .f32 :=
  (transpose S3x4096x9x6 [0, 3, 1, 2] (shapeCast _ (extractStridedSlice S1x3x9x6x4096 ![0, 0, 0, 0, 0] z slices_S2x3x9x6x4096_S1x3x9x6x4096_0_0_0_0_0) shapeCasts_S1x3x9x6x4096_S3x9x6x4096) transposes_S3x9x6x4096_S3x4096x9x6_0_3_1_2)

/-- The queries, by position, feature and head. -/
def queriesR (q : Vec Ideal S3x9x192x4608 .bf16) : FVec Ideal S3x4608x9x6x32 .bf16 :=
  (shapeCast _ (transpose S3x4608x9x192 [0, 3, 1, 2] q transposes_S3x9x192x4608_S3x4608x9x192_0_3_1_2) shapeCasts_S3x4608x9x192_S3x4608x9x6x32)

/-- The scores of the train rows. -/
def trainScores (q : Vec Ideal S3x9x192x4608 .bf16) (kc : Vec Ideal S2x3x9x192x4096 .i8) (ks : Vec Ideal S2x3x9x6x4096 .f32) : FVec Ideal S3x9x6x1x4096x4096 .f32 :=
  (mulf (mulf (transpose S3x9x6x1x4096x4096 [0, 1, 2, 5, 4, 3] (Host.dotGeneral dot_S3x4096x9x6x32_S3x4096x9x6x1x32_S3x9x6x4096x4096x1_4_5_1_14_023_023 none (truncf .bf16 (sitofp .f32 (extsi 32 (codesR kc) natLt_8_32)) bitsLt_bf16_f32) (broadcastInDim S3x4096x9x6x1x32 ![0, 1, 2, 3, 5] bcast_S3x4096x9x6x32_S3x4096x9x6x1x32_0_1_2_3_5 (extractStridedSlice S3x4096x9x6x32 ![0, 0, 0, 0, 0] (queriesR q) slices_S3x4608x9x6x32_S3x4096x9x6x32_0_0_0_0_0))) transposes_S3x9x6x4096x4096x1_S3x9x6x1x4096x4096_0_1_2_5_4_3) (broadcastInDim S3x9x6x1x4096x4096 ![0, 1, 2, 3, 4, 5] bcast_S3x9x6x1x1x4096_S3x9x6x1x4096x4096_0_1_2_3_4_5 (broadcastInDim S3x9x6x1x1x4096 ![0, 1, 2, 5] bcast_S3x9x6x4096_S3x9x6x1x1x4096_0_1_2_5 (transpose S3x9x6x4096 [0, 2, 3, 1] (scalesR ks) transposes_S3x4096x9x6_S3x9x6x4096_0_2_3_1)))) (broadcastInDim S3x9x6x1x4096x4096 ![] bcast_S_S3x9x6x1x4096x4096 (constant S_ .f32 0x3E8293EE#32)))

/-- The maximum of the train rows' scores over the positions. -/
def trainMax (s : FVec Ideal S3x9x6x1x4096x4096 .f32) : FVec Ideal S3x9x6x1x4096 .f32 :=
  (Host.reduce FloatOps.maximumf s (constant S_ .f32 0xFF800000#32) reducesTo_S3x9x6x1x4096x4096_S3x9x6x1x4096_d5 h_S_)

/-- The sum over the positions. -/
def trainSum (p : FVec Ideal S3x9x6x1x4096x4096 .f32) : FVec Ideal S3x9x6x1x4096 .f32 :=
  (Host.reduceAdd p (constant S_ .f32 0x00000000#32) reducesTo_S3x9x6x1x4096x4096_S3x9x6x1x4096_d5 h_S_)

/-- Two to the scores less the ceiling of their maximum. -/
def trainPow (s : FVec Ideal S3x9x6x1x4096x4096 .f32) (m : FVec Ideal S3x9x6x1x4096 .f32) : FVec Ideal S3x9x6x1x4096x4096 .f32 :=
  (Host.powf (broadcastInDim S3x9x6x1x4096x4096 ![] bcast_S_S3x9x6x1x4096x4096 (constant S_ .f32 0x40000000#32)) (subf s (broadcastInDim S3x9x6x1x4096x4096 ![0, 1, 2, 3, 4, 5] bcast_S3x9x6x1x4096x1_S3x9x6x1x4096x4096_0_1_2_3_4_5 (Host.ceil (broadcastInDim S3x9x6x1x4096x1 ![0, 1, 2, 3, 4] bcast_S3x9x6x1x4096_S3x9x6x1x4096x1_0_1_2_3_4 m)))))

/-- The weighted means of the train rows. -/
def trainOut (p : FVec Ideal S3x9x6x1x4096x4096 .f32) (vc : Vec Ideal S2x3x9x192x4096 .i8) (vs : Vec Ideal S2x3x9x6x4096 .f32) : FVec Ideal S3x4096x9x192 .f32 :=
  (shapeCast _ (Host.divf (transpose S3x4096x9x6x1x32 [0, 5, 1, 2, 4, 3] (Host.dotGeneral dot_S3x4096x9x6x32_S3x9x6x1x4096x4096_S3x9x6x32x1x4096_1_5_4_34_023_012 none (truncf .bf16 (sitofp .f32 (extsi 32 (codesR vc) natLt_8_32)) bitsLt_bf16_f32) (truncf .bf16 (mulf p (broadcastInDim S3x9x6x1x4096x4096 ![0, 1, 2, 3, 4, 5] bcast_S3x9x6x1x1x4096_S3x9x6x1x4096x4096_0_1_2_3_4_5 (broadcastInDim S3x9x6x1x1x4096 ![0, 1, 2, 5] bcast_S3x9x6x4096_S3x9x6x1x1x4096_0_1_2_5 (transpose S3x9x6x4096 [0, 2, 3, 1] (scalesR vs) transposes_S3x4096x9x6_S3x9x6x4096_0_2_3_1)))) bitsLt_bf16_f32)) transposes_S3x9x6x32x1x4096_S3x4096x9x6x1x32_0_5_1_2_4_3) (broadcastInDim S3x4096x9x6x1x32 ![0, 1, 2, 3, 4, 5] bcast_S3x4096x9x6x1x1_S3x4096x9x6x1x32_0_1_2_3_4_5 (broadcastInDim S3x4096x9x6x1x1 ![0, 1, 2, 3, 4] bcast_S3x4096x9x6x1_S3x4096x9x6x1x1_0_1_2_3_4 (transpose S3x4096x9x6x1 [0, 4, 1, 2, 3] (trainSum p) transposes_S3x9x6x1x4096_S3x4096x9x6x1_0_4_1_2_3)))) shapeCasts_S3x4096x9x6x1x32_S3x4096x9x192)

/-- The scores of the test rows. -/
def testScores (q : Vec Ideal S3x9x192x4608 .bf16) (kc : Vec Ideal S2x3x9x192x4096 .i8) (ks : Vec Ideal S2x3x9x6x4096 .f32) : FVec Ideal S3x9x1x6x512x4096 .f32 :=
  (mulf (mulf (transpose S3x9x1x6x512x4096 [0, 1, 2, 5, 4, 3] (Host.dotGeneral dot_S3x4096x9x1x32_S3x512x9x1x6x32_S3x9x1x4096x512x6_4_5_1_14_023_023 none (truncf .bf16 (sitofp .f32 (extsi 32 (extractStridedSlice S3x4096x9x1x32 ![0, 0, 0, 0, 0] (codesR kc) slices_S3x4096x9x6x32_S3x4096x9x1x32_0_0_0_0_0) natLt_8_32)) bitsLt_bf16_f32) (broadcastInDim S3x512x9x1x6x32 ![0, 1, 2, 4, 5] bcast_S3x512x9x6x32_S3x512x9x1x6x32_0_1_2_4_5 (extractStridedSlice S3x512x9x6x32 ![0, 4096, 0, 0, 0] (queriesR q) slices_S3x4608x9x6x32_S3x512x9x6x32_0_4096_0_0_0))) transposes_S3x9x1x4096x512x6_S3x9x1x6x512x4096_0_1_2_5_4_3) (broadcastInDim S3x9x1x6x512x4096 ![0, 1, 2, 3, 4, 5] bcast_S3x9x1x1x1x4096_S3x9x1x6x512x4096_0_1_2_3_4_5 (broadcastInDim S3x9x1x1x1x4096 ![0, 1, 2, 5] bcast_S3x9x1x4096_S3x9x1x1x1x4096_0_1_2_5 (transpose S3x9x1x4096 [0, 2, 3, 1] (extractStridedSlice S3x4096x9x1 ![0, 0, 0, 0] (scalesR ks) slices_S3x4096x9x6_S3x4096x9x1_0_0_0_0) transposes_S3x4096x9x1_S3x9x1x4096_0_2_3_1)))) (broadcastInDim S3x9x1x6x512x4096 ![] bcast_S_S3x9x1x6x512x4096 (constant S_ .f32 0x3E8293EE#32)))

/-- The maximum of the test rows' scores over the positions. -/
def testMax (s : FVec Ideal S3x9x1x6x512x4096 .f32) : FVec Ideal S3x9x1x6x512 .f32 :=
  (Host.reduce FloatOps.maximumf s (constant S_ .f32 0xFF800000#32) reducesTo_S3x9x1x6x512x4096_S3x9x1x6x512_d5 h_S_)

/-- The sum over the positions. -/
def testSum (p : FVec Ideal S3x9x1x6x512x4096 .f32) : FVec Ideal S3x9x1x6x512 .f32 :=
  (Host.reduceAdd p (constant S_ .f32 0x00000000#32) reducesTo_S3x9x1x6x512x4096_S3x9x1x6x512_d5 h_S_)

/-- Two to the scores less the ceiling of their maximum. -/
def testPow (s : FVec Ideal S3x9x1x6x512x4096 .f32) (m : FVec Ideal S3x9x1x6x512 .f32) : FVec Ideal S3x9x1x6x512x4096 .f32 :=
  (Host.powf (broadcastInDim S3x9x1x6x512x4096 ![] bcast_S_S3x9x1x6x512x4096 (constant S_ .f32 0x40000000#32)) (subf s (broadcastInDim S3x9x1x6x512x4096 ![0, 1, 2, 3, 4, 5] bcast_S3x9x1x6x512x1_S3x9x1x6x512x4096_0_1_2_3_4_5 (Host.ceil (broadcastInDim S3x9x1x6x512x1 ![0, 1, 2, 3, 4] bcast_S3x9x1x6x512_S3x9x1x6x512x1_0_1_2_3_4 m)))))

/-- The weighted means of the test rows. -/
def testOut (p : FVec Ideal S3x9x1x6x512x4096 .f32) (vc : Vec Ideal S2x3x9x192x4096 .i8) (vs : Vec Ideal S2x3x9x6x4096 .f32) : FVec Ideal S3x512x9x192 .f32 :=
  (shapeCast _ (Host.divf (transpose S3x512x9x1x6x32 [0, 5, 1, 2, 4, 3] (Host.dotGeneral dot_S3x4096x9x1x32_S3x9x1x6x512x4096_S3x9x1x32x6x512_1_5_4_34_023_012 none (truncf .bf16 (sitofp .f32 (extsi 32 (extractStridedSlice S3x4096x9x1x32 ![0, 0, 0, 0, 0] (codesR vc) slices_S3x4096x9x6x32_S3x4096x9x1x32_0_0_0_0_0) natLt_8_32)) bitsLt_bf16_f32) (truncf .bf16 (mulf p (broadcastInDim S3x9x1x6x512x4096 ![0, 1, 2, 3, 4, 5] bcast_S3x9x1x1x1x4096_S3x9x1x6x512x4096_0_1_2_3_4_5 (broadcastInDim S3x9x1x1x1x4096 ![0, 1, 2, 5] bcast_S3x9x1x4096_S3x9x1x1x1x4096_0_1_2_5 (transpose S3x9x1x4096 [0, 2, 3, 1] (extractStridedSlice S3x4096x9x1 ![0, 0, 0, 0] (scalesR vs) slices_S3x4096x9x6_S3x4096x9x1_0_0_0_0) transposes_S3x4096x9x1_S3x9x1x4096_0_2_3_1)))) bitsLt_bf16_f32)) transposes_S3x9x1x32x6x512_S3x512x9x1x6x32_0_5_1_2_4_3) (broadcastInDim S3x512x9x1x6x32 ![0, 1, 2, 3, 4, 5] bcast_S3x512x9x1x6x1_S3x512x9x1x6x32_0_1_2_3_4_5 (broadcastInDim S3x512x9x1x6x1 ![0, 1, 2, 3, 4] bcast_S3x512x9x1x6_S3x512x9x1x6x1_0_1_2_3_4 (transpose S3x512x9x1x6 [0, 4, 1, 2, 3] (testSum p) transposes_S3x9x1x6x512_S3x512x9x1x6_0_4_1_2_3)))) shapeCasts_S3x512x9x1x6x32_S3x512x9x192)

/-- The two parts put together and quantised. -/
def quantR (a : Vec Ideal S2x6 .f32) (x : FVec Ideal S3x4096x9x192 .f32) (y : FVec Ideal S3x512x9x192 .f32) : IVec S3x9x192x4608 8 :=
  trunci 8 (fptosi 32 (transpose S3x9x192x4608 [0, 2, 3, 1] (minimumf (broadcastInDim S3x4608x9x192 ![] bcast_S_S3x4608x9x192 (id (constant S_ .f32 0x42FE0000#32))) (maximumf (broadcastInDim S3x4608x9x192 ![] bcast_S_S3x4608x9x192 (id (constant S_ .f32 0xC2FE0000#32))) (Host.roundeven (Host.divf (concatenate S3x4608x9x192 1 [⟨S3x4096x9x192, x⟩, ⟨S3x512x9x192, y⟩] concatenates_S3x4096x9x192_S3x512x9x192_S3x4608x9x192_d1) (broadcastInDim S3x4608x9x192 ![] bcast_S_S3x4608x9x192 (shapeCast _ (extractStridedSlice S1x1 ![0, 3] a slices_S2x6_S1x1_0_3) shapeCasts_S1x1_S_)))))) transposes_S3x4608x9x192_S3x9x192x4608_0_2_3_1)) natLt_8_32

/-- The reference's result is these steps. -/
theorem result_steps (m : (ℓ : Loc nD τ sig) → Buf (Elt Ideal) ℓ) (c : Dev nD) :
    Value.res_out0 m c = quantR (m ((c : Thread nD τ).loc main_arg0))
      (trainOut (trainPow (trainScores (m ((c : Thread nD τ).loc main_arg1)) (m ((c : Thread nD τ).loc main_arg2)) (m ((c : Thread nD τ).loc main_arg3))) (trainMax (trainScores (m ((c : Thread nD τ).loc main_arg1)) (m ((c : Thread nD τ).loc main_arg2)) (m ((c : Thread nD τ).loc main_arg3)))))
        (m ((c : Thread nD τ).loc main_arg4)) (m ((c : Thread nD τ).loc main_arg5)))
      (testOut (testPow (testScores (m ((c : Thread nD τ).loc main_arg1)) (m ((c : Thread nD τ).loc main_arg2)) (m ((c : Thread nD τ).loc main_arg3))) (testMax (testScores (m ((c : Thread nD τ).loc main_arg1)) (m ((c : Thread nD τ).loc main_arg2)) (m ((c : Thread nD τ).loc main_arg3)))))
        (m ((c : Thread nD τ).loc main_arg4)) (m ((c : Thread nD τ).loc main_arg5))) := rfl

end Cert.RowRefIdeal.Hand

end
-- ==== Proof.RefScore.lean ====
module

public import proofs.«01_k».proof.Proof.RefSteps

@[expose] public section

set_option maxRecDepth 16384

noncomputable section

/-!
The reference's scores at a place.
-/

namespace Cert.RowRefIdeal.Hand

open Cert.RowRefIdeal Cert.RowRefIdeal.Gen Cert.Attention
open Idealize.ShloMosaic Idealize.ShloMosaic.TcCoe
open Idealize.ShloMosaic (ix2 ix3 ix4 ix5 ix6)

variable (q : Vec Ideal S3x9x192x4608 .bf16) (kc vc : Vec Ideal S2x3x9x192x4096 .i8) (ks vs : Vec Ideal S2x3x9x6x4096 .f32)

/-- Sign extension keeps the number. -/
theorem extended (x : BitVec 8) : FloatOps.sitofp (F := Ideal) .f32 (BitVec.signExtend 32 x) = FloatOps.sitofp (F := Ideal) .f32 x := by
  show (((BitVec.signExtend 32 x).toInt : ℝ) : EReal) = ((x.toInt : ℝ) : EReal)
  rw [BitVec.toInt_signExtend_of_le (by decide)]

theorem sitofp_bf16 (x : BitVec 8) : FloatOps.sitofp (F := Ideal) .bf16 x = FloatOps.sitofp (F := Ideal) .f32 x := rfl

theorem codesR_apply (z : Vec Ideal S2x3x9x192x4096 .i8) (b : Fin 3) (t : Fin 4096) (f : Fin 9) (n : Fin 6) (e : Fin 32) :
    codesR z (ix5 b t f n e) = z (ix5 0 b f ⟨32 * n.val + e.val, by omega⟩ t) := by
  pointwise [codesR]
  exact congrArg z (congrArg (fun d => ix5 0 b f d t) (Fin.ext (by simp only []; omega)))

theorem scalesR_apply (z : Vec Ideal S2x3x9x6x4096 .f32) (b : Fin 3) (t : Fin 4096) (f : Fin 9) (n : Fin 6) :
    scalesR z (ix4 b t f n) = z (ix5 0 b f n t) := by
  pointwise [scalesR]

theorem queriesR_apply (b : Fin 3) (l : Fin 4608) (f : Fin 9) (n : Fin 6) (e : Fin 32) :
    queriesR q (ix5 b l f n e) = q (ix4 b f ⟨32 * n.val + e.val, by omega⟩ l) := by
  pointwise [queriesR]
  exact congrArg q (congrArg (fun d => ix4 b f d l) (Fin.ext (by simp only []; omega)))

/-- The reference's score of the query of head `n` at lane `l` against position `t` of key head `h`. -/
def refScore (b : Fin 3) (f : Fin 9) (n h : Fin 6) (l : Fin 4608) (t : Fin 4096) : EReal :=
  (∑ e : Fin 32, FloatOps.sitofp (F := Ideal) .bf16 (kc (ix5 0 b f ⟨32 * h.val + e.val, by omega⟩ t)) * q (ix4 b f ⟨32 * n.val + e.val, by omega⟩ l))
    * ks (ix5 0 b f h t) * Ideal.ofBits .f32 1048744942#32

theorem trainScores_apply (b : Fin 3) (f : Fin 9) (n : Fin 6) (l : Fin 4096) (t : Fin 4096) :
    trainScores q kc ks (ix6 b f n 0 l t) = refScore q kc ks b f n n ⟨l.val, by omega⟩ t := by
  unfold refScore
  simp only [← codesR_apply, ← queriesR_apply, ← scalesR_apply]
  pointwise [trainScores]
  simp only [extended, sitofp_bf16]

theorem testScores_apply (b : Fin 3) (f : Fin 9) (n : Fin 6) (l : Fin 512) (t : Fin 4096) :
    testScores q kc ks (ix6 b f 0 n l t) = refScore q kc ks b f n 0 ⟨4096 + l.val, by omega⟩ t := by
  unfold refScore
  simp only [← codesR_apply, ← queriesR_apply, ← scalesR_apply]
  pointwise [testScores]
  simp only [extended, sitofp_bf16]

end Cert.RowRefIdeal.Hand

end
-- ==== Proof.RefPow.lean ====
module

public import proofs.«01_k».proof.Proof.RefScore

@[expose] public section

set_option maxRecDepth 16384

noncomputable section

/-!
The reference's powers of two, and the maximum and the sum over the positions.
-/

namespace Cert.RowRefIdeal.Hand

open Cert.RowRefIdeal Cert.RowRefIdeal.Gen Cert.Attention
open Idealize.ShloMosaic Idealize.ShloMosaic.TcCoe
open Idealize.ShloMosaic (ix2 ix3 ix4 ix5 ix6)

variable (q : Vec Ideal S3x9x192x4608 .bf16) (kc vc : Vec Ideal S2x3x9x192x4096 .i8) (ks vs : Vec Ideal S2x3x9x6x4096 .f32)

theorem trainPow_apply (s : FVec Ideal S3x9x6x1x4096x4096 .f32) (m : FVec Ideal S3x9x6x1x4096 .f32) (b : Fin 3) (f : Fin 9) (n : Fin 6) (l : Fin 4096) (t : Fin 4096) :
    trainPow s m (ix6 b f n 0 l t) = Ideal.pow (Ideal.ofBits .f32 1073741824#32) (s (ix6 b f n 0 l t) - Ideal.liftRound Int.ceil (m (ix5 b f n 0 l))) := by
  pointwise [trainPow]

theorem trainRed : Shape.Reduces S3x9x6x1x4096x4096 [5] S3x9x6x1x4096 := by decide

theorem train_lift (b : Fin 3) (f : Fin 9) (n : Fin 6) (l : Fin 4096) (t : Fin 4096) :
    trainRed.lift (ix5 b f n 0 l) t = (ix6 b f n 0 l t) := by
  funext a
  apply Fin.ext
  fin_cases a <;> rfl

theorem trainSum_apply (p : FVec Ideal S3x9x6x1x4096x4096 .f32) (b : Fin 3) (f : Fin 9) (n : Fin 6) (l : Fin 4096) :
    trainSum p (ix5 b f n 0 l) = ∑ t : Fin 4096, p (ix6 b f n 0 l t) := by
  refine (Ideal.hostReduceAdd_single _ trainRed p _ _).trans ?_
  rw [show (constant (F := Ideal) S_ .f32 0x00000000#32 : FVec Ideal S_ .f32) (Shape.Idx.first h_S_) = 0 from Ideal.ofBits_zero_f32, zero_add]
  exact Finset.sum_congr rfl fun t _ => congrArg p (train_lift b f n l t)

theorem trainMax_isFin (s : FVec Ideal S3x9x6x1x4096x4096 .f32) (b : Fin 3) (f : Fin 9) (n : Fin 6) (l : Fin 4096)
    (hs : ∀ t : Fin 4096, IsFin (s (ix6 b f n 0 l t))) : IsFin (trainMax s (ix5 b f n 0 l)) := by
  unfold trainMax
  rw [Host.reduce_eq_fold_single _ s _ _ trainRed,
    show (constant (F := Ideal) S_ .f32 0xFF800000#32 : FVec Ideal S_ .f32) (Shape.Idx.first h_S_) = ⊥ from bits_neg_inf]
  refine (IsFin.fold_max (s ∘ trainRed.lift (ix5 b f n 0 l)) Finset.univ fun t => ?_).resolve_left ?_
  · exact (congrArg (fun i => IsFin (s i)) (train_lift b f n l t)).mpr (hs t)
  · exact Finset.ne_empty_of_mem (Finset.mem_univ (0 : Fin 4096))

theorem testPow_apply (s : FVec Ideal S3x9x1x6x512x4096 .f32) (m : FVec Ideal S3x9x1x6x512 .f32) (b : Fin 3) (f : Fin 9) (n : Fin 6) (l : Fin 512) (t : Fin 4096) :
    testPow s m (ix6 b f 0 n l t) = Ideal.pow (Ideal.ofBits .f32 1073741824#32) (s (ix6 b f 0 n l t) - Ideal.liftRound Int.ceil (m (ix5 b f 0 n l))) := by
  pointwise [testPow]

theorem testRed : Shape.Reduces S3x9x1x6x512x4096 [5] S3x9x1x6x512 := by decide

theorem test_lift (b : Fin 3) (f : Fin 9) (n : Fin 6) (l : Fin 512) (t : Fin 4096) :
    testRed.lift (ix5 b f 0 n l) t = (ix6 b f 0 n l t) := by
  funext a
  apply Fin.ext
  fin_cases a <;> rfl

theorem testSum_apply (p : FVec Ideal S3x9x1x6x512x4096 .f32) (b : Fin 3) (f : Fin 9) (n : Fin 6) (l : Fin 512) :
    testSum p (ix5 b f 0 n l) = ∑ t : Fin 4096, p (ix6 b f 0 n l t) := by
  refine (Ideal.hostReduceAdd_single _ testRed p _ _).trans ?_
  rw [show (constant (F := Ideal) S_ .f32 0x00000000#32 : FVec Ideal S_ .f32) (Shape.Idx.first h_S_) = 0 from Ideal.ofBits_zero_f32, zero_add]
  exact Finset.sum_congr rfl fun t _ => congrArg p (test_lift b f n l t)

theorem testMax_isFin (s : FVec Ideal S3x9x1x6x512x4096 .f32) (b : Fin 3) (f : Fin 9) (n : Fin 6) (l : Fin 512)
    (hs : ∀ t : Fin 4096, IsFin (s (ix6 b f 0 n l t))) : IsFin (testMax s (ix5 b f 0 n l)) := by
  unfold testMax
  rw [Host.reduce_eq_fold_single _ s _ _ testRed,
    show (constant (F := Ideal) S_ .f32 0xFF800000#32 : FVec Ideal S_ .f32) (Shape.Idx.first h_S_) = ⊥ from bits_neg_inf]
  refine (IsFin.fold_max (s ∘ testRed.lift (ix5 b f 0 n l)) Finset.univ fun t => ?_).resolve_left ?_
  · exact (congrArg (fun i => IsFin (s i)) (test_lift b f n l t)).mpr (hs t)
  · exact Finset.ne_empty_of_mem (Finset.mem_univ (0 : Fin 4096))

end Cert.RowRefIdeal.Hand

end
-- ==== Proof.RefOut.lean ====
module

public import proofs.«01_k».proof.Proof.RefPow

@[expose] public section

set_option maxRecDepth 16384

noncomputable section

/-!
The reference's weighted means and its result at a place.
-/

namespace Cert.RowRefIdeal.Hand

open Cert.RowRefIdeal Cert.RowRefIdeal.Gen Cert.Attention
open Idealize.ShloMosaic Idealize.ShloMosaic.TcCoe
open Idealize.ShloMosaic (ix2 ix3 ix4 ix5 ix6)

variable (q : Vec Ideal S3x9x192x4608 .bf16) (kc vc : Vec Ideal S2x3x9x192x4096 .i8) (ks vs : Vec Ideal S2x3x9x6x4096 .f32)

theorem trainOut_apply (p : FVec Ideal S3x9x6x1x4096x4096 .f32) (b : Fin 3) (f : Fin 9) (n : Fin 6) (e : Fin 32) (l : Fin 4096) :
    trainOut p vc vs (ix4 b l f ⟨n.val * 32 + e.val, by omega⟩)
      = Ideal.div (∑ t : Fin 4096, FloatOps.sitofp (F := Ideal) .bf16 (vc (ix5 0 b f ⟨32 * (n : Fin 6).val + e.val, by omega⟩ t)) * (p (ix6 b f n 0 l t) * vs (ix5 0 b f n t)))
        (∑ t : Fin 4096, p (ix6 b f n 0 l t)) := by
  simp only [← codesR_apply, ← scalesR_apply, ← trainSum_apply]
  pointwise [trainOut]
  simp only [extended, sitofp_bf16]

theorem testOut_apply (p : FVec Ideal S3x9x1x6x512x4096 .f32) (b : Fin 3) (f : Fin 9) (n : Fin 6) (e : Fin 32) (l : Fin 512) :
    testOut p vc vs (ix4 b l f ⟨n.val * 32 + e.val, by omega⟩)
      = Ideal.div (∑ t : Fin 4096, FloatOps.sitofp (F := Ideal) .bf16 (vc (ix5 0 b f ⟨32 * (0 : Fin 6).val + e.val, by omega⟩ t)) * (p (ix6 b f 0 n l t) * vs (ix5 0 b f 0 t)))
        (∑ t : Fin 4096, p (ix6 b f 0 n l t)) := by
  simp only [← codesR_apply, ← scalesR_apply, ← testSum_apply]
  pointwise [testOut]
  simp only [extended, sitofp_bf16]

theorem quantR_apply (a : Vec Ideal S2x6 .f32) (x : FVec Ideal S3x4096x9x192 .f32) (y : FVec Ideal S3x512x9x192 .f32) (b : Fin 3) (f : Fin 9) (d : Fin 192) (l : Fin 4608) :
    quantR a x y (ix4 b f d l) = codeOf (a (ix2 0 3)) (if h : l.val < 4096 then x (ix4 b ⟨l.val, h⟩ f d) else y (ix4 b ⟨l.val - 4096, by omega⟩ f d)) := by
  unfold codeOf
  refine Eq.trans ?_ (byte_of_word _)
  pointwise [quantR]
  rfl

end Cert.RowRefIdeal.Hand

end
-- ==== Proof.RefSoft.lean ====
module

public import proofs.«01_k».proof.Proof.RefOut

@[expose] public section

set_option maxRecDepth 16384

noncomputable section

/-!
The reference's result at a place, as one weighted mean of the value codes.

The reference takes the ceiling of the maximum from the scores. Where the scores are finite that is one
finite number for the whole row, which the quotient does not see.
-/

namespace Cert.RowRefIdeal.Hand

open Cert.RowRefIdeal Cert.RowRefIdeal.Gen Cert.Attention
open Idealize.ShloMosaic Idealize.ShloMosaic.TcCoe
open Idealize.ShloMosaic (ix2 ix3 ix4 ix5 ix6)

variable (q : Vec Ideal S3x9x192x4608 .bf16) (kc vc : Vec Ideal S2x3x9x192x4096 .i8) (ks vs : Vec Ideal S2x3x9x6x4096 .f32)

/-- A power of two at a difference of finite numbers. -/
theorem pow_two {x y : EReal} (hx : IsFin x) (hy : IsFin y) :
    Ideal.pow (Ideal.ofBits .f32 1073741824#32) (x - y) = Ideal.exp2 (x + -y) := by
  obtain ⟨x, rfl⟩ := hx
  obtain ⟨y, rfl⟩ := hy
  rw [bits_two, ← EReal.coe_sub, ← EReal.coe_neg, ← EReal.coe_add, ← sub_eq_add_neg]
  rfl

/-- The quotient with the powers taken at the scores less a finite `m`. -/
theorem soft_pow (a : EReal) (s w v : Fin 4096 → EReal) (m : EReal) (hs : ∀ t, IsFin (s t)) (hm : IsFin m) :
    codeOf a (Ideal.div (∑ t, v t * (Ideal.pow (Ideal.ofBits .f32 1073741824#32) (s t - m) * w t))
      (∑ t, Ideal.pow (Ideal.ofBits .f32 1073741824#32) (s t - m))) = soft a s w v := by
  have hn : IsFin (-m) := by
    obtain ⟨r, rfl⟩ := hm
    exact ⟨-r, (EReal.coe_neg r).symm⟩
  rw [← soft_shift (by decide) a s w v (-m) hs hn]
  unfold soft
  simp only [pow_two (hs _) hm]

/-- The reference's code at dimension `e` of the query of head `n` at lane `l`, whose keys are head `h`'s. -/
def refCode (a3 : EReal) (b : Fin 3) (f : Fin 9) (n h : Fin 6) (e : Fin 32) (l : Fin 4608) : BitVec 8 :=
  soft a3 (refScore q kc ks b f n h l) (fun t => vs (ix5 0 b f h t))
    fun t => FloatOps.sitofp (F := Ideal) .bf16 (vc (ix5 0 b f ⟨32 * h.val + e.val, by omega⟩ t))

variable (hq : ∀ i, IsFin (q i)) (hk : ∀ b f n t, IsFin (ks (ix5 0 b f n t)))

include hq hk in
theorem refScore_isFin (b : Fin 3) (f : Fin 9) (n h : Fin 6) (l : Fin 4608) (t : Fin 4096) : IsFin (refScore q kc ks b f n h l t) := by
  refine IsFin.mul (IsFin.mul (IsFin.sum _ _ fun e => IsFin.mul (word_isFin _) ?_) ?_) scale_isFin
  · exact hq _
  · exact hk _ _ _ _

include hq hk in
theorem train_code (a3 : EReal) (b : Fin 3) (f : Fin 9) (n : Fin 6) (e : Fin 32) (l : Fin 4096) :
    codeOf a3 (trainOut (trainPow (trainScores q kc ks) (trainMax (trainScores q kc ks))) vc vs (ix4 b l f ⟨n.val * 32 + e.val, by omega⟩))
      = refCode q kc vc ks vs a3 b f n n e ⟨l.val, by omega⟩ := by
  have hm : IsFin (trainMax (trainScores q kc ks) (ix5 b f n 0 l)) := trainMax_isFin _ b f n l fun t => by
    rw [trainScores_apply]
    exact refScore_isFin q kc ks hq hk _ _ _ _ _ _
  rw [trainOut_apply]
  simp only [trainPow_apply, trainScores_apply]
  exact soft_pow a3 _ _ _ _ (fun t => refScore_isFin q kc ks hq hk _ _ _ _ _ _) (hm.liftRound _)

include hq hk in
theorem test_code (a3 : EReal) (b : Fin 3) (f : Fin 9) (n : Fin 6) (e : Fin 32) (l : Fin 512) :
    codeOf a3 (testOut (testPow (testScores q kc ks) (testMax (testScores q kc ks))) vc vs (ix4 b l f ⟨n.val * 32 + e.val, by omega⟩))
      = refCode q kc vc ks vs a3 b f n 0 e ⟨4096 + l.val, by omega⟩ := by
  have hm : IsFin (testMax (testScores q kc ks) (ix5 b f 0 n l)) := testMax_isFin _ b f n l fun t => by
    rw [testScores_apply]
    exact refScore_isFin q kc ks hq hk _ _ _ _ _ _
  rw [testOut_apply]
  simp only [testPow_apply, testScores_apply]
  exact soft_pow a3 _ _ _ _ (fun t => refScore_isFin q kc ks hq hk _ _ _ _ _ _) (hm.liftRound _)

end Cert.RowRefIdeal.Hand

end
-- ==== Proof.RowEq.lean ====
module

public import proofs.«01_k».proof.Proof.RowArray
public import proofs.«01_k».proof.Proof.RefSoft

@[expose] public section

set_option maxRecDepth 16384

noncomputable section

/-!
The reference's array is the kernel's, for finite queries and finite key scales.

The kernel multiplies the key codes by their scale and by the constant before the product with the query; the
reference multiplies the product by the two afterwards. With finite factors the sums agree.
-/

namespace Cert.Attention

open Cert.RowRefIdeal.Hand
open Idealize.ShloMosaic Idealize.ShloMosaic.TcCoe
open Idealize.ShloMosaic (ix2 ix3 ix4 ix5 ix6)

/-- A factor common to the terms of a sum of finite numbers. -/
theorem sum_factor {ι : Type*} [Fintype ι] (k y : ι → EReal) (w c : EReal) (hk : ∀ i, IsFin (k i)) (hy : ∀ i, IsFin (y i))
    (hw : IsFin w) (hc : IsFin c) : ∑ i, k i * (w * c) * y i = (∑ i, k i * y i) * w * c := by
  obtain ⟨w, rfl⟩ := hw
  obtain ⟨c, rfl⟩ := hc
  choose k' hk using hk
  choose y' hy using hy
  simp only [hk, hy, ← EReal.coe_mul, ← coe_sum]
  congr 1
  rw [Finset.sum_mul, Finset.sum_mul]
  exact Finset.sum_congr rfl fun i _ => by ring

variable (a : Vec Ideal Cert.RowIdeal.S2x6 .f32) (q : Vec Ideal Cert.RowIdeal.S3x9x192x4608 .bf16) (kc vc : Vec Ideal Cert.RowIdeal.S2x3x9x192x4096 .i8)
  (ks vs : Vec Ideal Cert.RowIdeal.S2x3x9x6x4096 .f32)
variable (hq : ∀ i, IsFin (q i)) (hk : ∀ b f n t, IsFin (ks (ix5 0 b f n t)))

theorem codes_at (b : Fin 3) (f : Fin 9) (d : Fin 192) (l : Fin 4608) :
    Cert.RowIdeal.Hand.codes a q kc ks vc vs (ix4 b f d l)
      = Cert.RowIdeal.Hand.codeAt (a (ix2 0 3)) (fun y => q (ix4 b f (y 2) (y 3))) (fun y => kc (ix5 0 b f (y 3) (y 4)))
          (fun y => ks (ix5 0 b f (y 3) (y 4))) (fun y => vc (ix5 0 b f (y 3) (y 4))) (fun y => vs (ix5 0 b f (y 3) (y 4)))
          ⟨d.val / 32, by omega⟩ ⟨d.val % 32, by omega⟩ l := rfl

include hq hk in
/-- The kernel's code is the reference's. -/
theorem codes_eq (b : Fin 3) (f : Fin 9) (n : Fin 6) (e : Fin 32) (l : Fin 4608) :
    Cert.RowIdeal.Hand.codes a q kc ks vc vs (ix4 b f ⟨n.val * 32 + e.val, by omega⟩ l)
      = refCode q kc vc ks vs (a (ix2 0 3)) b f n (Cert.RowIdeal.Hand.headOf n l) e l := by
  have hn : (⟨(n.val * 32 + e.val) / 32, by omega⟩ : Fin 6) = n := Fin.ext (by simp only []; omega)
  have he : (⟨(n.val * 32 + e.val) % 32, by omega⟩ : Fin 32) = e := Fin.ext (by simp only []; omega)
  unfold refCode
  have hs : refScore q kc ks b f n (Cert.RowIdeal.Hand.headOf n l) l
      = fun t => ∑ e : Fin 32, FloatOps.sitofp (F := Ideal) .bf16 (kc (ix5 0 b f ⟨32 * (Cert.RowIdeal.Hand.headOf n l).val + e.val, by omega⟩ t))
          * (ks (ix5 0 b f (Cert.RowIdeal.Hand.headOf n l) t) * Ideal.ofBits .f32 1048744942#32) * q (ix4 b f ⟨32 * n.val + e.val, by omega⟩ l) :=
    funext fun t => (sum_factor _ _ _ _ (fun _ => word_isFin _) (fun _ => hq _) (hk _ _ _ _) scale_isFin).symm
  rw [hs]
  rw [codes_at, hn, he]
  rfl

include hq hk in
/-- The reference's array is the kernel's. -/
theorem reference_eq : quantR a (trainOut (trainPow (trainScores q kc ks) (trainMax (trainScores q kc ks))) vc vs)
      (testOut (testPow (testScores q kc ks) (testMax (testScores q kc ks))) vc vs)
    = Cert.RowIdeal.Hand.codes a q kc ks vc vs := by
  funext i
  obtain ⟨b, f, d, l, rfl⟩ : ∃ (b : Fin 3) (f : Fin 9) (d : Fin 192) (l : Fin 4608), i = ix4 b f d l :=
    ⟨i 0, i 1, i 2, i 3, by funext x; fin_cases x <;> rfl⟩
  obtain ⟨n, e, rfl⟩ : ∃ (n : Fin 6) (e : Fin 32), d = ⟨n.val * 32 + e.val, by omega⟩ :=
    ⟨⟨d.val / 32, by omega⟩, ⟨d.val % 32, by omega⟩, Fin.ext (by simp only []; omega)⟩
  rw [quantR_apply, codes_eq a q kc vc ks vs hq hk]
  unfold Cert.RowIdeal.Hand.headOf
  by_cases h : l.val < 4096
  · rw [dif_pos h, if_pos h]
    exact train_code q kc vc ks vs hq hk _ b f n e ⟨l.val, h⟩
  · rw [dif_neg h, if_neg h, test_code q kc vc ks vs hq hk _ b f n e]
    exact congrArg (refCode q kc vc ks vs (a (ix2 0 3)) b f n 0 e) (Fin.ext (by show 4096 + (l.val - 4096) = l.val; omega))

end Cert.Attention

end
-- ==== Proof.RowPre.lean ====
module

public import proofs.«01_k».proof.Defs
public import proofs.«01_k».proof.Proof.RowEq
public import Idealize.ShloMosaic.Lib.Pointwise
public import Idealize.ShloMosaic.Lib.IdealHost

@[expose] public section

set_option maxRecDepth 16384

noncomputable section

/-!
What the precondition says: the queries and the first layer's key scales are finite numbers.
-/

namespace Cert.Attention

open Idealize.ShloMosaic Idealize.ShloMosaic.TcCoe
open Idealize.ShloMosaic (ix2 ix3 ix4 ix5 ix6)

/-- An element whose magnitude is below infinity is a finite number. -/
theorem isFin_of_below (x : EReal) (h : Ideal.cmp .olt (max x (-x)) (Ideal.ofBits .f32 2139095040#32) = 1#1) : IsFin x := by
  rw [bits_inf] at h
  induction x with
  | bot => simp [Ideal.cmp] at h
  | top => simp [Ideal.cmp] at h
  | coe r => exact ⟨r, rfl⟩

variable (a : Vec Ideal Cert.RowIdeal.S2x6 .f32) (q : Vec Ideal Cert.RowIdeal.S3x9x192x4608 .bf16) (kc vc : Vec Ideal Cert.RowIdeal.S2x3x9x192x4096 .i8)
  (ks vs : Vec Ideal Cert.RowIdeal.S2x3x9x6x4096 .f32) [Cert.Pre_finite_inputs.Facts]

theorem queries_finite (h : (Cert.Pre_finite_inputs.fn (F := Ideal) a q kc ks vc vs).1 = fun _ => 1#1) (i : Cert.RowIdeal.S3x9x192x4608.Idx) : IsFin (q i) :=
  isFin_of_below _ (congrFun h i)

theorem scales_finite (h : (Cert.Pre_finite_inputs.fn (F := Ideal) a q kc ks vc vs).2 = fun _ => 1#1) (b : Fin 3) (f : Fin 9) (n : Fin 6) (t : Fin 4096) :
    IsFin (ks (ix5 0 b f n t)) := by
  have e := congrFun h (ix4 b f n t)
  dsimp only [Cert.Pre_finite_inputs.fn] at e
  refine isFin_of_below _ (Eq.trans ?_ e)
  symm
  pointwise
  rfl

/-- The precondition of the kernel's arguments gives what its run is described under. -/
theorem finite_of_pre (m : (ℓ : Loc Cert.RowIdeal.nD Cert.RowIdeal.τ Cert.RowIdeal.sig) → Buf (Elt Ideal) ℓ)
    (h : Cert.Pre_RowIdeal_finite_inputs m) (c : Dev Cert.RowIdeal.nD) : Cert.RowIdeal.Hand.Finite m c :=
  ⟨queries_finite _ _ _ _ _ _ (h c).1, scales_finite _ _ _ _ _ _ (h c).2⟩

end Cert.Attention

end
-- ==== Proof.MlpMath.lean ====
module

public import proofs.«01_k».proof.Proof.RowMath

@[expose] public section

set_option maxRecDepth 16384

noncomputable section

/-!
One column through the second half of a layer, over the extended reals: the output projection of the
attention with its residual and layer norm, the codes, the hidden layer with its codes, and the second
projection with its residual and layer norm.
-/

namespace Cert.Column

open Idealize.ShloMosaic Cert.Attention
open Idealize.ShloMosaic (ix1 ix2 ix3 ix4 ix5)

/-- The mean of 192 numbers. -/
def mean (x : Fin 192 → EReal) : EReal := Ideal.div (∑ d, x d) (Ideal.ofBits .f32 1128267776#32)

/-- The numbers less their mean. -/
def centred (x : Fin 192 → EReal) (d : Fin 192) : EReal := x d - mean x

/-- The root of the variance, moved up by a small constant. -/
def spread (x : Fin 192 → EReal) : EReal :=
  Ideal.sqrt (mean (fun d => centred x d * centred x d) + Ideal.ofBits .f32 925353388#32)

/-- The layer norm: the centred numbers times the reciprocal of the spread. -/
def layerNorm (x : Fin 192 → EReal) (d : Fin 192) : EReal := centred x d * Ideal.div 1 (spread x)

/-- The code of `x` at the scale `a`, still a number. -/
def quant (a x : EReal) : EReal :=
  min (Ideal.ofBits .f32 1123942400#32) (max (Ideal.ofBits .f32 3271426048#32) (Ideal.liftRound Ideal.roundHalfEven (Ideal.div x a)))

/-- The error-function form of gelu. -/
def gelu (u : EReal) : EReal :=
  Ideal.ofBits .f32 1056964608#32 * u * (1 + FloatOps.erf (F := Ideal) (φ := .f32) (Ideal.div u (Ideal.ofBits .f32 1068827891#32)))

/-- A linear layer on codes: every output's sum times its scale. -/
def lin {n k : ℕ} (w : Fin n → Fin k → EReal) (s : Fin n → EReal) (x : Fin k → EReal) (o : Fin n) : EReal :=
  (∑ i, w o i * x i) * s o

/-- What the second half of a layer takes beside its column: the two static scales, and of every linear
layer the weights' codes and the scales of the outputs. -/
structure Layer where
  a4 : EReal
  a5 : EReal
  wo : Fin 192 → Fin 192 → EReal
  so : Fin 192 → EReal
  w1 : Fin 768 → Fin 192 → EReal
  s1 : Fin 768 → EReal
  w2 : Fin 192 → Fin 768 → EReal
  s2 : Fin 192 → EReal

/-- The column after attention's residual and layer norm. -/
def Layer.first (L : Layer) (c h : Fin 192 → EReal) : Fin 192 → EReal := layerNorm fun d => h d + lin L.wo L.so c d

/-- The hidden layer's codes of a normed column. -/
def Layer.hidden (L : Layer) (v : Fin 192 → EReal) (e : Fin 768) : EReal :=
  quant L.a5 (gelu (lin L.w1 L.s1 (fun d => quant L.a4 (v d)) e))

/-- The layer's output of a normed column. -/
def Layer.second (L : Layer) (v : Fin 192 → EReal) : Fin 192 → EReal := layerNorm fun d => v d + lin L.w2 L.s2 (L.hidden v) d

/-- Layer `k` as the argument arrays give it. -/
def layerOf (k : Fin 2) (a : Vec Ideal ⟨2, ![2, 6]⟩ .f32) (wo : Vec Ideal ⟨4, ![2, 6, 32, 192]⟩ .i8) (so : Vec Ideal ⟨2, ![2, 192]⟩ .f32) (w1 : Vec Ideal ⟨3, ![2, 192, 768]⟩ .i8)
    (s1 : Vec Ideal ⟨2, ![2, 768]⟩ .f32) (w2 : Vec Ideal ⟨3, ![2, 768, 192]⟩ .i8) (s2 : Vec Ideal ⟨2, ![2, 192]⟩ .f32) : Layer where
  a4 := a (ix2 k 4)
  a5 := a (ix2 k 5)
  wo o i := FloatOps.sitofp (F := Ideal) .f32 (wo (ix4 k ⟨i.val / 32, by omega⟩ ⟨i.val % 32, by omega⟩ o))
  so o := a (ix2 k 3) * so (ix2 k o)
  w1 o i := FloatOps.sitofp (F := Ideal) .f32 (w1 (ix3 k i o))
  s1 o := a (ix2 k 4) * s1 (ix2 k o)
  w2 o i := FloatOps.sitofp (F := Ideal) .f32 (w2 (ix3 k i o))
  s2 o := a (ix2 k 5) * s2 (ix2 k o)

/-- The column of position `r` and feature `f` of batch `b`, after attention. -/
def columnOf (L : Layer) (c : Vec Ideal ⟨4, ![3, 9, 192, 4608]⟩ .i8) (h : Vec Ideal ⟨4, ![3, 9, 192, 4608]⟩ .f32) (b : Fin 3) (f : Fin 9) (r : Fin 4608) : Fin 192 → EReal :=
  L.first (fun i => FloatOps.sitofp (F := Ideal) .f32 (c (ix4 b f i r))) fun i => h (ix4 b f i r)

theorem extended (x : BitVec 8) : FloatOps.sitofp (F := Ideal) .f32 (BitVec.signExtend 32 x) = FloatOps.sitofp (F := Ideal) .f32 x := by
  show (((BitVec.signExtend 32 x).toInt : ℝ) : EReal) = ((x.toInt : ℝ) : EReal)
  rw [BitVec.toInt_signExtend_of_le (by decide)]

/-- The scales of a layer's outputs, `a` the scale of its input. -/
def scales {n : ℕ} (a : EReal) (s : Fin n → EReal) (o : Fin n) : EReal := a * s o

/-- The scales of a linear layer may be multiplied in one after the other, and the factors of its terms exchanged. -/
theorem lin_eq {n k : ℕ} (w : Fin n → Fin k → EReal) (a : EReal) (s : Fin n → EReal) (x : Fin k → EReal) (o : Fin n) :
    (∑ i, x i * w o i) * a * s o = lin w (scales a s) x o := by
  rw [lin, scales, mul_assoc]
  exact congrArg (· * _) (Finset.sum_congr rfl fun i _ => mul_comm _ _)

/-- Rounding a code to a word of 32 bits and cutting that to 8 is rounding it to 8 bits. -/
theorem byte_of_code (a x : EReal) : BitVec.setWidth 8 (FloatOps.fptosi (F := Ideal) (φ := .f32) 32 (quant a x))
    = FloatOps.fptosi (F := Ideal) (φ := .f32) 8 (quant a x) := byte_of_word _

/-- A number's low byte. -/
def byte (x : EReal) : BitVec 8 := FloatOps.fptosi (F := Ideal) (φ := .f32) 8 x

theorem square_nonneg (x : EReal) : 0 ≤ x * x := by
  rcases le_total 0 x with h | h
  · exact mul_nonneg h h
  · have h2 : 0 ≤ -x := by simpa using h
    rw [← neg_mul_neg]
    exact mul_nonneg h2 h2

theorem spread_ne_zero (x : Fin 192 → EReal) : spread x ≠ 0 := by
  have hs : (0 : EReal) ≤ ∑ d, centred x d * centred x d := Finset.sum_nonneg fun d _ => square_nonneg _
  obtain ⟨e, he, hp⟩ := bits_eps
  have h192 := bits_192
  unfold spread mean
  rw [he, h192]
  have hm : 0 ≤ Ideal.div (∑ d, centred x d * centred x d) ((192 : ℝ) : EReal) := by
    rw [Ideal.div, if_neg (by norm_num), ← EReal.coe_inv]
    exact mul_nonneg hs (by exact_mod_cast (by norm_num : (0 : ℝ) ≤ (192 : ℝ)⁻¹))
  generalize Ideal.div (∑ d, centred x d * centred x d) ((192 : ℝ) : EReal) = v at hm
  induction v using EReal.rec with
  | bot => exact absurd hm (by simp)
  | top => rw [EReal.top_add_coe]; exact EReal.top_ne_zero
  | coe r =>
    have hr : 0 ≤ r := by exact_mod_cast hm
    rw [← EReal.coe_add, Ideal.sqrt_coe, if_neg (by linarith)]
    exact EReal.coe_ne_zero.2 (Real.sqrt_pos.2 (by linarith)).ne'

theorem norm_eq (x : Fin 192 → EReal) (d : Fin 192) : Ideal.div (centred x d) (spread x) = layerNorm x d := by
  have h := spread_ne_zero x
  rw [layerNorm, Ideal.div, if_neg h, Ideal.div, if_neg h, one_mul]

end Cert.Column

end
-- ==== Proof.MlpPay.lean ====
module

public import proofs.«01_k».proof.Proof.MlpMath
public import proofs.«01_k».proof.Proof.Gen.MlpIdeal.Skeleton

@[expose] public section

set_option maxRecDepth 16384

noncomputable section

/-!
What the kernel's body computes from its blocks, one column at a time.
-/

namespace Cert.MlpIdeal.Hand

open Cert.MlpIdeal Cert.MlpIdeal.Gen Cert.Column
open Idealize.ShloMosaic Idealize.ShloMosaic.TcCoe
open Idealize.ShloMosaic (ix2 ix3 ix4 ix5)

/-- The mean of every column. -/
def meanV (x : FVec Ideal S192x512 .f32) : FVec Ideal S1x512 .f32 :=
  divf (shapeCast S1x512 (multiReduction .add [0] S512 x 0x00000000#32 reduces_S192x512_S512 (.inl rfl) rfl) shapeCasts_S512_S1x512)
    (broadcast S1x512 (Scalar.ofBits .f32 0x43400000#32))

/-- Every column less its mean. -/
def centredV (x : FVec Ideal S192x512 .f32) (μ : FVec Ideal S1x512 .f32) : FVec Ideal S192x512 .f32 :=
  subf x (broadcastTo S192x512 μ broadcasts_S1x512_S192x512)

/-- Every column over its spread, `v` the mean of its squares. -/
def scaledV (x : FVec Ideal S192x512 .f32) (v : FVec Ideal S1x512 .f32) : FVec Ideal S192x512 .f32 :=
  mulf x (broadcastTo S192x512 (divf (broadcast S1x512 (Scalar.ofBits .f32 0x3F800000#32))
    (sqrt (addf v (broadcast S1x512 (Scalar.ofBits .f32 0x3727C5AC#32))))) broadcasts_S1x512_S192x512)

/-- The layer norm of every column. -/
def normV (x : FVec Ideal S192x512 .f32) : FVec Ideal S192x512 .f32 :=
  scaledV (centredV x (meanV x)) (meanV (mulf (centredV x (meanV x)) (centredV x (meanV x))))

/-- The residual after attention's output projection. -/
def firstSum (c : Vec Ideal S1x1x192x512 .i8) (h : Vec Ideal S1x1x192x512 .f32) (w : FVec Ideal S192x192 .bf16) (s : FVec Ideal S192x128 .f32) : FVec Ideal S192x512 .f32 :=
  have s' : FVec Ideal S192x128 .f32 := shapeCast S192x128 s shapeCasts_S192x128_S192x128
  have w' : FVec Ideal S192x192 .bf16 := shapeCast S192x192 w shapeCasts_S192x192_S192x192
  addf (shapeCast S192x512 h shapeCasts_S1x1x192x512_S192x512)
    (mulf (matmul dot_S192x192_S192x512_S192x512_1_0_0_1_n_n none w'
      (truncf .bf16 (sitofp .f32 (shapeCast S192x512 c shapeCasts_S1x1x192x512_S192x512)) bitsLt_bf16_f32 : FVec Ideal S192x512 .bf16) (constant S192x512 .f32 0x00000000#32))
      (concatenate S192x512 1 [⟨S192x128, s'⟩, ⟨S192x128, s'⟩, ⟨S192x128, s'⟩, ⟨S192x128, s'⟩] concatenates_S192x128_S192x128_S192x128_S192x128_S192x512_d1))

/-- The residual after the second projection. -/
def secondSum (v : FVec Ideal S192x512 .f32) (c : FVec Ideal S768x512 .f32) (w : FVec Ideal S192x768 .bf16) (s : FVec Ideal S192x128 .f32) : FVec Ideal S192x512 .f32 :=
  have s' : FVec Ideal S192x128 .f32 := shapeCast S192x128 s shapeCasts_S192x128_S192x128
  have w' : FVec Ideal S192x768 .bf16 := shapeCast S192x768 w shapeCasts_S192x768_S192x768
  addf v
    (mulf (matmul dot_S192x768_S768x512_S192x512_1_0_0_1_n_n none w'
      (truncf .bf16 c bitsLt_bf16_f32 : FVec Ideal S768x512 .bf16) (constant S192x512 .f32 0x00000000#32))
      (concatenate S192x512 1 [⟨S192x128, s'⟩, ⟨S192x128, s'⟩, ⟨S192x128, s'⟩, ⟨S192x128, s'⟩] concatenates_S192x128_S192x128_S192x128_S192x128_S192x512_d1))

theorem pay2_eq (c : Vec Ideal S1x1x192x512 .i8) (h : Vec Ideal S1x1x192x512 .f32) (w : Vec Ideal S192x192 .bf16) (s : Vec Ideal S192x128 .f32) :
    k0_pay2 c h w s = normV (firstSum c h w s) := by
  unfold k0_pay2 normV scaledV centredV meanV firstSum
  rfl

theorem pay1_eq (v : FVec Ideal S192x512 .f32) (c : FVec Ideal S768x512 .f32) (w : Vec Ideal S192x768 .bf16) (s : Vec Ideal S192x128 .f32) :
    k0_pay1 v c w s = shapeCast S1x1x1x192x512 (normV (secondSum v c w s)) shapeCasts_S192x512_S1x1x1x192x512 := by
  unfold k0_pay1 normV scaledV centredV meanV secondSum
  rfl

theorem meanV_apply (x : FVec Ideal S192x512 .f32) (l : Fin 512) : meanV x (ix2 0 l) = mean fun d => x (ix2 d l) := by
  pointwise [meanV, mean]

theorem centredV_apply (x : FVec Ideal S192x512 .f32) (v : FVec Ideal S1x512 .f32) (d : Fin 192) (l : Fin 512) :
    centredV x v (ix2 d l) = x (ix2 d l) - v (ix2 0 l) := by
  pointwise [centredV]

theorem scaledV_apply (x : FVec Ideal S192x512 .f32) (v : FVec Ideal S1x512 .f32) (d : Fin 192) (l : Fin 512) :
    scaledV x v (ix2 d l) = x (ix2 d l) * Ideal.div 1 (Ideal.sqrt (v (ix2 0 l) + Ideal.ofBits .f32 925353388#32)) := by
  pointwise [scaledV]

theorem normV_apply (x : FVec Ideal S192x512 .f32) (d : Fin 192) (l : Fin 512) :
    normV x (ix2 d l) = layerNorm (fun d => x (ix2 d l)) d := by
  have hc : ∀ d, centredV x (meanV x) (ix2 d l) = centred (fun d => x (ix2 d l)) d := fun d => by
    rw [centredV_apply, meanV_apply]; rfl
  unfold normV layerNorm spread
  rw [scaledV_apply, hc, meanV_apply]
  simp only [mulf_apply, Ideal.mulf_def, hc]

theorem firstSum_apply (c : Vec Ideal S1x1x192x512 .i8) (h : Vec Ideal S1x1x192x512 .f32) (w : FVec Ideal S192x192 .bf16) (s : FVec Ideal S192x128 .f32)
    (σ : Fin 192 → EReal) (hs : ∀ d j, s (ix2 d j) = σ d) (d : Fin 192) (l : Fin 512) :
    firstSum c h w s (ix2 d l) = h (ix4 0 0 d l)
      + lin (fun o i => w (ix2 o i)) σ (fun i => FloatOps.sitofp (F := Ideal) .f32 (c (ix4 0 0 i l))) d := by
  pointwise [firstSum, lin]
  simp only [hs, dite_eq_ite, ite_self]

theorem secondSum_apply (v : FVec Ideal S192x512 .f32) (c : FVec Ideal S768x512 .f32) (w : FVec Ideal S192x768 .bf16) (s : FVec Ideal S192x128 .f32)
    (σ : Fin 192 → EReal) (hs : ∀ d j, s (ix2 d j) = σ d) (d : Fin 192) (l : Fin 512) :
    secondSum v c w s (ix2 d l) = v (ix2 d l) + lin (fun o i => w (ix2 o i)) σ (fun i => c (ix2 i l)) d := by
  pointwise [secondSum, lin]
  simp only [hs, dite_eq_ite, ite_self]

theorem pay3_apply (a : Elt Ideal .f32) (v : FVec Ideal S192x512 .f32) (d : Fin 192) (l : Fin 512) :
    k0_pay3 a v (ix2 d l) = quant a (v (ix2 d l)) := by
  pointwise [k0_pay3, quant]

theorem pay4_apply (a b : Elt Ideal .f32) (v : FVec Ideal S192x512 .f32) (w : Vec Ideal S768x192 .bf16) (s : Vec Ideal S768x128 .f32)
    (σ : Fin 768 → EReal) (hs : ∀ d j, s (ix2 d j) = σ d) (d : Fin 768) (l : Fin 512) :
    k0_pay4 a b v w s (ix2 d l)
      = quant b (gelu (lin (fun o i => w (ix2 o i)) σ (fun i => quant a (v (ix2 i l))) d)) := by
  pointwise [k0_pay4, quant, gelu, lin]
  simp only [hs, dite_eq_ite, ite_self, pay3_apply, quant]

theorem pay5_apply (a : Elt Ideal .f32) (v : FVec Ideal S192x512 .f32) (d : Fin 192) (l : Fin 512) :
    k0_pay5 a v (ix4 0 0 d l) = byte (quant a (v (ix2 d l))) := by
  rw [← pay3_apply]
  pointwise [k0_pay5, byte]

theorem pay6_apply (a b : Elt Ideal .f32) (v : FVec Ideal S192x512 .f32) (w : Vec Ideal S768x192 .bf16) (s : Vec Ideal S768x128 .f32) (d : Fin 768) (l : Fin 512) :
    k0_pay6 a b v w s (ix4 0 0 d l) = byte (k0_pay4 a b v w s (ix2 d l)) := by
  pointwise [k0_pay6, byte]

/-- The layer that a grid point's staged blocks describe. -/
structure Describes (L : Layer) (a4 a5 : EReal) (wo : Vec Ideal S192x192 .bf16) (so : Vec Ideal S192x128 .f32) (w1 : Vec Ideal S768x192 .bf16)
    (s1 : Vec Ideal S768x128 .f32) (w2 : Vec Ideal S192x768 .bf16) (s2 : Vec Ideal S192x128 .f32) : Prop where
  a4 : a4 = L.a4
  a5 : a5 = L.a5
  wo : ∀ o i, wo (ix2 o i) = L.wo o i
  so : ∀ o j, so (ix2 o j) = L.so o
  w1 : ∀ o i, w1 (ix2 o i) = L.w1 o i
  s1 : ∀ o j, s1 (ix2 o j) = L.s1 o
  w2 : ∀ o i, w2 (ix2 o i) = L.w2 o i
  s2 : ∀ o j, s2 (ix2 o j) = L.s2 o

section

variable {L : Layer} {a4 a5 : EReal} {wo : Vec Ideal S192x192 .bf16} {so : Vec Ideal S192x128 .f32} {w1 : Vec Ideal S768x192 .bf16}
    {s1 : Vec Ideal S768x128 .f32} {w2 : Vec Ideal S192x768 .bf16} {s2 : Vec Ideal S192x128 .f32}
    (D : Describes L a4 a5 wo so w1 s1 w2 s2) (c : Vec Ideal S1x1x192x512 .i8) (h : Vec Ideal S1x1x192x512 .f32)

include D

/-- One column of the block after attention's residual and layer norm. -/
theorem first_apply (d : Fin 192) (l : Fin 512) : k0_pay2 c h wo so (ix2 d l)
    = L.first (fun i => FloatOps.sitofp (F := Ideal) .f32 (c (ix4 0 0 i l))) (fun i => h (ix4 0 0 i l)) d := by
  rw [pay2_eq, normV_apply]
  simp only [firstSum_apply _ _ _ _ _ D.so, D.wo]
  rfl

theorem codes4_apply (d : Fin 192) (l : Fin 512) : k0_pay5 a4 (k0_pay2 c h wo so) (ix4 0 0 d l)
    = byte (quant L.a4 (L.first (fun i => FloatOps.sitofp (F := Ideal) .f32 (c (ix4 0 0 i l))) (fun i => h (ix4 0 0 i l)) d)) := by
  rw [pay5_apply, first_apply D, D.a4]

theorem hidden_apply (d : Fin 768) (l : Fin 512) : k0_pay4 a4 a5 (k0_pay2 c h wo so) w1 s1 (ix2 d l)
    = L.hidden (L.first (fun i => FloatOps.sitofp (F := Ideal) .f32 (c (ix4 0 0 i l))) (fun i => h (ix4 0 0 i l))) d := by
  rw [pay4_apply _ _ _ _ _ _ D.s1]
  simp only [first_apply D, D.w1, D.a4, D.a5]
  rfl

theorem codes5_apply (d : Fin 768) (l : Fin 512) : k0_pay6 a4 a5 (k0_pay2 c h wo so) w1 s1 (ix4 0 0 d l)
    = byte (L.hidden (L.first (fun i => FloatOps.sitofp (F := Ideal) .f32 (c (ix4 0 0 i l))) (fun i => h (ix4 0 0 i l))) d) := by
  rw [pay6_apply, hidden_apply D]

theorem stream_apply (d : Fin 192) (l : Fin 512) : k0_pay1 (k0_pay2 c h wo so) (k0_pay4 a4 a5 (k0_pay2 c h wo so) w1 s1) w2 s2 (ix5 0 0 0 d l)
    = L.second (L.first (fun i => FloatOps.sitofp (F := Ideal) .f32 (c (ix4 0 0 i l))) (fun i => h (ix4 0 0 i l))) d := by
  rw [pay1_eq]
  have e : ∀ x : FVec Ideal S192x512 .f32, shapeCast S1x1x1x192x512 x shapeCasts_S192x512_S1x1x1x192x512 (ix5 0 0 0 d l) = x (ix2 d l) := fun x => by pointwise
  rw [e, normV_apply]
  simp only [secondSum_apply _ _ _ _ _ D.s2, first_apply D, hidden_apply D, D.w2]
  rfl

end

end Cert.MlpIdeal.Hand

end
-- ==== Proof.MlpBlock.lean ====
module

public import proofs.«01_k».proof.Proof.MlpPay
public import proofs.«01_k».proof.Proof.Gen.MlpIdeal.Value
public import Idealize.ShloMosaic.Lib.Pipeline.Value

@[expose] public section

set_option maxRecDepth 16384

noncomputable section

/-!
What a grid point leaves in its three blocks, in terms of the blocks it reads.
-/

namespace Cert.MlpIdeal.Hand

open Cert.MlpIdeal Cert.MlpIdeal.Gen Cert.Column
open Idealize.ShloMosaic Idealize.ShloMosaic.TcCoe Idealize.ShloMosaic.Tactic
open Idealize.SL Idealize.SL.Sem
open Idealize.ShloMosaic (ix2 ix3 ix4 ix5)

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

theorem scalar4 (x : Vec Ideal S2x6 .f32) : View.ld x (Rect.unit (s := S2x6) ![0, 4] S1x1.size inb_S2x6_S1x1_0_4) (Shape.Idx.first (numel1_S1x1.symm ▸ Nat.one_pos)) = x (ix2 0 4) :=
  congrArg x (funext fun a => by fin_cases a <;> rfl)

theorem scalar5 (x : Vec Ideal S2x6 .f32) : View.ld x (Rect.unit (s := S2x6) ![0, 5] S1x1.size inb_S2x6_S1x1_0_5) (Shape.Idx.first (numel1_S1x1.symm ▸ Nat.one_pos)) = x (ix2 0 5) :=
  congrArg x (funext fun a => by fin_cases a <;> rfl)

section

variable (c : Dev nD) (i : grid0.Coords) (arg3 : Memref sig .tc .smem S2x6 .f32) (harg3 : arg3.IsWhole) (arg4 : Memref sig .tc .vmem S1x1x192x512 .i8) (harg4 : arg4.IsWhole) (arg5 : Memref sig .tc .vmem S1x1x192x512 .f32) (harg5 : arg5.IsWhole) (arg6 : Memref sig .tc .vmem S192x192 .bf16) (harg6 : arg6.IsWhole) (arg7 : Memref sig .tc .vmem S192x128 .f32) (harg7 : arg7.IsWhole) (arg8 : Memref sig .tc .vmem S768x192 .bf16) (harg8 : arg8.IsWhole) (arg9 : Memref sig .tc .vmem S768x128 .f32) (harg9 : arg9.IsWhole) (arg10 : Memref sig .tc .vmem S192x768 .bf16) (harg10 : arg10.IsWhole) (arg11 : Memref sig .tc .vmem S192x128 .f32) (harg11 : arg11.IsWhole) (arg12 : Memref sig .tc .vmem S1x1x1x192x512 .f32) (harg12 : arg12.IsWhole) (arg13 : Memref sig .tc .vmem S1x1x192x512 .i8) (harg13 : arg13.IsWhole) (arg14 : Memref sig .tc .vmem S1x1x768x512 .i8) (harg14 : arg14.IsWhole)
    (x0 : Vec Ideal S2x6 .f32) (x1 : Vec Ideal S1x1x192x512 .i8) (x2 : Vec Ideal S1x1x192x512 .f32) (x3 : Vec Ideal S192x192 .bf16) (x4 : Vec Ideal S192x128 .f32) (x5 : Vec Ideal S768x192 .bf16) (x6 : Vec Ideal S768x128 .f32) (x7 : Vec Ideal S192x768 .bf16) (x8 : Vec Ideal S192x128 .f32)

theorem out10_eq : out0_A_10 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = k0_pay5 (x0 (ix2 0 4)) (k0_pay2 x1 x2 x3 x4) := by
  unfold out0_A_10
  rw [View.read_writes_junk_eq_canon]
  show View.canon ([⟨Rect.unit (s := S1x1x192x512) ![0, 0, 0, 0] S1x1x192x512.size inb_S1x1x192x512_S1x1x192x512_0_0_0_0,
      k0_pay5 (View.readAt (Elt Ideal) arg3.view (Rect.unit (s := S2x6) ![0, 4] S1x1.size inb_S2x6_S1x1_0_4).toLoadRect (harg3.unread x0) (Shape.Idx.first (numel1_S1x1.symm ▸ Nat.one_pos))) (k0_pay2 (View.readAt (Elt Ideal) arg4.view (Rect.unit (s := S1x1x192x512) ![0, 0, 0, 0] S1x1x192x512.size inb_S1x1x192x512_S1x1x192x512_0_0_0_0).toLoadRect (harg4.unread x1)) (View.readAt (Elt Ideal) arg5.view (Rect.unit (s := S1x1x192x512) ![0, 0, 0, 0] S1x1x192x512.size inb_S1x1x192x512_S1x1x192x512_0_0_0_0).toLoadRect (harg5.unread x2)) (View.readAt (Elt Ideal) arg6.view (Rect.unit (s := S192x192) ![0, 0] S192x192.size inb_S192x192_S192x192_0_0).toLoadRect (harg6.unread x3)) (View.readAt (Elt Ideal) arg7.view (Rect.unit (s := S192x128) ![0, 0] S192x128.size inb_S192x128_S192x128_0_0).toLoadRect (harg7.unread x4)))⟩] : List (View.Piece (Elt Ideal) S1x1x192x512 .i8)) = _
  rw [View.canon_unit_zero hz4]
  repeat rw [View.readAt_eq_ld]
  rw [harg3.read_unread, harg4.read_unread, harg5.read_unread, harg6.read_unread, harg7.read_unread, View.ld_unit_zero hz4, View.ld_unit_zero hz4, View.ld_unit_zero hz2, View.ld_unit_zero hz2]
  rw [scalar4]

theorem out11_eq : out0_A_11 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = k0_pay6 (x0 (ix2 0 4)) (x0 (ix2 0 5)) (k0_pay2 x1 x2 x3 x4) x5 x6 := by
  unfold out0_A_11
  rw [View.read_writes_junk_eq_canon]
  show View.canon ([⟨Rect.unit (s := S1x1x768x512) ![0, 0, 0, 0] S1x1x768x512.size inb_S1x1x768x512_S1x1x768x512_0_0_0_0,
      k0_pay6 (View.readAt (Elt Ideal) arg3.view (Rect.unit (s := S2x6) ![0, 4] S1x1.size inb_S2x6_S1x1_0_4).toLoadRect (harg3.unread x0) (Shape.Idx.first (numel1_S1x1.symm ▸ Nat.one_pos))) (View.readAt (Elt Ideal) arg3.view (Rect.unit (s := S2x6) ![0, 5] S1x1.size inb_S2x6_S1x1_0_5).toLoadRect (harg3.unread x0) (Shape.Idx.first (numel1_S1x1.symm ▸ Nat.one_pos))) (k0_pay2 (View.readAt (Elt Ideal) arg4.view (Rect.unit (s := S1x1x192x512) ![0, 0, 0, 0] S1x1x192x512.size inb_S1x1x192x512_S1x1x192x512_0_0_0_0).toLoadRect (harg4.unread x1)) (View.readAt (Elt Ideal) arg5.view (Rect.unit (s := S1x1x192x512) ![0, 0, 0, 0] S1x1x192x512.size inb_S1x1x192x512_S1x1x192x512_0_0_0_0).toLoadRect (harg5.unread x2)) (View.readAt (Elt Ideal) arg6.view (Rect.unit (s := S192x192) ![0, 0] S192x192.size inb_S192x192_S192x192_0_0).toLoadRect (harg6.unread x3)) (View.readAt (Elt Ideal) arg7.view (Rect.unit (s := S192x128) ![0, 0] S192x128.size inb_S192x128_S192x128_0_0).toLoadRect (harg7.unread x4))) (View.readAt (Elt Ideal) arg8.view (Rect.unit (s := S768x192) ![0, 0] S768x192.size inb_S768x192_S768x192_0_0).toLoadRect (harg8.unread x5)) (View.readAt (Elt Ideal) arg9.view (Rect.unit (s := S768x128) ![0, 0] S768x128.size inb_S768x128_S768x128_0_0).toLoadRect (harg9.unread x6))⟩] : List (View.Piece (Elt Ideal) S1x1x768x512 .i8)) = _
  rw [View.canon_unit_zero hz4]
  repeat rw [View.readAt_eq_ld]
  rw [harg3.read_unread, harg4.read_unread, harg5.read_unread, harg6.read_unread, harg7.read_unread, harg8.read_unread, harg9.read_unread, View.ld_unit_zero hz4, View.ld_unit_zero hz4, View.ld_unit_zero hz2, View.ld_unit_zero hz2, View.ld_unit_zero hz2, View.ld_unit_zero hz2]
  rw [scalar4, scalar5]

theorem out9_eq : out0_A_9 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = k0_pay1 (k0_pay2 x1 x2 x3 x4) (k0_pay4 (x0 (ix2 0 4)) (x0 (ix2 0 5)) (k0_pay2 x1 x2 x3 x4) x5 x6) x7 x8 := by
  unfold out0_A_9
  rw [View.read_writes_junk_eq_canon]
  show View.canon ([⟨Rect.unit (s := S1x1x1x192x512) ![0, 0, 0, 0, 0] S1x1x1x192x512.size inb_S1x1x1x192x512_S1x1x1x192x512_0_0_0_0_0,
      k0_pay1 (k0_pay2 (View.readAt (Elt Ideal) arg4.view (Rect.unit (s := S1x1x192x512) ![0, 0, 0, 0] S1x1x192x512.size inb_S1x1x192x512_S1x1x192x512_0_0_0_0).toLoadRect (harg4.unread x1)) (View.readAt (Elt Ideal) arg5.view (Rect.unit (s := S1x1x192x512) ![0, 0, 0, 0] S1x1x192x512.size inb_S1x1x192x512_S1x1x192x512_0_0_0_0).toLoadRect (harg5.unread x2)) (View.readAt (Elt Ideal) arg6.view (Rect.unit (s := S192x192) ![0, 0] S192x192.size inb_S192x192_S192x192_0_0).toLoadRect (harg6.unread x3)) (View.readAt (Elt Ideal) arg7.view (Rect.unit (s := S192x128) ![0, 0] S192x128.size inb_S192x128_S192x128_0_0).toLoadRect (harg7.unread x4))) (k0_pay4 (View.readAt (Elt Ideal) arg3.view (Rect.unit (s := S2x6) ![0, 4] S1x1.size inb_S2x6_S1x1_0_4).toLoadRect (harg3.unread x0) (Shape.Idx.first (numel1_S1x1.symm ▸ Nat.one_pos))) (View.readAt (Elt Ideal) arg3.view (Rect.unit (s := S2x6) ![0, 5] S1x1.size inb_S2x6_S1x1_0_5).toLoadRect (harg3.unread x0) (Shape.Idx.first (numel1_S1x1.symm ▸ Nat.one_pos))) (k0_pay2 (View.readAt (Elt Ideal) arg4.view (Rect.unit (s := S1x1x192x512) ![0, 0, 0, 0] S1x1x192x512.size inb_S1x1x192x512_S1x1x192x512_0_0_0_0).toLoadRect (harg4.unread x1)) (View.readAt (Elt Ideal) arg5.view (Rect.unit (s := S1x1x192x512) ![0, 0, 0, 0] S1x1x192x512.size inb_S1x1x192x512_S1x1x192x512_0_0_0_0).toLoadRect (harg5.unread x2)) (View.readAt (Elt Ideal) arg6.view (Rect.unit (s := S192x192) ![0, 0] S192x192.size inb_S192x192_S192x192_0_0).toLoadRect (harg6.unread x3)) (View.readAt (Elt Ideal) arg7.view (Rect.unit (s := S192x128) ![0, 0] S192x128.size inb_S192x128_S192x128_0_0).toLoadRect (harg7.unread x4))) (View.readAt (Elt Ideal) arg8.view (Rect.unit (s := S768x192) ![0, 0] S768x192.size inb_S768x192_S768x192_0_0).toLoadRect (harg8.unread x5)) (View.readAt (Elt Ideal) arg9.view (Rect.unit (s := S768x128) ![0, 0] S768x128.size inb_S768x128_S768x128_0_0).toLoadRect (harg9.unread x6))) (View.readAt (Elt Ideal) arg10.view (Rect.unit (s := S192x768) ![0, 0] S192x768.size inb_S192x768_S192x768_0_0).toLoadRect (harg10.unread x7)) (View.readAt (Elt Ideal) arg11.view (Rect.unit (s := S192x128) ![0, 0] S192x128.size inb_S192x128_S192x128_0_0).toLoadRect (harg11.unread x8))⟩] : List (View.Piece (Elt Ideal) S1x1x1x192x512 .f32)) = _
  rw [View.canon_unit_zero hz5]
  repeat rw [View.readAt_eq_ld]
  rw [harg3.read_unread, harg4.read_unread, harg5.read_unread, harg6.read_unread, harg7.read_unread, harg8.read_unread, harg9.read_unread, harg10.read_unread, harg11.read_unread, View.ld_unit_zero hz4, View.ld_unit_zero hz4, View.ld_unit_zero hz2, View.ld_unit_zero hz2, View.ld_unit_zero hz2, View.ld_unit_zero hz2, View.ld_unit_zero hz2, View.ld_unit_zero hz2]
  rw [scalar4, scalar5]

end

end Cert.MlpIdeal.Hand

end
-- ==== Proof.MlpEntry.lean ====
module

public import proofs.«01_k».proof.Proof.MlpMath
public import proofs.«01_k».proof.Proof.Gen.MlpIdeal.Value

@[expose] public section

set_option maxRecDepth 16384

noncomputable section

/-!
What the kernel's weight and scale operands hold when its grid starts, place by place.
-/

namespace Cert.MlpIdeal.Hand

open Cert.MlpIdeal Cert.MlpIdeal.Gen Cert.Column
open Idealize.ShloMosaic Idealize.ShloMosaic.TcCoe Idealize.ShloMosaic.Tactic
open Idealize.SL Idealize.SL.Sem
open Idealize.ShloMosaic (ix1 ix2 ix3 ix4 ix5)

variable (m : (ℓ : Loc nD τ sig) → Buf (Elt Ideal) ℓ) (c : Dev nD)

/-- The first layer of device `c`'s argument arrays. -/
def layerM : Layer :=
  layerOf 0 (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem entry_wo (o i : Fin 192) : V m c main_v8 (ix2 o i) = (layerM m c).wo o i := by
  entry_read
  pointwise [layerM, layerOf]
  exact extended _

theorem entry_so (o : Fin 192) (j : Fin 128) : V m c main_v16 (ix2 o j) = (layerM m c).so o := by
  entry_read
  pointwise [layerM, layerOf]

theorem entry_w1 (o : Fin 768) (i : Fin 192) : V m c main_v22 (ix2 o i) = (layerM m c).w1 o i := by
  entry_read
  pointwise [layerM, layerOf, extended]

theorem entry_s1 (o : Fin 768) (j : Fin 128) : V m c main_v30 (ix2 o j) = (layerM m c).s1 o := by
  entry_read
  pointwise [layerM, layerOf]

theorem entry_w2 (o : Fin 192) (i : Fin 768) : V m c main_v36 (ix2 o i) = (layerM m c).w2 o i := by
  entry_read
  pointwise [layerM, layerOf, extended]

theorem entry_s2 (o : Fin 192) (j : Fin 128) : V m c main_v44 (ix2 o j) = (layerM m c).s2 o := by
  entry_read
  pointwise [layerM, layerOf]

end Cert.MlpIdeal.Hand

end
-- ==== Proof.MlpArray.lean ====
module

public import proofs.«01_k».proof.Proof.MlpBlock
public import proofs.«01_k».proof.Proof.MlpEntry
public import Idealize.ShloMosaic.Lib.Pipeline.ValueKit
public import Idealize.ShloMosaic.Lib.Pipeline.ValueKit.Partial

@[expose] public section

set_option maxRecDepth 16384

noncomputable section

/-!
The three result arrays after the whole run: every column is the layer's value of its column of the arguments.
-/

namespace Cert.MlpIdeal.Hand

open Cert.MlpIdeal Cert.MlpIdeal.Gen Cert.Column
open Idealize.ShloMosaic Idealize.ShloMosaic.TcCoe Idealize.ShloMosaic.Tactic
open Idealize.SL Idealize.SL.Sem
open Idealize.ShloMosaic (ix1 ix2 ix3 ix4 ix5)
open Idealize.ShloMosaic.Pipeline (Dat Cfg Window)

variable (m : (ℓ : Loc nD τ sig) → Buf (Elt Ideal) ℓ) (ρ : Dev nD → PrngReg) (c : Dev nD)

/-- The index maps over the grid. -/
theorem idx_facts : ∀ t : Fin grid0.N, win0_0.index t = ![0, 0]
    ∧ win0_1.index t = ![(grid0.coords t 0).val, (grid0.coords t 1).val, 0, (grid0.coords t 2).val]
    ∧ win0_2.index t = ![(grid0.coords t 0).val, (grid0.coords t 1).val, 0, (grid0.coords t 2).val]
    ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![0, (grid0.coords t 0).val, (grid0.coords t 1).val, 0, (grid0.coords t 2).val]
    ∧ win0_10.index t = ![(grid0.coords t 0).val, (grid0.coords t 1).val, 0, (grid0.coords t 2).val]
    ∧ win0_11.index t = ![(grid0.coords t 0).val, (grid0.coords t 1).val, 0, (grid0.coords t 2).val] := by decide +kernel

abbrev gb (t : Fin cfg0.N) : Fin 3 := grid0.coords t 0
abbrev gf (t : Fin cfg0.N) : Fin 9 := grid0.coords t 1
abbrev gr (t : Fin cfg0.N) : Fin 9 := grid0.coords t 2

/-- The position of lane `l` of a grid point's blocks. -/
abbrev pos (t : Fin cfg0.N) (l : Fin 512) : Fin 4608 := ⟨(gr t).val * 512 + l.val, by have := (gr t).isLt; omega⟩

theorem iblk0_apply (t : Fin cfg0.N) (i : Fin 2) (j : Fin 6) : iblk m c 0 t (ix2 i j) = m ((c : Thread nD τ).loc main_arg0) (ix2 i j) := by
  rw [← V_main_arg0 m c]
  blk_ext [iblk, idx_facts t]

theorem iblk1_apply (t : Fin cfg0.N) (d : Fin 192) (l : Fin 512) :
    iblk m c 1 t (ix4 0 0 d l) = m ((c : Thread nD τ).loc main_arg1) (ix4 (gb t) (gf t) d (pos t l)) := by
  rw [← V_main_arg1 m c]
  blk_ext [iblk, idx_facts t] <;> rfl

theorem iblk2_apply (t : Fin cfg0.N) (d : Fin 192) (l : Fin 512) :
    iblk m c 2 t (ix4 0 0 d l) = m ((c : Thread nD τ).loc main_arg2) (ix4 (gb t) (gf t) d (pos t l)) := by
  rw [← V_main_arg2 m c]
  blk_ext [iblk, idx_facts t] <;> rfl

theorem iblk3_apply (t : Fin cfg0.N) (o : Fin 192) (i : Fin 192) : iblk m c 3 t (ix2 o i) = (layerM m c).wo o i := by
  rw [← entry_wo m c o i]
  blk_ext [iblk, idx_facts t]

theorem iblk4_apply (t : Fin cfg0.N) (o : Fin 192) (i : Fin 128) : iblk m c 4 t (ix2 o i) = (layerM m c).so o := by
  rw [← entry_so m c o i]
  blk_ext [iblk, idx_facts t]

theorem iblk5_apply (t : Fin cfg0.N) (o : Fin 768) (i : Fin 192) : iblk m c 5 t (ix2 o i) = (layerM m c).w1 o i := by
  rw [← entry_w1 m c o i]
  blk_ext [iblk, idx_facts t]

theorem iblk6_apply (t : Fin cfg0.N) (o : Fin 768) (i : Fin 128) : iblk m c 6 t (ix2 o i) = (layerM m c).s1 o := by
  rw [← entry_s1 m c o i]
  blk_ext [iblk, idx_facts t]

theorem iblk7_apply (t : Fin cfg0.N) (o : Fin 192) (i : Fin 768) : iblk m c 7 t (ix2 o i) = (layerM m c).w2 o i := by
  rw [← entry_w2 m c o i]
  blk_ext [iblk, idx_facts t]

theorem iblk8_apply (t : Fin cfg0.N) (o : Fin 192) (i : Fin 128) : iblk m c 8 t (ix2 o i) = (layerM m c).s2 o := by
  rw [← entry_s2 m c o i]
  blk_ext [iblk, idx_facts t]

/-- A grid point's staged weights and scales describe the first layer. -/
theorem describes (t : Fin cfg0.N) : Describes (layerM m c) (iblk m c 0 t (ix2 0 4)) (iblk m c 0 t (ix2 0 5)) (iblk m c 3 t) (iblk m c 4 t)
    (iblk m c 5 t) (iblk m c 6 t) (iblk m c 7 t) (iblk m c 8 t) where
  a4 := iblk0_apply m c t 0 4
  a5 := iblk0_apply m c t 0 5
  wo := iblk3_apply m c t
  so := iblk4_apply m c t
  w1 := iblk5_apply m c t
  s1 := iblk6_apply m c t
  w2 := iblk7_apply m c t
  s2 := iblk8_apply m c t

/-- The column of position `r` and feature `f` of batch `b`, after attention. -/
def columnM (b : Fin 3) (f : Fin 9) (r : Fin 4608) : Fin 192 → EReal :=
  columnOf (layerM m c) (m ((c : Thread nD τ).loc main_arg1)) (m ((c : Thread nD τ).loc main_arg2)) b f r

/-- The stream after the layer. -/
def streamM (i : S2x3x9x192x4608.Idx) : EReal := (layerM m c).second (columnM m c (i 1) (i 2) (i 4)) (i 3)

/-- The codes of the columns after attention. -/
def codes4M (i : S3x9x192x4608.Idx) : BitVec 8 := byte (quant (layerM m c).a4 (columnM m c (i 0) (i 1) (i 3) (i 2)))

/-- The codes of the hidden layer. -/
def codes5M (i : S3x9x768x4608.Idx) : BitVec 8 := byte ((layerM m c).hidden (columnM m c (i 0) (i 1) (i 3)) (i 2))

theorem column_eq (t : Fin cfg0.N) (l : Fin 512) :
    (layerM m c).first (fun i => FloatOps.sitofp (F := Ideal) .f32 (iblk m c 1 t (ix4 0 0 i l))) (fun i => iblk m c 2 t (ix4 0 0 i l))
      = columnM m c (gb t) (gf t) (pos t l) := by
  simp only [iblk1_apply, iblk2_apply]
  rfl

theorem after10 (t : Fin cfg0.N) (d : Fin 192) (l : Fin 512) :
    (dats m 0 c).after 10 t (ix4 0 0 d l) = codes4M m c (ix4 (gb t) (gf t) d (pos t l)) := by
  rw [after0_10]
  simp only [outsAt0]
  rw [out10_eq]
  refine (codes4_apply (describes m c t) _ _ d l).trans ?_
  rw [column_eq]
  rfl

theorem after11 (t : Fin cfg0.N) (d : Fin 768) (l : Fin 512) :
    (dats m 0 c).after 11 t (ix4 0 0 d l) = codes5M m c (ix4 (gb t) (gf t) d (pos t l)) := by
  rw [after0_11]
  simp only [outsAt0]
  rw [out11_eq]
  refine (codes5_apply (describes m c t) _ _ d l).trans ?_
  rw [column_eq]
  rfl

theorem after9 (t : Fin cfg0.N) (d : Fin 192) (l : Fin 512) :
    (dats m 0 c).after 9 t (ix5 0 0 0 d l) = streamM m c (ix5 0 (gb t) (gf t) d (pos t l)) := by
  rw [after0_9]
  simp only [outsAt0]
  rw [out9_eq]
  refine (stream_apply (describes m c t) _ _ d l).trans ?_
  rw [column_eq]
  rfl

theorem result10 : (dats m 0 c).arrAt 10 cfg0.N = codes4M m c := by
  refine (dats m 0 c).arrAt_eq_of_covers 10 _ (by decide +kernel) fun t hf y => ?_
  have e : (y : S1x1x192x512.Idx) = ix4 0 0 (y 2) (y 3) := by
    funext a; fin_cases a <;> first | rfl | exact Subsingleton.elim (α := Fin 1) _ _
  refine (congrArg ((dats m 0 c).after 10 t) e).trans ((after10 m c t (y 2) (y 3)).trans ?_)
  blk_ext [idx_facts t] <;> rfl

theorem result11 : (dats m 0 c).arrAt 11 cfg0.N = codes5M m c := by
  refine (dats m 0 c).arrAt_eq_of_covers 11 _ (by decide +kernel) fun t hf y => ?_
  have e : (y : S1x1x768x512.Idx) = ix4 0 0 (y 2) (y 3) := by
    funext a; fin_cases a <;> first | rfl | exact Subsingleton.elim (α := Fin 1) _ _
  refine (congrArg ((dats m 0 c).after 11 t) e).trans ((after11 m c t (y 2) (y 3)).trans ?_)
  blk_ext [idx_facts t] <;> rfl

theorem result9 (i : S2x3x9x192x4608.Idx) (hi : (i 0).val = 0) : (dats m 0 c).arrAt 9 cfg0.N i = streamM m c i := by
  refine ((dats m 0 c).arrAt_apply_of_coversWhere 9 (streamM m c) (P := fun i => (i (0 : Fin 5)).val = 0) (fun β => β (0 : Fin 5) = 0) (by decide +kernel)
    (fun t hf y => ?_) (fun j => ?_) i).trans (if_pos hi)
  · have e : (y : S1x1x1x192x512.Idx) = ix5 0 0 0 (y 3) (y 4) := by
      funext a; fin_cases a <;> first | rfl | exact Subsingleton.elim (α := Fin 1) _ _
    refine (congrArg ((dats m 0 c).after 9 t) e).trans ((after9 m c t (y 3) (y 4)).trans ?_)
    blk_ext [idx_facts t] <;> rfl
  · blk_simp [Pipeline.Window.cell_apply]; omega

/-- The run: the layer's part of the stream and the two arrays of codes hold the layer's values, the arguments are unchanged. -/
theorem run_value : θ_run defs (onTc (τ := τ) (main (F := Ideal))) ⟨m, fun _ => 0, ρ⟩ fun r => ∀ c : Dev nD,
      (∀ i : S2x3x9x192x4608.Idx, (i 0).val = 0 → r.2.mem ((c : Thread nD τ).loc main_v45_0) i = streamM m c i)
      ∧ r.2.mem ((c : Thread nD τ).loc main_v45_1) = codes4M m c
      ∧ r.2.mem ((c : Thread nD τ).loc main_v45_2) = codes5M m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨fun i hi => (congrFun (h c).1 i).trans (result9 m c i hi),
      (h c).2.1.trans (result10 m c), (h c).2.2.1.trans (result11 m c), (h c).2.2.2⟩)
    (Value.run_blocks m ρ)

end Cert.MlpIdeal.Hand

end
-- ==== Proof.MlpRef.lean ====
module

public import proofs.«01_k».proof.Proof.MlpMath
public import proofs.«01_k».proof.Proof.Gen.MlpRefIdeal.Run

@[expose] public section

set_option maxRecDepth 16384

noncomputable section

/-!
The reference of the second half of a layer in a few named steps, and what they hold, one column at a time.
-/

namespace Cert.MlpRefIdeal.Hand

open Cert.MlpRefIdeal Cert.MlpRefIdeal.Gen Cert.Column
open Idealize.ShloMosaic Idealize.ShloMosaic.TcCoe
open Idealize.ShloMosaic (ix1 ix2 ix3 ix4 ix5)

/-- The residual after attention's output projection. -/
def firstR (a : FVec Ideal S_ .f32) (c : Vec Ideal S3x9x192x4608 .i8) (h : Vec Ideal S3x9x192x4608 .f32) (w : Vec Ideal S192x192 .i8) (s : FVec Ideal S192 .f32) : FVec Ideal S3x4608x9x192 .f32 :=
  addf (transpose S3x4608x9x192 [0, 3, 1, 2] h transposes_S3x9x192x4608_S3x4608x9x192_0_3_1_2) (mulf (mulf (Host.dotGeneral dot_S3x4608x9x192_S192x192_S3x4608x9x192_3_0_012_1_n_n none (truncf .bf16 (sitofp .f32 (extsi 32 (transpose S3x4608x9x192 [0, 3, 1, 2] c transposes_S3x9x192x4608_S3x4608x9x192_0_3_1_2) natLt_8_32)) bitsLt_bf16_f32) (truncf .bf16 (sitofp .f32 (extsi 32 w natLt_8_32)) bitsLt_bf16_f32)) (broadcastInDim S3x4608x9x192 ![] bcast_S_S3x4608x9x192 a)) (broadcastInDim S3x4608x9x192 ![0, 1, 2, 3] bcast_S1x1x1x192_S3x4608x9x192_0_1_2_3 (broadcastInDim S1x1x1x192 ![3] bcast_S192_S1x1x1x192_3 s)))

/-- The mean over the features. -/
def meanR (x : FVec Ideal S3x4608x9x192 .f32) : FVec Ideal S3x4608x9x1 .f32 :=
  Host.divf (broadcastInDim S3x4608x9x1 ![0, 1, 2] bcast_S3x4608x9_S3x4608x9x1_0_1_2 (Host.reduceAdd x (constant S_ .f32 0x00000000#32) reducesTo_S3x4608x9x192_S3x4608x9_d3 h_S_)) (broadcastInDim S3x4608x9x1 ![] bcast_S_S3x4608x9x1 (constant S_ .f32 0x43400000#32))

/-- Every column less its mean. -/
def centredR (x : FVec Ideal S3x4608x9x192 .f32) (μ : FVec Ideal S3x4608x9x1 .f32) : FVec Ideal S3x4608x9x192 .f32 :=
  subf x (broadcastInDim S3x4608x9x192 ![0, 1, 2, 3] bcast_S3x4608x9x1_S3x4608x9x192_0_1_2_3 μ)

/-- Every column over its spread. -/
def scaledR (x : FVec Ideal S3x4608x9x192 .f32) (v : FVec Ideal S3x4608x9x1 .f32) : FVec Ideal S3x4608x9x192 .f32 :=
  Host.divf x (broadcastInDim S3x4608x9x192 ![0, 1, 2, 3] bcast_S3x4608x9x1_S3x4608x9x192_0_1_2_3 (Host.sqrt (addf v (broadcastInDim S3x4608x9x1 ![] bcast_S_S3x4608x9x1 (constant S_ .f32 0x3727C5AC#32)))))

/-- The layer norm. -/
def normR (x : FVec Ideal S3x4608x9x192 .f32) : FVec Ideal S3x4608x9x192 .f32 :=
  scaledR (centredR x (meanR x)) (meanR (mulf (centredR x (meanR x)) (centredR x (meanR x))))

/-- The codes of the normed columns, still numbers. -/
def codes4R (a : FVec Ideal S_ .f32) (x : FVec Ideal S3x4608x9x192 .f32) : FVec Ideal S3x4608x9x192 .f32 :=
  minimumf (broadcastInDim S3x4608x9x192 ![] bcast_S_S3x4608x9x192 (id (constant S_ .f32 0x42FE0000#32))) (maximumf (broadcastInDim S3x4608x9x192 ![] bcast_S_S3x4608x9x192 (id (constant S_ .f32 0xC2FE0000#32))) (Host.roundeven (Host.divf x (broadcastInDim S3x4608x9x192 ![] bcast_S_S3x4608x9x192 a))))

/-- The hidden layer before its gelu. -/
def hiddenR (a : FVec Ideal S_ .f32) (x : FVec Ideal S3x4608x9x192 .f32) (w : Vec Ideal S192x768 .i8) (s : FVec Ideal S768 .f32) : FVec Ideal S3x4608x9x768 .f32 :=
  mulf (mulf (Host.dotGeneral dot_S3x4608x9x192_S192x768_S3x4608x9x768_3_0_012_1_n_n none (truncf .bf16 x bitsLt_bf16_f32) (truncf .bf16 (sitofp .f32 (extsi 32 w natLt_8_32)) bitsLt_bf16_f32)) (broadcastInDim S3x4608x9x768 ![] bcast_S_S3x4608x9x768 a)) (broadcastInDim S3x4608x9x768 ![0, 1, 2, 3] bcast_S1x1x1x768_S3x4608x9x768_0_1_2_3 (broadcastInDim S1x1x1x768 ![3] bcast_S768_S1x1x1x768_3 s))

/-- The codes of the hidden layer's gelu, still numbers. -/
def codes5R (a : FVec Ideal S_ .f32) (u : FVec Ideal S3x4608x9x768 .f32) : FVec Ideal S3x4608x9x768 .f32 :=
  minimumf (broadcastInDim S3x4608x9x768 ![] bcast_S_S3x4608x9x768 (id (constant S_ .f32 0x42FE0000#32))) (maximumf (broadcastInDim S3x4608x9x768 ![] bcast_S_S3x4608x9x768 (id (constant S_ .f32 0xC2FE0000#32))) (Host.roundeven (Host.divf (mulf (mulf (broadcastInDim S3x4608x9x768 ![] bcast_S_S3x4608x9x768 (constant S_ .f32 0x3F000000#32)) u) (addf (broadcastInDim S3x4608x9x768 ![] bcast_S_S3x4608x9x768 (constant S_ .f32 0x3F800000#32)) (Host.erf (Host.divf u (broadcastInDim S3x4608x9x768 ![] bcast_S_S3x4608x9x768 (constant S_ .f32 0x3FB504F3#32)))))) (broadcastInDim S3x4608x9x768 ![] bcast_S_S3x4608x9x768 a))))

/-- The residual after the second projection. -/
def secondR (a : FVec Ideal S_ .f32) (v : FVec Ideal S3x4608x9x192 .f32) (x : FVec Ideal S3x4608x9x768 .f32) (w : Vec Ideal S768x192 .i8) (s : FVec Ideal S192 .f32) : FVec Ideal S3x4608x9x192 .f32 :=
  addf v (mulf (mulf (Host.dotGeneral dot_S3x4608x9x768_S768x192_S3x4608x9x192_3_0_012_1_n_n none (truncf .bf16 x bitsLt_bf16_f32) (truncf .bf16 (sitofp .f32 (extsi 32 w natLt_8_32)) bitsLt_bf16_f32)) (broadcastInDim S3x4608x9x192 ![] bcast_S_S3x4608x9x192 a)) (broadcastInDim S3x4608x9x192 ![0, 1, 2, 3] bcast_S1x1x1x192_S3x4608x9x192_0_1_2_3 (broadcastInDim S1x1x1x192 ![3] bcast_S192_S1x1x1x192_3 s)))

/-- The low bytes of a normed column's codes, in the kernel's layout. -/
def bytes4R (x : FVec Ideal S3x4608x9x192 .f32) : IVec S3x9x192x4608 8 :=
  transpose S3x9x192x4608 [0, 2, 3, 1] (trunci 8 (fptosi 32 x) natLt_8_32) transposes_S3x4608x9x192_S3x9x192x4608_0_2_3_1

/-- The low bytes of the hidden layer's codes, in the kernel's layout. -/
def bytes5R (x : FVec Ideal S3x4608x9x768 .f32) : IVec S3x9x768x4608 8 :=
  transpose S3x9x768x4608 [0, 2, 3, 1] (trunci 8 (fptosi 32 x) natLt_8_32) transposes_S3x4608x9x768_S3x9x768x4608_0_2_3_1

/-- The stream in the kernel's layout, both layers' parts alike. -/
def streamR (x : FVec Ideal S3x4608x9x192 .f32) : FVec Ideal S2x3x9x192x4608 .f32 :=
  transpose S2x3x9x192x4608 [0, 1, 3, 4, 2] (concatenate S2x3x4608x9x192 0 [⟨S1x3x4608x9x192, (broadcastInDim S1x3x4608x9x192 ![1, 2, 3, 4] bcast_S3x4608x9x192_S1x3x4608x9x192_1_2_3_4 x)⟩, ⟨S1x3x4608x9x192, (broadcastInDim S1x3x4608x9x192 ![1, 2, 3, 4] bcast_S3x4608x9x192_S1x3x4608x9x192_1_2_3_4 x)⟩] concatenates_S1x3x4608x9x192_S1x3x4608x9x192_S2x3x4608x9x192_d0) transposes_S2x3x4608x9x192_S2x3x9x192x4608_0_1_3_4_2

theorem meanR_apply (x : FVec Ideal S3x4608x9x192 .f32) (b : Fin 3) (r : Fin 4608) (f : Fin 9) : meanR x (ix4 b r f 0) = mean fun d => x (ix4 b r f d) := by
  pointwise [meanR, mean]

theorem centredR_apply (x : FVec Ideal S3x4608x9x192 .f32) (v : FVec Ideal S3x4608x9x1 .f32) (b : Fin 3) (r : Fin 4608) (f : Fin 9) (d : Fin 192) :
    centredR x v (ix4 b r f d) = x (ix4 b r f d) - v (ix4 b r f 0) := by
  pointwise [centredR]

theorem scaledR_apply (x : FVec Ideal S3x4608x9x192 .f32) (v : FVec Ideal S3x4608x9x1 .f32) (b : Fin 3) (r : Fin 4608) (f : Fin 9) (d : Fin 192) :
    scaledR x v (ix4 b r f d) = Ideal.div (x (ix4 b r f d)) (Ideal.sqrt (v (ix4 b r f 0) + Ideal.ofBits .f32 925353388#32)) := by
  pointwise [scaledR]

theorem normR_apply (x : FVec Ideal S3x4608x9x192 .f32) (b : Fin 3) (r : Fin 4608) (f : Fin 9) (d : Fin 192) :
    normR x (ix4 b r f d) = layerNorm (fun d => x (ix4 b r f d)) d := by
  have hc : ∀ d, centredR x (meanR x) (ix4 b r f d) = centred (fun d => x (ix4 b r f d)) d := fun d => by
    rw [centredR_apply, meanR_apply]; rfl
  rw [← norm_eq]
  unfold normR spread
  rw [scaledR_apply, hc, meanR_apply]
  simp only [mulf_apply, Ideal.mulf_def, hc]

theorem codes4R_apply (a : FVec Ideal S_ .f32) (x : FVec Ideal S3x4608x9x192 .f32) (b : Fin 3) (r : Fin 4608) (f : Fin 9) (d : Fin 192) :
    codes4R a x (ix4 b r f d) = quant (a ix0) (x (ix4 b r f d)) := by
  pointwise [codes4R, quant]
  rfl

theorem codes5R_apply (a : FVec Ideal S_ .f32) (x : FVec Ideal S3x4608x9x768 .f32) (b : Fin 3) (r : Fin 4608) (f : Fin 9) (d : Fin 768) :
    codes5R a x (ix4 b r f d) = quant (a ix0) (gelu (x (ix4 b r f d))) := by
  pointwise [codes5R, quant, gelu]
  rfl

theorem firstR_apply (a : FVec Ideal S_ .f32) (c : Vec Ideal S3x9x192x4608 .i8) (h : Vec Ideal S3x9x192x4608 .f32) (w : Vec Ideal S192x192 .i8) (s : FVec Ideal S192 .f32)
    (b : Fin 3) (r : Fin 4608) (f : Fin 9) (d : Fin 192) :
    firstR a c h w s (ix4 b r f d) = h (ix4 b f d r)
      + lin (fun o i => FloatOps.sitofp (F := Ideal) .f32 (w (ix2 i o)))
        (scales (a ix0) fun o => s (ix1 o)) (fun i => FloatOps.sitofp (F := Ideal) .f32 (c (ix4 b f i r))) d := by
  rw [← lin_eq]
  pointwise [firstR]
  simp only [extended]

theorem hiddenR_apply (a : FVec Ideal S_ .f32) (x : FVec Ideal S3x4608x9x192 .f32) (w : Vec Ideal S192x768 .i8) (s : FVec Ideal S768 .f32)
    (b : Fin 3) (r : Fin 4608) (f : Fin 9) (d : Fin 768) :
    hiddenR a x w s (ix4 b r f d)
      = lin (fun o i => FloatOps.sitofp (F := Ideal) .f32 (w (ix2 i o))) (scales (a ix0) fun o => s (ix1 o)) (fun i => x (ix4 b r f i)) d := by
  rw [← lin_eq]
  pointwise [hiddenR]
  simp only [extended]

theorem secondR_apply (a : FVec Ideal S_ .f32) (v : FVec Ideal S3x4608x9x192 .f32) (x : FVec Ideal S3x4608x9x768 .f32) (w : Vec Ideal S768x192 .i8) (s : FVec Ideal S192 .f32)
    (b : Fin 3) (r : Fin 4608) (f : Fin 9) (d : Fin 192) :
    secondR a v x w s (ix4 b r f d) = v (ix4 b r f d)
      + lin (fun o i => FloatOps.sitofp (F := Ideal) .f32 (w (ix2 i o))) (scales (a ix0) fun o => s (ix1 o)) (fun i => x (ix4 b r f i)) d := by
  rw [← lin_eq]
  pointwise [secondR]
  simp only [extended]

theorem bytes4R_apply (x : FVec Ideal S3x4608x9x192 .f32) (b : Fin 3) (r : Fin 4608) (f : Fin 9) (d : Fin 192) :
    bytes4R x (ix4 b f d r) = BitVec.setWidth 8 (FloatOps.fptosi (F := Ideal) (φ := .f32) 32 (x (ix4 b r f d))) := by
  pointwise [bytes4R]

theorem bytes5R_apply (x : FVec Ideal S3x4608x9x768 .f32) (b : Fin 3) (r : Fin 4608) (f : Fin 9) (d : Fin 768) :
    bytes5R x (ix4 b f d r) = BitVec.setWidth 8 (FloatOps.fptosi (F := Ideal) (φ := .f32) 32 (x (ix4 b r f d))) := by
  pointwise [bytes5R]

theorem streamR_apply (x : FVec Ideal S3x4608x9x192 .f32) (b : Fin 3) (r : Fin 4608) (f : Fin 9) (d : Fin 192) :
    streamR x (ix5 0 b f d r) = x (ix4 b r f d) := by
  pointwise [streamR]

section

variable (a3 a4 a5 : FVec Ideal S_ .f32) (c : Vec Ideal S3x9x192x4608 .i8) (h : Vec Ideal S3x9x192x4608 .f32) (wo : Vec Ideal S192x192 .i8)
    (so : FVec Ideal S192 .f32) (w1 : Vec Ideal S192x768 .i8) (s1 : FVec Ideal S768 .f32) (w2 : Vec Ideal S768x192 .i8) (s2 : FVec Ideal S192 .f32)

/-- The normed columns after attention. -/
def firstAll : FVec Ideal S3x4608x9x192 .f32 := normR (firstR a3 c h wo so)

/-- Their codes. -/
def codes4All : FVec Ideal S3x4608x9x192 .f32 := codes4R a4 (firstAll a3 c h wo so)

/-- The hidden layer's codes. -/
def codes5All : FVec Ideal S3x4608x9x768 .f32 := codes5R a5 (hiddenR a4 (codes4All a3 a4 c h wo so) w1 s1)

/-- The layer's output. -/
def secondAll : FVec Ideal S3x4608x9x192 .f32 :=
  normR (secondR a5 (firstAll a3 c h wo so) (codes5All a3 a4 a5 c h wo so w1 s1) w2 s2)

/-- The layer that a layer's weights and scales give. -/
structure Gives (L : Layer) : Prop where
  wo : ∀ o i, FloatOps.sitofp (F := Ideal) .f32 (wo (ix2 i o)) = L.wo o i
  so : scales (a3 ix0) (fun o => so (ix1 o)) = L.so
  w1 : ∀ o i, FloatOps.sitofp (F := Ideal) .f32 (w1 (ix2 i o)) = L.w1 o i
  s1 : scales (a4 ix0) (fun o => s1 (ix1 o)) = L.s1
  w2 : ∀ o i, FloatOps.sitofp (F := Ideal) .f32 (w2 (ix2 i o)) = L.w2 o i
  s2 : scales (a5 ix0) (fun o => s2 (ix1 o)) = L.s2
  a4 : a4 ix0 = L.a4
  a5 : a5 ix0 = L.a5

end

section

variable {a3 a4 a5 : FVec Ideal S_ .f32} {wo : Vec Ideal S192x192 .i8} {so : FVec Ideal S192 .f32} {w1 : Vec Ideal S192x768 .i8} {s1 : FVec Ideal S768 .f32}
    {w2 : Vec Ideal S768x192 .i8} {s2 : FVec Ideal S192 .f32} {L : Layer} (D : Gives a3 a4 a5 wo so w1 s1 w2 s2 L)
    (c : Vec Ideal S3x9x192x4608 .i8) (h : Vec Ideal S3x9x192x4608 .f32) (b : Fin 3) (r : Fin 4608) (f : Fin 9)

include D

theorem firstAll_apply (d : Fin 192) : firstAll a3 c h wo so (ix4 b r f d) = columnOf L c h b f r d := by
  rw [firstAll, normR_apply]
  simp only [firstR_apply, D.wo, D.so]
  rfl

theorem codes4All_apply (d : Fin 192) : codes4All a3 a4 c h wo so (ix4 b r f d) = quant L.a4 (columnOf L c h b f r d) := by
  rw [codes4All, codes4R_apply, firstAll_apply D, D.a4]

theorem codes5All_apply (d : Fin 768) : codes5All a3 a4 a5 c h wo so w1 s1 (ix4 b r f d) = L.hidden (columnOf L c h b f r) d := by
  rw [codes5All, codes5R_apply, hiddenR_apply]
  simp only [codes4All_apply D, D.a5, D.w1, D.s1]
  rfl

theorem secondAll_apply (d : Fin 192) : secondAll a3 a4 a5 c h wo so w1 s1 w2 s2 (ix4 b r f d) = L.second (columnOf L c h b f r) d := by
  rw [secondAll, normR_apply]
  simp only [secondR_apply, firstAll_apply D, codes5All_apply D, D.w2, D.s2]
  rfl

theorem bytes4_apply (d : Fin 192) : bytes4R (codes4All a3 a4 c h wo so) (ix4 b f d r) = byte (quant L.a4 (columnOf L c h b f r d)) := by
  rw [bytes4R_apply, codes4All_apply D, byte_of_code]
  rfl

theorem bytes5_apply (d : Fin 768) : bytes5R (codes5All a3 a4 a5 c h wo so w1 s1) (ix4 b f d r) = byte (L.hidden (columnOf L c h b f r) d) := by
  rw [bytes5R_apply, codes5All_apply D]
  exact byte_of_code _ _

end

end Cert.MlpRefIdeal.Hand

end
-- ==== Proof.MlpRefLayer.lean ====
module

public import proofs.«01_k».proof.Proof.MlpRef
public import proofs.«01_k».proof.Proof.Gen.MlpRefIdeal.Run

@[expose] public section

set_option maxRecDepth 16384

noncomputable section

/-!
The reference of the first layer: its slices of the arguments, and its results as the named steps.
-/

namespace Cert.MlpRefIdeal.Hand

open Cert.MlpRefIdeal Cert.MlpRefIdeal.Gen Cert.Column
open Idealize.ShloMosaic Idealize.ShloMosaic.TcCoe
open Idealize.ShloMosaic (ix1 ix2 ix3 ix4 ix5)

/-- One static scale of the layer. -/
def scaleR (k : ℕ) (hk : S6.Slices ![k] S1) (a : Vec Ideal S2x6 .f32) : FVec Ideal S_ .f32 :=
  shapeCast _ (extractStridedSlice S1 ![k] (shapeCast S6 (extractStridedSlice S1x6 ![0, 0] a slices_S2x6_S1x6_0_0) shapeCasts_S1x6_S6) hk) shapeCasts_S1_S_

/-- The codes of attention's output projection. -/
def outW (w : Vec Ideal S2x6x32x192 .i8) : Vec Ideal S192x192 .i8 :=
  shapeCast _ (shapeCast _ (extractStridedSlice S1x6x32x192 ![0, 0, 0, 0] w slices_S2x6x32x192_S1x6x32x192_0_0_0_0) shapeCasts_S1x6x32x192_S6x32x192) shapeCasts_S6x32x192_S192x192

/-- The scales of a layer with 192 outputs. -/
def outS (s : Vec Ideal S2x192 .f32) : FVec Ideal S192 .f32 :=
  shapeCast _ (extractStridedSlice S1x192 ![0, 0] s slices_S2x192_S1x192_0_0) shapeCasts_S1x192_S192

/-- The codes of the first projection. -/
def upW (w : Vec Ideal S2x192x768 .i8) : Vec Ideal S192x768 .i8 :=
  shapeCast _ (extractStridedSlice S1x192x768 ![0, 0, 0] w slices_S2x192x768_S1x192x768_0_0_0) shapeCasts_S1x192x768_S192x768

/-- The scales of the first projection. -/
def upS (s : Vec Ideal S2x768 .f32) : FVec Ideal S768 .f32 :=
  shapeCast _ (extractStridedSlice S1x768 ![0, 0] s slices_S2x768_S1x768_0_0) shapeCasts_S1x768_S768

/-- The codes of the second projection. -/
def downW (w : Vec Ideal S2x768x192 .i8) : Vec Ideal S768x192 .i8 :=
  shapeCast _ (extractStridedSlice S1x768x192 ![0, 0, 0] w slices_S2x768x192_S1x768x192_0_0_0) shapeCasts_S1x768x192_S768x192

/-- The first layer's slices of the arguments give the first layer. -/
theorem layer_gives (A : Vec Ideal S2x6 .f32) (wo : Vec Ideal S2x6x32x192 .i8) (so : Vec Ideal S2x192 .f32) (w1 : Vec Ideal S2x192x768 .i8) (s1 : Vec Ideal S2x768 .f32)
    (w2 : Vec Ideal S2x768x192 .i8) (s2 : Vec Ideal S2x192 .f32) :
    Gives (scaleR 3 slices_S6_S1_3 A) (scaleR 4 slices_S6_S1_4 A) (scaleR 5 slices_S6_S1_5 A) (outW wo) (outS so) (upW w1) (upS s1) (downW w2) (outS s2)
      (layerOf 0 A wo so w1 s1 w2 s2) where
  a4 := by pointwise [scaleR, layerOf]
  a5 := by pointwise [scaleR, layerOf]
  wo o i := by pointwise [outW, layerOf]
  so := by funext o; pointwise [scales, scaleR, outS, layerOf]
  w1 o i := by pointwise [upW, layerOf]
  s1 := by funext o; pointwise [scales, scaleR, upS, layerOf]
  w2 o i := by pointwise [downW, layerOf]
  s2 := by funext o; pointwise [scales, scaleR, outS, layerOf]

/-- The layer's codes after attention. -/
def codes4L (A : Vec Ideal S2x6 .f32) (c : Vec Ideal S3x9x192x4608 .i8) (h : Vec Ideal S3x9x192x4608 .f32) (wo : Vec Ideal S2x6x32x192 .i8) (so : Vec Ideal S2x192 .f32) :=
  codes4All (scaleR 3 slices_S6_S1_3 A) (scaleR 4 slices_S6_S1_4 A) c h (outW wo) (outS so)

/-- The layer's hidden codes. -/
def codes5L (A : Vec Ideal S2x6 .f32) (c : Vec Ideal S3x9x192x4608 .i8) (h : Vec Ideal S3x9x192x4608 .f32) (wo : Vec Ideal S2x6x32x192 .i8) (so : Vec Ideal S2x192 .f32) (w1 : Vec Ideal S2x192x768 .i8) (s1 : Vec Ideal S2x768 .f32) :=
  codes5All (scaleR 3 slices_S6_S1_3 A) (scaleR 4 slices_S6_S1_4 A) (scaleR 5 slices_S6_S1_5 A) c h (outW wo) (outS so) (upW w1) (upS s1)

/-- The layer's output. -/
def secondL (A : Vec Ideal S2x6 .f32) (c : Vec Ideal S3x9x192x4608 .i8) (h : Vec Ideal S3x9x192x4608 .f32) (wo : Vec Ideal S2x6x32x192 .i8) (so : Vec Ideal S2x192 .f32) (w1 : Vec Ideal S2x192x768 .i8) (s1 : Vec Ideal S2x768 .f32) (w2 : Vec Ideal S2x768x192 .i8) (s2 : Vec Ideal S2x192 .f32) :=
  secondAll (scaleR 3 slices_S6_S1_3 A) (scaleR 4 slices_S6_S1_4 A) (scaleR 5 slices_S6_S1_5 A) c h (outW wo) (outS so) (upW w1) (upS s1) (downW w2) (outS s2)

variable (V0 : Valuation τ sig (Elt Ideal))

theorem res4_eq : Value.res_main_v45 V0 = codes4L (V0 (Proc.devRef .tc main_arg0)) (V0 (Proc.devRef .tc main_arg1)) (V0 (Proc.devRef .tc main_arg2)) (V0 (Proc.devRef .tc main_arg3)) (V0 (Proc.devRef .tc main_arg4)) := rfl

theorem res5_eq : Value.res_main_v75 V0 = codes5L (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := rfl

theorem res1_eq : Value.res_main_v108 V0 = secondL (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := rfl

end Cert.MlpRefIdeal.Hand

end
-- ==== Proof.MlpEq.lean ====
module

public import proofs.«01_k».proof.Proof.MlpArray
public import proofs.«01_k».proof.Proof.MlpRefLayer
public import proofs.«01_k».proof.Proof.Gen.MlpRefIdeal.Run
public import proofs.«01_k».proof.Proof.Gen.On_first_layer

@[expose] public section

set_option maxRecDepth 16384

noncomputable section

/-!
The reference's arrays are the kernel's: both read at a column give the layer's values of that column. Of the
stream, whose array has a part for each of the two layers, this holds on the first layer's part.
-/

namespace Cert.MlpRefIdeal.Hand

open Idealize.ShloMosaic Idealize.ShloMosaic.TcCoe Idealize.SL.Sem
open Idealize.ShloMosaic (ix2 ix3 ix4 ix5)

variable (m : (ℓ : Loc nD τ sig) → Buf (Elt Ideal) ℓ) (ρ : Dev nD → PrngReg)

/-- The reference's run: its three results as functions of the arguments, which are unchanged. -/
theorem run_value : θ_run defs (onTc (τ := τ) (main (F := Ideal))) ⟨m, fun _ => 0, ρ⟩ fun r => ∀ c : Dev nD,
      r.2.mem ((c : Thread nD τ).loc main_v116) = streamR (secondL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c : Thread nD τ).loc main_v117) = bytes4R (codes4L (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v118) = bytes5R (codes5L (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (congrArg streamR (res1_eq _)), (h c).2.1.trans (congrArg bytes4R (res4_eq _)),
      (h c).2.2.1.trans (congrArg bytes5R (res5_eq _)), (h c).2.2.2⟩)
    (Value.run m ρ)

end Cert.MlpRefIdeal.Hand

namespace Cert.On_first_layer

open Idealize.ShloMosaic
open Cert.On_first_layer.Gen (facts)

/-- The mask of the stream is set on the first layer's part. -/
theorem first_of_mask (a : FVec Ideal S2x6 .f32) (c : IVec S3x9x192x4608 8) (h : FVec Ideal S3x9x192x4608 .f32) (wo : IVec S2x6x32x192 8)
    (so : FVec Ideal S2x192 .f32) (w1 : IVec S2x192x768 8) (s1 : FVec Ideal S2x768 .f32) (w2 : IVec S2x768x192 8) (s2 : FVec Ideal S2x192 .f32)
    (i : S2x3x9x192x4608.Idx) (hi : (fn a c h wo so w1 s1 w2 s2).1 i = 1#1) : (i 0).val = 0 := by
  have key : ∀ l < 2, IntOp.cmpi .slt (BitVec.ofNat 32 l) 1#32 = 1#1 → l = 0 := by decide
  exact key _ (i 0).isLt hi

end Cert.On_first_layer

namespace Cert.Column

open Cert.MlpRefIdeal.Hand
open Cert.MlpIdeal (nD τ sig main_arg0 main_arg1 main_arg2 main_arg3 main_arg4 main_arg5 main_arg6 main_arg7 main_arg8)
open Cert.MlpIdeal.Hand (streamM codes4M codes5M)
open Idealize.ShloMosaic Idealize.ShloMosaic.TcCoe
open Idealize.ShloMosaic (ix2 ix3 ix4 ix5)

variable (m : (ℓ : Loc nD τ sig) → Buf (Elt Ideal) ℓ) (c : Dev nD)

theorem codes4_eq : bytes4R (codes4L (m ((c : Thread nD τ).loc main_arg0)) (m ((c : Thread nD τ).loc main_arg1)) (m ((c : Thread nD τ).loc main_arg2)) (m ((c : Thread nD τ).loc main_arg3)) (m ((c : Thread nD τ).loc main_arg4))) = codes4M m c := by
  funext i
  obtain ⟨b, f, d, r, rfl⟩ : ∃ b f d r, i = ix4 b f d r := ⟨_, _, _, _, eq_ix4 i⟩
  exact bytes4_apply (layer_gives (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) b r f d

theorem codes5_eq : bytes5R (codes5L (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) = codes5M m c := by
  funext i
  obtain ⟨b, f, d, r, rfl⟩ : ∃ b f d r, i = ix4 b f d r := ⟨_, _, _, _, eq_ix4 i⟩
  exact bytes5_apply (layer_gives (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) b r f d

theorem stream_eq (i : Cert.MlpIdeal.S2x3x9x192x4608.Idx) (hi : (i 0).val = 0) : streamR (secondL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) i = streamM m c i := by
  obtain ⟨l, b, f, d, r, rfl⟩ : ∃ l b f d r, i = ix5 l b f d r := ⟨_, _, _, _, _, eq_ix5 i⟩
  obtain rfl : l = 0 := Fin.ext hi
  rw [streamR_apply]
  exact secondAll_apply (layer_gives (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) b r f d

end Cert.Column

end
-- ==== Proof.LastBlock.lean ====
module

public import proofs.«01_k».proof.Proof.MlpBlock
public import proofs.«01_k».proof.Proof.Gen.LastIdeal.Value

@[expose] public section

set_option maxRecDepth 16384

noncomputable section

/-!
What a grid point of the second layer's call leaves in its block of the stream: the first layer's computation on the
second layer's blocks.
-/

namespace Cert.LastIdeal.Hand

open Cert.LastIdeal Cert.LastIdeal.Gen Cert.Column
open Cert.MlpIdeal.Hand (hz2 hz4 hz5)
open Idealize.ShloMosaic Idealize.ShloMosaic.TcCoe Idealize.ShloMosaic.Tactic
open Idealize.SL Idealize.SL.Sem
open Idealize.ShloMosaic (ix2 ix3 ix4 ix5)

/-- The stream's block as the body computes it from what it loads. -/
def outPay (a4 a5 : Elt Ideal .f32) (c : Vec Ideal S1x1x192x512 .i8) (h : Vec Ideal S1x1x192x512 .f32) (wo : Vec Ideal S192x192 .bf16) (so : Vec Ideal S192x128 .f32)
    (w1 : Vec Ideal S768x192 .bf16) (s1 : Vec Ideal S768x128 .f32) (w2 : Vec Ideal S192x768 .bf16) (s2 : Vec Ideal S192x128 .f32) : FVec Ideal S1x1x1x192x512 .f32 :=
  k0_pay1 (k0_pay3 a4 a5 (k0_pay2 c h wo so) w1 s1 w2 s2) (k0_pay4 a4 a5 (k0_pay2 c h wo so) w1 s1 w2 s2) (Scalar.ofBits .f32 0x43400000#32)

theorem first_same (c : Vec Ideal S1x1x192x512 .i8) (h : Vec Ideal S1x1x192x512 .f32) (wo : Vec Ideal S192x192 .bf16) (so : Vec Ideal S192x128 .f32) :
    k0_pay2 c h wo so = Cert.MlpIdeal.Gen.k0_pay2 c h wo so := by
  unfold k0_pay2 Cert.MlpIdeal.Gen.k0_pay2
  rfl

theorem second_same (a4 a5 : Elt Ideal .f32) (v : FVec Ideal S192x512 .f32)
    (w1 : Vec Ideal S768x192 .bf16) (s1 : Vec Ideal S768x128 .f32) (w2 : Vec Ideal S192x768 .bf16) (s2 : Vec Ideal S192x128 .f32) :
    k0_pay1 (k0_pay3 a4 a5 v w1 s1 w2 s2) (k0_pay4 a4 a5 v w1 s1 w2 s2) (Scalar.ofBits .f32 0x43400000#32)
      = Cert.MlpIdeal.Gen.k0_pay1 v (Cert.MlpIdeal.Gen.k0_pay4 a4 a5 v w1 s1) w2 s2 := by
  unfold k0_pay1 k0_pay4 k0_pay3 Cert.MlpIdeal.Gen.k0_pay1 Cert.MlpIdeal.Gen.k0_pay4 Cert.MlpIdeal.Gen.k0_pay3
  rfl

/-- It is what the first layer's body computes. -/
theorem outPay_eq (a4 a5 : Elt Ideal .f32) (c : Vec Ideal S1x1x192x512 .i8) (h : Vec Ideal S1x1x192x512 .f32) (wo : Vec Ideal S192x192 .bf16) (so : Vec Ideal S192x128 .f32)
    (w1 : Vec Ideal S768x192 .bf16) (s1 : Vec Ideal S768x128 .f32) (w2 : Vec Ideal S192x768 .bf16) (s2 : Vec Ideal S192x128 .f32) :
    outPay a4 a5 c h wo so w1 s1 w2 s2
      = Cert.MlpIdeal.Gen.k0_pay1 (Cert.MlpIdeal.Gen.k0_pay2 c h wo so) (Cert.MlpIdeal.Gen.k0_pay4 a4 a5 (Cert.MlpIdeal.Gen.k0_pay2 c h wo so) w1 s1) w2 s2 := by
  rw [outPay, second_same, first_same]

theorem scalar4 (x : Vec Ideal S2x6 .f32) : View.ld x (Rect.unit (s := S2x6) ![1, 4] S1x1.size inb_S2x6_S1x1_1_4) (Shape.Idx.first (numel1_S1x1.symm ▸ Nat.one_pos)) = x (ix2 1 4) :=
  congrArg x (funext fun a => by fin_cases a <;> rfl)

theorem scalar5 (x : Vec Ideal S2x6 .f32) : View.ld x (Rect.unit (s := S2x6) ![1, 5] S1x1.size inb_S2x6_S1x1_1_5) (Shape.Idx.first (numel1_S1x1.symm ▸ Nat.one_pos)) = x (ix2 1 5) :=
  congrArg x (funext fun a => by fin_cases a <;> rfl)

section

variable (c : Dev nD) (i : grid0.Coords) (arg3 : Memref sig .tc .smem S2x6 .f32) (harg3 : arg3.IsWhole) (arg4 : Memref sig .tc .vmem S1x1x192x512 .i8) (harg4 : arg4.IsWhole) (arg5 : Memref sig .tc .vmem S1x1x192x512 .f32) (harg5 : arg5.IsWhole) (arg6 : Memref sig .tc .vmem S192x192 .bf16) (harg6 : arg6.IsWhole) (arg7 : Memref sig .tc .vmem S192x128 .f32) (harg7 : arg7.IsWhole) (arg8 : Memref sig .tc .vmem S768x192 .bf16) (harg8 : arg8.IsWhole) (arg9 : Memref sig .tc .vmem S768x128 .f32) (harg9 : arg9.IsWhole) (arg10 : Memref sig .tc .vmem S192x768 .bf16) (harg10 : arg10.IsWhole) (arg11 : Memref sig .tc .vmem S192x128 .f32) (harg11 : arg11.IsWhole) (arg13 : Memref sig .tc .vmem S1x1x1x192x512 .f32) (harg13 : arg13.IsWhole)
    (x0 : Vec Ideal S2x6 .f32) (x1 : Vec Ideal S1x1x192x512 .i8) (x2 : Vec Ideal S1x1x192x512 .f32) (x3 : Vec Ideal S192x192 .bf16) (x4 : Vec Ideal S192x128 .f32) (x5 : Vec Ideal S768x192 .bf16) (x6 : Vec Ideal S768x128 .f32) (x7 : Vec Ideal S192x768 .bf16) (x8 : Vec Ideal S192x128 .f32)

theorem out9_eq : out0_A_9 (F := Ideal) c i arg3 harg3 arg4 harg4 arg5 harg5 arg6 harg6 arg7 harg7 arg8 harg8 arg9 harg9 arg10 harg10 arg11 harg11 arg13 harg13 x0 x1 x2 x3 x4 x5 x6 x7 x8
    = outPay (x0 (ix2 1 4)) (x0 (ix2 1 5)) x1 x2 x3 x4 x5 x6 x7 x8 := by
  unfold out0_A_9
  rw [View.read_writes_junk_eq_canon]
  show View.canon ([⟨Rect.unit (s := S1x1x1x192x512) ![0, 0, 0, 0, 0] S1x1x1x192x512.size inb_S1x1x1x192x512_S1x1x1x192x512_0_0_0_0_0,
      outPay (View.readAt (Elt Ideal) arg3.view (Rect.unit (s := S2x6) ![1, 4] S1x1.size inb_S2x6_S1x1_1_4).toLoadRect (harg3.unread x0) (Shape.Idx.first (numel1_S1x1.symm ▸ Nat.one_pos))) (View.readAt (Elt Ideal) arg3.view (Rect.unit (s := S2x6) ![1, 5] S1x1.size inb_S2x6_S1x1_1_5).toLoadRect (harg3.unread x0) (Shape.Idx.first (numel1_S1x1.symm ▸ Nat.one_pos))) (View.readAt (Elt Ideal) arg4.view (Rect.unit (s := S1x1x192x512) ![0, 0, 0, 0] S1x1x192x512.size inb_S1x1x192x512_S1x1x192x512_0_0_0_0).toLoadRect (harg4.unread x1)) (View.readAt (Elt Ideal) arg5.view (Rect.unit (s := S1x1x192x512) ![0, 0, 0, 0] S1x1x192x512.size inb_S1x1x192x512_S1x1x192x512_0_0_0_0).toLoadRect (harg5.unread x2)) (View.readAt (Elt Ideal) arg6.view (Rect.unit (s := S192x192) ![0, 0] S192x192.size inb_S192x192_S192x192_0_0).toLoadRect (harg6.unread x3)) (View.readAt (Elt Ideal) arg7.view (Rect.unit (s := S192x128) ![0, 0] S192x128.size inb_S192x128_S192x128_0_0).toLoadRect (harg7.unread x4)) (View.readAt (Elt Ideal) arg8.view (Rect.unit (s := S768x192) ![0, 0] S768x192.size inb_S768x192_S768x192_0_0).toLoadRect (harg8.unread x5)) (View.readAt (Elt Ideal) arg9.view (Rect.unit (s := S768x128) ![0, 0] S768x128.size inb_S768x128_S768x128_0_0).toLoadRect (harg9.unread x6)) (View.readAt (Elt Ideal) arg10.view (Rect.unit (s := S192x768) ![0, 0] S192x768.size inb_S192x768_S192x768_0_0).toLoadRect (harg10.unread x7)) (View.readAt (Elt Ideal) arg11.view (Rect.unit (s := S192x128) ![0, 0] S192x128.size inb_S192x128_S192x128_0_0).toLoadRect (harg11.unread x8))⟩] : List (View.Piece (Elt Ideal) S1x1x1x192x512 .f32)) = _
  rw [View.canon_unit_zero hz5]
  repeat rw [View.readAt_eq_ld]
  rw [harg3.read_unread, harg4.read_unread, harg5.read_unread, harg6.read_unread, harg7.read_unread, harg8.read_unread, harg9.read_unread, harg10.read_unread, harg11.read_unread, View.ld_unit_zero hz4, View.ld_unit_zero hz4, View.ld_unit_zero hz2, View.ld_unit_zero hz2, View.ld_unit_zero hz2, View.ld_unit_zero hz2, View.ld_unit_zero hz2, View.ld_unit_zero hz2]
  rw [scalar4, scalar5]

end

end Cert.LastIdeal.Hand

end
-- ==== Proof.LastEntry.lean ====
module

public import proofs.«01_k».proof.Proof.MlpMath
public import proofs.«01_k».proof.Proof.Gen.LastIdeal.Value

@[expose] public section

set_option maxRecDepth 16384

noncomputable section

/-!
What the weight and scale operands of the second layer's call hold when its grid starts, place by place, and what the
stream's array then holds.
-/

namespace Cert.LastIdeal.Hand

open Cert.LastIdeal Cert.LastIdeal.Gen Cert.Column
open Idealize.ShloMosaic Idealize.ShloMosaic.TcCoe Idealize.ShloMosaic.Tactic
open Idealize.SL Idealize.SL.Sem
open Idealize.ShloMosaic (ix1 ix2 ix3 ix4 ix5)

variable (m : (ℓ : Loc nD τ sig) → Buf (Elt Ideal) ℓ) (c : Dev nD)

/-- The second layer of device `c`'s argument arrays. -/
def layerM : Layer :=
  layerOf 1 (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem entry_wo (o i : Fin 192) : V m c main_v8 (ix2 o i) = (layerM m c).wo o i := by
  entry_read
  pointwise [layerM, layerOf]
  exact extended _

theorem entry_so (o : Fin 192) (j : Fin 128) : V m c main_v16 (ix2 o j) = (layerM m c).so o := by
  entry_read
  pointwise [layerM, layerOf]

theorem entry_w1 (o : Fin 768) (i : Fin 192) : V m c main_v22 (ix2 o i) = (layerM m c).w1 o i := by
  entry_read
  pointwise [layerM, layerOf, extended]

theorem entry_s1 (o : Fin 768) (j : Fin 128) : V m c main_v30 (ix2 o j) = (layerM m c).s1 o := by
  entry_read
  pointwise [layerM, layerOf]

theorem entry_w2 (o : Fin 192) (i : Fin 768) : V m c main_v36 (ix2 o i) = (layerM m c).w2 o i := by
  entry_read
  pointwise [layerM, layerOf, extended]

theorem entry_s2 (o : Fin 192) (j : Fin 128) : V m c main_v44 (ix2 o j) = (layerM m c).s2 o := by
  entry_read
  pointwise [layerM, layerOf]

/-- The stream's array starts as a copy of the argument. -/
theorem entry_stream (l : Fin 2) (b : Fin 3) (f : Fin 9) (d : Fin 192) (r : Fin 4608) :
    V m c main_v45 (ix5 l b f d r) = m ((c : Thread nD τ).loc main_arg9) (ix5 l b f d r) := by
  entry_read
  rfl

end Cert.LastIdeal.Hand

end
-- ==== Proof.LastArray.lean ====
module

public import proofs.«01_k».proof.Proof.LastBlock
public import proofs.«01_k».proof.Proof.LastEntry
public import Idealize.ShloMosaic.Lib.Pipeline.ValueKit
public import Idealize.ShloMosaic.Lib.Pipeline.ValueKit.Partial

@[expose] public section

set_option maxRecDepth 16384

noncomputable section

/-!
The result array after the whole run of the second layer's call: its second part holds, column by column, the layer's value
of the column of the arguments, its first part is the stream handed over.
-/

namespace Cert.LastIdeal.Hand

open Cert.LastIdeal Cert.LastIdeal.Gen Cert.Column
open Cert.MlpIdeal.Hand (Describes stream_apply)
open Idealize.ShloMosaic Idealize.ShloMosaic.TcCoe Idealize.ShloMosaic.Tactic
open Idealize.SL Idealize.SL.Sem
open Idealize.ShloMosaic (ix1 ix2 ix3 ix4 ix5)
open Idealize.ShloMosaic.Pipeline (Dat Cfg Window)

variable (m : (ℓ : Loc nD τ sig) → Buf (Elt Ideal) ℓ) (ρ : Dev nD → PrngReg) (c : Dev nD)

/-- The index maps over the grid. -/
theorem idx_facts : ∀ t : Fin grid0.N, win0_0.index t = ![0, 0]
    ∧ win0_1.index t = ![(grid0.coords t 0).val, (grid0.coords t 1).val, 0, (grid0.coords t 2).val]
    ∧ win0_2.index t = ![(grid0.coords t 0).val, (grid0.coords t 1).val, 0, (grid0.coords t 2).val]
    ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![1, (grid0.coords t 0).val, (grid0.coords t 1).val, 0, (grid0.coords t 2).val] := by decide +kernel

abbrev gb (t : Fin cfg0.N) : Fin 3 := grid0.coords t 0
abbrev gf (t : Fin cfg0.N) : Fin 9 := grid0.coords t 1
abbrev gr (t : Fin cfg0.N) : Fin 9 := grid0.coords t 2

/-- The position of lane `l` of a grid point's blocks. -/
abbrev pos (t : Fin cfg0.N) (l : Fin 512) : Fin 4608 := ⟨(gr t).val * 512 + l.val, by have := (gr t).isLt; omega⟩

theorem iblk0_apply (t : Fin cfg0.N) (i : Fin 2) (j : Fin 6) : iblk m c 0 t (ix2 i j) = m ((c : Thread nD τ).loc main_arg0) (ix2 i j) := by
  rw [← V_main_arg0 m c]
  blk_ext [iblk, idx_facts t]

theorem iblk1_apply (t : Fin cfg0.N) (d : Fin 192) (l : Fin 512) :
    iblk m c 1 t (ix4 0 0 d l) = m ((c : Thread nD τ).loc main_arg1) (ix4 (gb t) (gf t) d (pos t l)) := by
  rw [← V_main_arg1 m c]
  blk_ext [iblk, idx_facts t] <;> rfl

theorem iblk2_apply (t : Fin cfg0.N) (d : Fin 192) (l : Fin 512) :
    iblk m c 2 t (ix4 0 0 d l) = m ((c : Thread nD τ).loc main_arg2) (ix4 (gb t) (gf t) d (pos t l)) := by
  rw [← V_main_arg2 m c]
  blk_ext [iblk, idx_facts t] <;> rfl

theorem iblk3_apply (t : Fin cfg0.N) (o : Fin 192) (i : Fin 192) : iblk m c 3 t (ix2 o i) = (layerM m c).wo o i := by
  rw [← entry_wo m c o i]
  blk_ext [iblk, idx_facts t]

theorem iblk4_apply (t : Fin cfg0.N) (o : Fin 192) (i : Fin 128) : iblk m c 4 t (ix2 o i) = (layerM m c).so o := by
  rw [← entry_so m c o i]
  blk_ext [iblk, idx_facts t]

theorem iblk5_apply (t : Fin cfg0.N) (o : Fin 768) (i : Fin 192) : iblk m c 5 t (ix2 o i) = (layerM m c).w1 o i := by
  rw [← entry_w1 m c o i]
  blk_ext [iblk, idx_facts t]

theorem iblk6_apply (t : Fin cfg0.N) (o : Fin 768) (i : Fin 128) : iblk m c 6 t (ix2 o i) = (layerM m c).s1 o := by
  rw [← entry_s1 m c o i]
  blk_ext [iblk, idx_facts t]

theorem iblk7_apply (t : Fin cfg0.N) (o : Fin 192) (i : Fin 768) : iblk m c 7 t (ix2 o i) = (layerM m c).w2 o i := by
  rw [← entry_w2 m c o i]
  blk_ext [iblk, idx_facts t]

theorem iblk8_apply (t : Fin cfg0.N) (o : Fin 192) (i : Fin 128) : iblk m c 8 t (ix2 o i) = (layerM m c).s2 o := by
  rw [← entry_s2 m c o i]
  blk_ext [iblk, idx_facts t]

/-- A grid point's staged weights and scales describe the second layer. -/
theorem describes (t : Fin cfg0.N) : Describes (layerM m c) (iblk m c 0 t (ix2 1 4)) (iblk m c 0 t (ix2 1 5)) (iblk m c 3 t) (iblk m c 4 t)
    (iblk m c 5 t) (iblk m c 6 t) (iblk m c 7 t) (iblk m c 8 t) where
  a4 := iblk0_apply m c t 1 4
  a5 := iblk0_apply m c t 1 5
  wo := iblk3_apply m c t
  so := iblk4_apply m c t
  w1 := iblk5_apply m c t
  s1 := iblk6_apply m c t
  w2 := iblk7_apply m c t
  s2 := iblk8_apply m c t

/-- The column of position `r` and feature `f` of batch `b`, after attention. -/
def columnM (b : Fin 3) (f : Fin 9) (r : Fin 4608) : Fin 192 → EReal :=
  columnOf (layerM m c) (m ((c : Thread nD τ).loc main_arg1)) (m ((c : Thread nD τ).loc main_arg2)) b f r

/-- The layer's output. -/
def outM (i : S2x3x9x192x4608.Idx) : EReal := (layerM m c).second (columnM m c (i 1) (i 2) (i 4)) (i 3)

/-- The stream after the layer: the first layer's part of the stream handed over, and the layer's output. -/
def streamM (i : S2x3x9x192x4608.Idx) : EReal := if (i 0).val = 1 then outM m c i else m ((c : Thread nD τ).loc main_arg9) i

theorem column_eq (t : Fin cfg0.N) (l : Fin 512) :
    (layerM m c).first (fun i => FloatOps.sitofp (F := Ideal) .f32 (iblk m c 1 t (ix4 0 0 i l))) (fun i => iblk m c 2 t (ix4 0 0 i l))
      = columnM m c (gb t) (gf t) (pos t l) := by
  simp only [iblk1_apply, iblk2_apply]
  rfl

theorem after9 (t : Fin cfg0.N) (d : Fin 192) (l : Fin 512) :
    (dats m 0 c).after 9 t (ix5 0 0 0 d l) = outM m c (ix5 1 (gb t) (gf t) d (pos t l)) := by
  rw [after0_9]
  simp only [outsAt0]
  rw [out9_eq, outPay_eq]
  refine (stream_apply (describes m c t) _ _ d l).trans ?_
  rw [column_eq]
  rfl

theorem entry9 (l : Fin 2) (b : Fin 3) (f : Fin 9) (d : Fin 192) (r : Fin 4608) :
    (dats m 0 c).A 9 (ix5 l b f d r) = m ((c : Thread nD τ).loc main_arg9) (ix5 l b f d r) := by
  rw [A_eq]
  exact entry_stream m c l b f d r

theorem result9 : (dats m 0 c).arrAt 9 cfg0.N = streamM m c := by
  funext i
  refine ((dats m 0 c).arrAt_apply_of_coversWhere 9 (outM m c) (P := fun i => (i (0 : Fin 5)).val = 1) (fun β => β (0 : Fin 5) = 1) (by decide +kernel)
    (fun t hf y => ?_) (fun j => ?_) i).trans ?_
  · have e : (y : S1x1x1x192x512.Idx) = ix5 0 0 0 (y 3) (y 4) := by
      funext a; fin_cases a <;> first | rfl | exact Subsingleton.elim (α := Fin 1) _ _
    refine (congrArg ((dats m 0 c).after 9 t) e).trans ((after9 m c t (y 3) (y 4)).trans ?_)
    blk_ext [idx_facts t] <;> rfl
  · blk_simp [Pipeline.Window.cell_apply]; omega
  · obtain ⟨l, b, f, d, r, rfl⟩ : ∃ l b f d r, i = ix5 l b f d r := ⟨_, _, _, _, _, eq_ix5 i⟩
    exact congrArg (fun e => if l.val = 1 then outM m c (ix5 l b f d r) else e) (entry9 m c l b f d r)

/-- The run: the result holds the stream after the layer, the arguments are unchanged. -/
theorem run_value : θ_run defs (onTc (τ := τ) (main (F := Ideal))) ⟨m, fun _ => 0, ρ⟩ fun r => ∀ c : Dev nD,
      r.2.mem ((c : Thread nD τ).loc main_v45) = streamM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (result9 m c), (h c).2⟩) (Value.run_blocks m ρ)

end Cert.LastIdeal.Hand

end
-- ==== Proof.LastRef.lean ====
module

public import proofs.«01_k».proof.Proof.MlpRef
public import proofs.«01_k».proof.Proof.Gen.LastRefIdeal.Run

@[expose] public section

set_option maxRecDepth 16384

noncomputable section

/-!
The reference of the second layer: its slices of the arguments, and its result as the named steps of a layer.
-/

namespace Cert.LastRefIdeal.Hand

open Cert.LastRefIdeal Cert.LastRefIdeal.Gen Cert.Column
open Cert.MlpRefIdeal.Hand (Gives secondAll scaledR meanR)
open Idealize.ShloMosaic Idealize.ShloMosaic.TcCoe Idealize.SL.Sem
open Idealize.ShloMosaic (ix1 ix2 ix3 ix4 ix5)

/-- One static scale of the layer. -/
def scaleR (k : ℕ) (hk : S6.Slices ![k] S1) (a : Vec Ideal S2x6 .f32) : FVec Ideal S_ .f32 :=
  shapeCast _ (extractStridedSlice S1 ![k] (shapeCast S6 (extractStridedSlice S1x6 ![1, 0] a slices_S2x6_S1x6_1_0) shapeCasts_S1x6_S6) hk) shapeCasts_S1_S_

/-- The codes of attention's output projection. -/
def outW (w : Vec Ideal S2x6x32x192 .i8) : Vec Ideal S192x192 .i8 :=
  shapeCast _ (shapeCast _ (extractStridedSlice S1x6x32x192 ![1, 0, 0, 0] w slices_S2x6x32x192_S1x6x32x192_1_0_0_0) shapeCasts_S1x6x32x192_S6x32x192) shapeCasts_S6x32x192_S192x192

/-- The scales of a layer with 192 outputs. -/
def outS (s : Vec Ideal S2x192 .f32) : FVec Ideal S192 .f32 :=
  shapeCast _ (extractStridedSlice S1x192 ![1, 0] s slices_S2x192_S1x192_1_0) shapeCasts_S1x192_S192

/-- The codes of the first projection. -/
def upW (w : Vec Ideal S2x192x768 .i8) : Vec Ideal S192x768 .i8 :=
  shapeCast _ (extractStridedSlice S1x192x768 ![1, 0, 0] w slices_S2x192x768_S1x192x768_1_0_0) shapeCasts_S1x192x768_S192x768

/-- The scales of the first projection. -/
def upS (s : Vec Ideal S2x768 .f32) : FVec Ideal S768 .f32 :=
  shapeCast _ (extractStridedSlice S1x768 ![1, 0] s slices_S2x768_S1x768_1_0) shapeCasts_S1x768_S768

/-- The codes of the second projection. -/
def downW (w : Vec Ideal S2x768x192 .i8) : Vec Ideal S768x192 .i8 :=
  shapeCast _ (extractStridedSlice S1x768x192 ![1, 0, 0] w slices_S2x768x192_S1x768x192_1_0_0) shapeCasts_S1x768x192_S768x192

/-- The second layer's slices of the arguments give the second layer. -/
theorem layer_gives (A : Vec Ideal S2x6 .f32) (wo : Vec Ideal S2x6x32x192 .i8) (so : Vec Ideal S2x192 .f32) (w1 : Vec Ideal S2x192x768 .i8) (s1 : Vec Ideal S2x768 .f32)
    (w2 : Vec Ideal S2x768x192 .i8) (s2 : Vec Ideal S2x192 .f32) :
    Gives (scaleR 3 slices_S6_S1_3 A) (scaleR 4 slices_S6_S1_4 A) (scaleR 5 slices_S6_S1_5 A) (outW wo) (outS so) (upW w1) (upS s1) (downW w2) (outS s2)
      (layerOf 1 A wo so w1 s1 w2 s2) where
  a4 := by pointwise [scaleR, layerOf]
  a5 := by pointwise [scaleR, layerOf]
  wo o i := by pointwise [outW, layerOf]
  so := by funext o; pointwise [scales, scaleR, outS, layerOf]
  w1 o i := by pointwise [upW, layerOf]
  s1 := by funext o; pointwise [scales, scaleR, upS, layerOf]
  w2 o i := by pointwise [downW, layerOf]
  s2 := by funext o; pointwise [scales, scaleR, outS, layerOf]

/-- The stream in the kernel's layout: the first layer's part of the one handed over, and the second layer's output. -/
def streamR (p : Vec Ideal S2x3x9x192x4608 .f32) (x : FVec Ideal S3x4608x9x192 .f32) : FVec Ideal S2x3x9x192x4608 .f32 :=
  concatenate S2x3x9x192x4608 0 [⟨S1x3x9x192x4608, (broadcastInDim S1x3x9x192x4608 ![1, 2, 3, 4] bcast_S3x9x192x4608_S1x3x9x192x4608_1_2_3_4 (shapeCast S3x9x192x4608 (extractStridedSlice S1x3x9x192x4608 ![0, 0, 0, 0, 0] p slices_S2x3x9x192x4608_S1x3x9x192x4608_0_0_0_0_0) shapeCasts_S1x3x9x192x4608_S3x9x192x4608))⟩, ⟨S1x3x9x192x4608, (broadcastInDim S1x3x9x192x4608 ![1, 2, 3, 4] bcast_S3x9x192x4608_S1x3x9x192x4608_1_2_3_4 (transpose S3x9x192x4608 [0, 2, 3, 1] x transposes_S3x4608x9x192_S3x9x192x4608_0_2_3_1))⟩] concatenates_S1x3x9x192x4608_S1x3x9x192x4608_S2x3x9x192x4608_d0

theorem streamR_first (p : Vec Ideal S2x3x9x192x4608 .f32) (x : FVec Ideal S3x4608x9x192 .f32) (b : Fin 3) (f : Fin 9) (d : Fin 192) (r : Fin 4608) :
    streamR p x (ix5 0 b f d r) = p (ix5 0 b f d r) := by
  pointwise [streamR]

theorem streamR_second (p : Vec Ideal S2x3x9x192x4608 .f32) (x : FVec Ideal S3x4608x9x192 .f32) (b : Fin 3) (f : Fin 9) (d : Fin 192) (r : Fin 4608) :
    streamR p x (ix5 1 b f d r) = x (ix4 b r f d) := by
  pointwise [streamR]

/-- The layer's output. -/
def secondL (A : Vec Ideal S2x6 .f32) (c : Vec Ideal S3x9x192x4608 .i8) (h : Vec Ideal S3x9x192x4608 .f32) (wo : Vec Ideal S2x6x32x192 .i8) (so : Vec Ideal S2x192 .f32) (w1 : Vec Ideal S2x192x768 .i8) (s1 : Vec Ideal S2x768 .f32) (w2 : Vec Ideal S2x768x192 .i8) (s2 : Vec Ideal S2x192 .f32) :=
  secondAll (scaleR 3 slices_S6_S1_3 A) (scaleR 4 slices_S6_S1_4 A) (scaleR 5 slices_S6_S1_5 A) c h (outW wo) (outS so) (upW w1) (upS s1) (downW w2) (outS s2)

theorem res_eq (V0 : Valuation τ sig (Elt Ideal)) : scaledR (Value.res_main_v98 V0) (meanR (mulf (Value.res_main_v98 V0) (Value.res_main_v98 V0)))
    = secondL (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := rfl

variable (m : (ℓ : Loc nD τ sig) → Buf (Elt Ideal) ℓ) (ρ : Dev nD → PrngReg)

/-- The reference's run: its result as a function of the arguments, which are unchanged. -/
theorem run_value : θ_run defs (onTc (τ := τ) (main (F := Ideal))) ⟨m, fun _ => 0, ρ⟩ fun r => ∀ c : Dev nD,
      r.2.mem ((c : Thread nD τ).loc main_v114) = streamR (m ((c : Thread nD τ).loc main_arg9)) (secondL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (congrArg (streamR _) (res_eq _)), (h c).2⟩) (Value.run m ρ)

end Cert.LastRefIdeal.Hand

end
-- ==== Proof.LastEq.lean ====
module

public import proofs.«01_k».proof.Proof.LastArray
public import proofs.«01_k».proof.Proof.LastRef

@[expose] public section

set_option maxRecDepth 16384

noncomputable section

/-!
The second layer's reference and kernel leave the same stream: on the second layer's part both read at a column give the
layer's value of that column, on the first layer's part both are the stream handed over.
-/

namespace Cert.Column

open Cert.LastRefIdeal.Hand
open Cert.MlpRefIdeal.Hand (secondAll_apply)
open Cert.LastIdeal (nD τ sig main_arg0 main_arg1 main_arg2 main_arg3 main_arg4 main_arg5 main_arg6 main_arg7 main_arg8 main_arg9)
open Cert.LastIdeal.Hand (streamM)
open Idealize.ShloMosaic Idealize.ShloMosaic.TcCoe
open Idealize.ShloMosaic (ix2 ix3 ix4 ix5)

variable (m : (ℓ : Loc nD τ sig) → Buf (Elt Ideal) ℓ) (c : Dev nD)

theorem last_eq : streamR (m ((c : Thread nD τ).loc main_arg9)) (secondL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) = streamM m c := by
  funext i
  obtain ⟨l, b, f, d, r, rfl⟩ : ∃ l b f d r, i = ix5 l b f d r := ⟨_, _, _, _, _, eq_ix5 i⟩
  match l with
  | 0 => exact streamR_first _ _ b f d r
  | 1 => exact (streamR_second _ _ b f d r).trans (secondAll_apply (layer_gives (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) b r f d)

end Cert.Column

end
-- ==== Proof.lean ====
/- The proof of the claims about the row attention of the first layer and the mlp of both layers.

   Row attention: the kernel's runs are in Proof/RowRun.lean (over the reals, and at any floats) and
   Proof/RowBitsRun.lean (at the machine's words), what its result holds in Proof/RowArray.lean, what the reference
   computes in Proof/RefSoft.lean, and that the two agree in Proof/RowEq.lean.

   Mlp: the mathematics of one column is in Proof/MlpMath.lean, what a grid point computes in Proof/MlpPay.lean and
   Proof/MlpBlock.lean, what the host hands the kernel in Proof/MlpEntry.lean, what the results hold in
   Proof/MlpArray.lean, what the steps of the reference compute in Proof/MlpRef.lean, what the first layer's reference
   puts into them in Proof/MlpRefLayer.lean, and that the two agree in Proof/MlpEq.lean.

   Mlp of the second layer: the same, from the same lemmas, in Proof/LastBlock.lean, Proof/LastEntry.lean,
   Proof/LastArray.lean, Proof/LastRef.lean and Proof/LastEq.lean. -/
module

public import proofs.«01_k».proof.Defs
public import proofs.«01_k».proof.Proof.Gen.Row
public import proofs.«01_k».proof.Proof.Gen.Row.Skeleton
public import proofs.«01_k».proof.Proof.Gen.Row.Loops
public import proofs.«01_k».proof.Proof.Gen.Row.Launch
public import proofs.«01_k».proof.Proof.Gen.Row.Points
public import proofs.«01_k».proof.Proof.Gen.Row.Frame
public import proofs.«01_k».proof.Proof.Gen.RowIdeal
public import proofs.«01_k».proof.Proof.Gen.RowIdeal.Skeleton
public import proofs.«01_k».proof.Proof.Gen.RowIdeal.Loops
public import proofs.«01_k».proof.Proof.Gen.RowIdeal.Launch
public import proofs.«01_k».proof.Proof.Gen.RowIdeal.Points
public import proofs.«01_k».proof.Proof.Gen.RowIdeal.Frame
public import proofs.«01_k».proof.Proof.Gen.RowRefIdeal
public import proofs.«01_k».proof.Proof.Gen.RowRefIdeal.Run
public import proofs.«01_k».proof.Proof.Gen.Pre_finite_inputs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.On_first_layer
public import proofs.«01_k».proof.Proof.RowBitsRun
public import proofs.«01_k».proof.Proof.RowPre
public import proofs.«01_k».proof.Proof.MlpEq
public import proofs.«01_k».proof.Proof.LastEq
public import Idealize.ShloMosaic.Lib.Quiescent

@[expose] public section

set_option maxRecDepth 16384

noncomputable section

namespace Cert.Proof

open Idealize.ShloMosaic Idealize.ShloMosaic.TcCoe Idealize.SL.Sem

/-- Kernel and reference end with the same array. -/
theorem row_algebraic : Cert.algebraic_RowIdeal_RowRefIdeal_pre_finite_inputs (hRowIdeal := Cert.RowIdeal.Gen.facts)
    (hRowRefIdeal := Cert.RowRefIdeal.Gen.facts) (hPre_finite_inputs := Cert.Pre_finite_inputs.Gen.facts) := by
  intro m g m' g' hpre hargs
  have hfin := Cert.Attention.finite_of_pre m hpre
  refine ⟨fun c => Cert.RowIdeal.Hand.codesM m c, Cert.RowIdeal.Hand.run_value m g hfin, ?_⟩
  refine (θ_run _ _ _).mono (fun r h c => ?_) (Cert.RowRefIdeal.Value.run m' g')
  obtain ⟨hr, hrest⟩ := h c
  refine ⟨hr.trans ((Cert.RowRefIdeal.Hand.result_steps m' c).trans ?_), hrest⟩
  obtain ⟨h0, h1, h2, h3, h4, h5⟩ := hargs c
  rw [h0, h1, h2, h3, h4, h5]
  exact Cert.Attention.reference_eq _ _ _ _ _ _ (hfin c).1 (hfin c).2

/-- The reference leaves its arguments as they were; it has no semaphore. -/
theorem row_reference_frame (m : (ℓ : Loc Cert.RowRefIdeal.nD Cert.RowRefIdeal.τ Cert.RowRefIdeal.sig) → Buf (Elt Ideal) ℓ) (g : Dev Cert.RowRefIdeal.nD → PrngReg) :
    θ_run (Cert.RowRefIdeal.defs (F := Ideal)) (onTc (τ := Cert.RowRefIdeal.τ) (Cert.RowRefIdeal.main (F := Ideal))) ⟨m, fun _ => 0, g⟩ (fun r => (∀ c : Dev Cert.RowRefIdeal.nD,
      r.2.mem ((c.tc : Thread Cert.RowRefIdeal.nD Cert.RowRefIdeal.τ).loc Cert.RowRefIdeal.main_arg0) = m ((c.tc : Thread Cert.RowRefIdeal.nD Cert.RowRefIdeal.τ).loc Cert.RowRefIdeal.main_arg0)
      ∧ r.2.mem ((c.tc : Thread Cert.RowRefIdeal.nD Cert.RowRefIdeal.τ).loc Cert.RowRefIdeal.main_arg1) = m ((c.tc : Thread Cert.RowRefIdeal.nD Cert.RowRefIdeal.τ).loc Cert.RowRefIdeal.main_arg1)
      ∧ r.2.mem ((c.tc : Thread Cert.RowRefIdeal.nD Cert.RowRefIdeal.τ).loc Cert.RowRefIdeal.main_arg2) = m ((c.tc : Thread Cert.RowRefIdeal.nD Cert.RowRefIdeal.τ).loc Cert.RowRefIdeal.main_arg2)
      ∧ r.2.mem ((c.tc : Thread Cert.RowRefIdeal.nD Cert.RowRefIdeal.τ).loc Cert.RowRefIdeal.main_arg3) = m ((c.tc : Thread Cert.RowRefIdeal.nD Cert.RowRefIdeal.τ).loc Cert.RowRefIdeal.main_arg3)
      ∧ r.2.mem ((c.tc : Thread Cert.RowRefIdeal.nD Cert.RowRefIdeal.τ).loc Cert.RowRefIdeal.main_arg4) = m ((c.tc : Thread Cert.RowRefIdeal.nD Cert.RowRefIdeal.τ).loc Cert.RowRefIdeal.main_arg4)
      ∧ r.2.mem ((c.tc : Thread Cert.RowRefIdeal.nD Cert.RowRefIdeal.τ).loc Cert.RowRefIdeal.main_arg5) = m ((c.tc : Thread Cert.RowRefIdeal.nD Cert.RowRefIdeal.τ).loc Cert.RowRefIdeal.main_arg5))
      ∧ r.2.sem = fun _ => 0) :=
  (θ_run _ _ _).mono (fun r h => ⟨fun c => (h c).2, sem_eq_zero_of_no_sems rfl r.2⟩) (Cert.RowRefIdeal.Value.run m g)

/-- Kernel and reference end with the same two arrays of codes and, on the first layer's part, the same stream. -/
theorem mlp_algebraic : Cert.algebraic_MlpIdeal_MlpRefIdeal_on_first_layer (hMlpIdeal := Cert.MlpIdeal.Gen.facts)
    (hMlpRefIdeal := Cert.MlpRefIdeal.Gen.facts) (hOn_first_layer := Cert.On_first_layer.Gen.facts) := by
  intro m g m' g' _ hargs
  refine ⟨fun c => Cert.MlpIdeal.Hand.streamM m c, fun c => Cert.MlpIdeal.Hand.codes4M m c, fun c => Cert.MlpIdeal.Hand.codes5M m c, ?_, ?_⟩
  · refine (θ_run _ _ _).mono (fun r h c => ?_) (Cert.MlpIdeal.Hand.run_value m g)
    obtain ⟨h1, h4, h5, hrest⟩ := h c
    exact ⟨fun i hi => h1 i (Cert.On_first_layer.first_of_mask _ _ _ _ _ _ _ _ _ i hi), fun i _ => congrFun h4 i, fun i _ => congrFun h5 i, hrest⟩
  · refine (θ_run _ _ _).mono (fun r h c => ?_) (Cert.MlpRefIdeal.Hand.run_value m' g')
    obtain ⟨h1, h4, h5, hrest⟩ := h c
    obtain ⟨a0, a1, a2, a3, a4, a5, a6, a7, a8⟩ := hargs c
    rw [a0, a1, a2, a3, a4, a5, a6, a7, a8] at h1
    rw [a0, a1, a2, a3, a4] at h4
    rw [a0, a1, a2, a3, a4, a5, a6] at h5
    exact ⟨fun i hi => (congrFun h1 i).trans (Cert.Column.stream_eq m c i (Cert.On_first_layer.first_of_mask _ _ _ _ _ _ _ _ _ i hi)),
      fun i _ => (congrFun h4 i).trans (congrFun (Cert.Column.codes4_eq m c) i),
      fun i _ => (congrFun h5 i).trans (congrFun (Cert.Column.codes5_eq m c) i), hrest⟩

/-- The reference leaves its arguments as they were; it has no semaphore. -/
theorem mlp_reference_frame (m : (ℓ : Loc Cert.MlpRefIdeal.nD Cert.MlpRefIdeal.τ Cert.MlpRefIdeal.sig) → Buf (Elt Ideal) ℓ) (g : Dev Cert.MlpRefIdeal.nD → PrngReg) :
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0) :=
  (θ_run _ _ _).mono (fun r h => ⟨fun c => (h c).2.2.2, sem_eq_zero_of_no_sems rfl r.2⟩) (Cert.MlpRefIdeal.Value.run m g)

/-- Kernel and reference end with the same stream. -/
theorem last_algebraic : Cert.algebraic_LastIdeal_LastRefIdeal (hLastIdeal := Cert.LastIdeal.Gen.facts)
    (hLastRefIdeal := Cert.LastRefIdeal.Gen.facts) := by
  intro m g m' g' _ hargs
  refine ⟨fun c => Cert.LastIdeal.Hand.streamM m c, Cert.LastIdeal.Hand.run_value m g, ?_⟩
  refine (θ_run _ _ _).mono (fun r h c => ?_) (Cert.LastRefIdeal.Hand.run_value m' g')
  obtain ⟨hr, hrest⟩ := h c
  obtain ⟨a0, a1, a2, a3, a4, a5, a6, a7, a8, a9⟩ := hargs c
  rw [a0, a1, a2, a3, a4, a5, a6, a7, a8, a9] at hr
  exact ⟨hr.trans (Cert.Column.last_eq m c), hrest⟩

/-- The reference leaves its arguments as they were; it has no semaphore. -/
theorem last_reference_frame (m : (ℓ : Loc Cert.LastRefIdeal.nD Cert.LastRefIdeal.τ Cert.LastRefIdeal.sig) → Buf (Elt Ideal) ℓ) (g : Dev Cert.LastRefIdeal.nD → PrngReg) :
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9))
      ∧ r.2.sem = fun _ => 0) :=
  (θ_run _ _ _).mono (fun r h => ⟨fun c => (h c).2, sem_eq_zero_of_no_sems rfl r.2⟩) (Cert.LastRefIdeal.Value.run m g)

theorem claim : Cert.Claim := ⟨Cert.Row.Gen.facts, Cert.RowIdeal.Gen.facts, Cert.RowRefIdeal.Gen.facts, Cert.Mlp.Gen.facts, Cert.MlpIdeal.Gen.facts,
  Cert.MlpRefIdeal.Gen.facts, Cert.Last.Gen.facts, Cert.LastIdeal.Gen.facts, Cert.LastRefIdeal.Gen.facts, Cert.Pre_finite_inputs.Gen.facts, Cert.On_first_layer.Gen.facts,
  fun m g _ => Cert.Row.Hand.frame m g,
  fun m g _ => Cert.RowIdeal.Hand.frame m g,
  fun m g _ => Cert.RowIdeal.Hand.frame m g,
  fun m g _ => row_reference_frame m g,
  fun m g _ => row_reference_frame m g,
  fun m g _ => Cert.Mlp.Gen.frame m g,
  fun m g _ => Cert.MlpIdeal.Gen.frame m g,
  fun m g _ => mlp_reference_frame m g,
  fun m g _ => Cert.Last.Gen.frame m g,
  fun m g _ => Cert.LastIdeal.Gen.frame m g,
  fun m g _ => last_reference_frame m g,
  trivial,
  row_algebraic,
  trivial,
  mlp_algebraic,
  trivial,
  last_algebraic⟩

end Cert.Proof

end
